-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v91) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v82) = v2 c
          ∧ r.2.mem ((c.tc : Thread Cert.Reference6Ideal.nD Cert.Reference6Ideal.τ).loc Cert.Reference6Ideal.main_v92) = v3 c
          ∧ r.2.mem ((c.tc : Thread Cert.Reference6Ideal.nD Cert.Reference6Ideal.τ).loc Cert.Reference6Ideal.main_v89) = v4 c
          ∧ r.2.mem ((c.tc : Thread Cert.Reference6Ideal.nD Cert.Reference6Ideal.τ).loc Cert.Reference6Ideal.main_v93) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2048x1024 : Shape := ⟨2, ![2048, 1024]⟩
abbrev S2048x2560 : Shape := ⟨2, ![2048, 2560]⟩
abbrev S2048x512 : Shape := ⟨2, ![2048, 512]⟩
abbrev S2048x3072 : Shape := ⟨2, ![2048, 3072]⟩
abbrev S8x1024 : Shape := ⟨2, ![8, 1024]⟩
abbrev S1x1024 : Shape := ⟨2, ![1, 1024]⟩
abbrev S8x512 : Shape := ⟨2, ![8, 512]⟩
abbrev S1x512 : Shape := ⟨2, ![1, 512]⟩
abbrev S512x512 : Shape := ⟨2, ![512, 512]⟩
abbrev S8x448x1024 : Shape := ⟨3, ![8, 448, 1024]⟩
abbrev S16x1024 : Shape := ⟨2, ![16, 1024]⟩
abbrev S2560x2048 : Shape := ⟨2, ![2560, 2048]⟩
abbrev S1024x2048 : Shape := ⟨2, ![1024, 2048]⟩
abbrev S512x2048 : Shape := ⟨2, ![512, 2048]⟩
abbrev S256x1024 : Shape := ⟨2, ![256, 1024]⟩
abbrev S256x2560 : Shape := ⟨2, ![256, 2560]⟩
abbrev S8x2560 : Shape := ⟨2, ![8, 2560]⟩
abbrev S256x512 : Shape := ⟨2, ![256, 512]⟩
abbrev S256x3072 : Shape := ⟨2, ![256, 3072]⟩
abbrev S2560x256 : Shape := ⟨2, ![2560, 256]⟩
abbrev S1024x256 : Shape := ⟨2, ![1024, 256]⟩
abbrev S512x256 : Shape := ⟨2, ![512, 256]⟩
abbrev S2560x1024 : Shape := ⟨2, ![2560, 1024]⟩
abbrev S1024x1024 : Shape := ⟨2, ![1024, 1024]⟩
abbrev S2 : Shape := ⟨1, ![2]⟩
abbrev S264x512 : Shape := ⟨2, ![264, 512]⟩
abbrev S1 : Shape := ⟨1, ![1]⟩
abbrev S_ : Shape := ⟨0, ![]⟩
abbrev S320x1024 : Shape := ⟨2, ![320, 1024]⟩
abbrev S1x320x1024 : Shape := ⟨3, ![1, 320, 1024]⟩
abbrev S128x1024 : Shape := ⟨2, ![128, 1024]⟩
abbrev S1x128x1024 : Shape := ⟨3, ![1, 128, 1024]⟩
abbrev S256 : Shape := ⟨1, ![256]⟩
abbrev S256x1 : Shape := ⟨2, ![256, 1]⟩
abbrev S1024 : Shape := ⟨1, ![1024]⟩
abbrev S512x1024 : Shape := ⟨2, ![512, 1024]⟩
abbrev S512 : Shape := ⟨1, ![512]⟩

abbrev nBuf : Space → Nat
  | .hbm => 31
  | .vmem => 60
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x2560, .f32⟩
  | .hbm, ⟨5, _⟩ => ⟨S2048x512, .f32⟩
  | .hbm, ⟨6, _⟩ => ⟨S2048x3072, .f32⟩
  | .hbm, ⟨7, _⟩ => ⟨S8x1024, .f32⟩
  | .hbm, ⟨8, _⟩ => ⟨S8x1024, .f32⟩
  | .hbm, ⟨9, _⟩ => ⟨S1x1024, .f32⟩
  | .hbm, ⟨10, _⟩ => ⟨S1x1024, .f32⟩
  | .hbm, ⟨11, _⟩ => ⟨S8x512, .f32⟩
  | .hbm, ⟨12, _⟩ => ⟨S1x512, .f32⟩
  | .hbm, ⟨13, _⟩ => ⟨S512x512, .bf16⟩
  | .hbm, ⟨14, _⟩ => ⟨S512x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x512, .f32⟩
  | .hbm, ⟨19, _⟩ => ⟨S1x512, .f32⟩
  | .hbm, ⟨20, _⟩ => ⟨S1x512, .f32⟩
  | .hbm, ⟨21, _⟩ => ⟨S512x512, .bf16⟩
  | .hbm, ⟨22, _⟩ => ⟨S8x448x1024, .bf16⟩
  | .hbm, ⟨23, _⟩ => ⟨S2048x1024, .f32⟩
  | .hbm, ⟨24, _⟩ => ⟨S16x1024, .f32⟩
  | .hbm, ⟨25, _⟩ => ⟨S2048x1024, .bf16⟩
  | .hbm, ⟨26, _⟩ => ⟨S2560x2048, .bf16⟩
  | .hbm, ⟨27, _⟩ => ⟨S2048x1024, .bf16⟩
  | .hbm, ⟨28, _⟩ => ⟨S1024x2048, .bf16⟩
  | .hbm, ⟨29, _⟩ => ⟨S512x2048, .bf16⟩
  | .hbm, ⟨30, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2560, .f32⟩
  | .local _ .vmem, ⟨9, _⟩ => ⟨S256x2560, .f32⟩
  | .local _ .vmem, ⟨10, _⟩ => ⟨S8x2560, .f32⟩
  | .local _ .vmem, ⟨11, _⟩ => ⟨S8x2560, .f32⟩
  | .local _ .vmem, ⟨12, _⟩ => ⟨S256x512, .f32⟩
  | .local _ .vmem, ⟨13, _⟩ => ⟨S256x512, .f32⟩
  | .local _ .vmem, ⟨14, _⟩ => ⟨S8x512, .f32⟩
  | .local _ .vmem, ⟨15, _⟩ => ⟨S8x512, .f32⟩
  | .local _ .vmem, ⟨16, _⟩ => ⟨S256x3072, .f32⟩
  | .local _ .vmem, ⟨17, _⟩ => ⟨S256x3072, .f32⟩
  | .local _ .vmem, ⟨18, _⟩ => ⟨S8x1024, .f32⟩
  | .local _ .vmem, ⟨19, _⟩ => ⟨S8x1024, .f32⟩
  | .local _ .vmem, ⟨20, _⟩ => ⟨S1x1024, .f32⟩
  | .local _ .vmem, ⟨21, _⟩ => ⟨S1x1024, .f32⟩
  | .local _ .vmem, ⟨22, _⟩ => ⟨S8x512, .f32⟩
  | .local _ .vmem, ⟨23, _⟩ => ⟨S1x512, .f32⟩
  | .local _ .vmem, ⟨24, _⟩ => ⟨S512x512, .bf16⟩
  | .local _ .vmem, ⟨25, _⟩ => ⟨S512x512, .bf16⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S512x512, .bf16⟩
  | .local _ .vmem, ⟨33, _⟩ => ⟨S256x1024, .f32⟩
  | .local _ .vmem, ⟨34, _⟩ => ⟨S256x1024, .f32⟩
  | .local _ .vmem, ⟨35, _⟩ => ⟨S16x1024, .f32⟩
  | .local _ .vmem, ⟨36, _⟩ => ⟨S256x1024, .bf16⟩
  | .local _ .vmem, ⟨37, _⟩ => ⟨S256x1024, .bf16⟩
  | .local _ .vmem, ⟨38, _⟩ => ⟨S2560x256, .bf16⟩
  | .local _ .vmem, ⟨39, _⟩ => ⟨S2560x256, .bf16⟩
  | .local _ .vmem, ⟨40, _⟩ => ⟨S256x1024, .bf16⟩
  | .local _ .vmem, ⟨41, _⟩ => ⟨S256x1024, .bf16⟩
  | .local _ .vmem, ⟨42, _⟩ => ⟨S1024x256, .bf16⟩
  | .local _ .vmem, ⟨43, _⟩ => ⟨S1024x256, .bf16⟩
  | .local _ .vmem, ⟨44, _⟩ => ⟨S512x256, .bf16⟩
  | .local _ .vmem, ⟨45, _⟩ => ⟨S512x256, .bf16⟩
  | .local _ .vmem, ⟨46, _⟩ => ⟨S256x1024, .bf16⟩
  | .local _ .vmem, ⟨47, _⟩ => ⟨S256x1024, .bf16⟩
  | .local _ .vmem, ⟨48, _⟩ => ⟨S2560x1024, .bf16⟩
  | .local _ .vmem, ⟨49, _⟩ => ⟨S1024x1024, .bf16⟩
  | .local _ .vmem, ⟨50, _⟩ => ⟨S264x512, .f32⟩
  | .local _ .vmem, ⟨51, _⟩ => ⟨S264x512, .f32⟩
  | .local _ .vmem, ⟨52, _⟩ => ⟨S264x512, .f32⟩
  | .local _ .vmem, ⟨53, _⟩ => ⟨S264x512, .f32⟩
  | .local _ .vmem, ⟨54, _⟩ => ⟨S264x512, .f32⟩
  | .local _ .vmem, ⟨55, _⟩ => ⟨S264x512, .f32⟩
  | .local _ .vmem, ⟨56, _⟩ => ⟨S8x512, .f32⟩
  | .local _ .vmem, ⟨57, _⟩ => ⟨S256x512, .f32⟩
  | .local _ .vmem, ⟨58, _⟩ => ⟨S256x512, .f32⟩
  | .local _ .vmem, ⟨59, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_v0_4 : Ref sig .tc := ⟨.hbm, 27, rfl⟩
abbrev main_v0_5 : Ref sig .tc := ⟨.hbm, 28, rfl⟩
abbrev main_v0_6 : Ref sig .tc := ⟨.hbm, 29, rfl⟩
abbrev main_v0_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_stg31_0 : Ref sig .tc := ⟨.vmem, 46, rfl⟩
abbrev cc0_stg31_1 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_scratch10 : Ref sig .tc := ⟨.vmem, 57, rfl⟩
abbrev cc0_scratch11 : Ref sig .tc := ⟨.vmem, 58, rfl⟩
abbrev cc0_scratch12 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem24_1 : DmaSem sig := 34
abbrev cc0_sem25_0 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_144 : BitVec 32 := 0#32
  let c32_i32 : BitVec 32 := 32#32
  let v298 : BitVec 32 := Scalar.addi c0_i32_144 c32_i32
  let c1_i32 : BitVec 32 := 1#32
  ⟨c0_i32_144, v298, c1_i32⟩
def k0_mult1 (k0_t1 : Fin k0_t1_loop.trips) : BitVec 32 :=
  let c31_i32 : BitVec 32 := 31#32
  let c0_i32_144 : BitVec 32 := 0#32
  let c1_i32 : BitVec 32 := 1#32
  let arg47 : BitVec 32 := Scf.iv c0_i32_144 c1_i32 k0_t1
  let v552 : BitVec 32 := Scalar.subi c31_i32 arg47
  let c8_i32 : BitVec 32 := 8#32
  let v553 : BitVec 32 := Scalar.muli v552 c8_i32
  v553
def k0_off1 (k0_t1 : Fin k0_t1_loop.trips) : Fin 2 → Nat :=
  let c31_i32 : BitVec 32 := 31#32
  let c0_i32_144 : BitVec 32 := 0#32
  let c1_i32 : BitVec 32 := 1#32
  let arg47 : BitVec 32 := Scf.iv c0_i32_144 c1_i32 k0_t1
  let v552 : BitVec 32 := Scalar.subi c31_i32 arg47
  let c8_i32 : BitVec 32 := 8#32
  let v553 : BitVec 32 := Scalar.muli v552 c8_i32
  let v554 : BitVec 32 := v553
  let v555 : Index := Scalar.indexCast v554
  let c0_297 : Index := 0#32
  ![v555.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_29 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_31 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_32 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S16x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2560x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1024x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== Kernel2.lean ====
abbrev S2048x1024 : Shape := ⟨2, ![2048, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S_ : Shape := ⟨0, ![]⟩
abbrev S2 : Shape := ⟨1, ![2]⟩
abbrev S1024x2048 : Shape := ⟨2, ![1024, 2048]⟩
abbrev S2048x4096 : Shape := ⟨2, ![2048, 4096]⟩
abbrev S4x1024x512 : Shape := ⟨3, ![4, 1024, 512]⟩
abbrev S4x512x1024 : Shape := ⟨3, ![4, 512, 1024]⟩
abbrev S1024x512 : Shape := ⟨2, ![1024, 512]⟩
abbrev S512x512 : Shape := ⟨2, ![512, 512]⟩
abbrev S1 : Shape := ⟨1, ![1]⟩
abbrev S512x1024 : Shape := ⟨2, ![512, 1024]⟩
abbrev S1x512x1024 : Shape := ⟨3, ![1, 512, 1024]⟩
abbrev S1x1024x512 : Shape := ⟨3, ![1, 1024, 512]⟩

abbrev nBuf : Space → Nat
  | .hbm => 17
  | .vmem => 15
  | .smem => 1
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S4096x1024, .f32⟩
  | .hbm, ⟨5, _⟩ => ⟨S8x512x1024, .f32⟩
  | .hbm, ⟨6, _⟩ => ⟨S8x512x1024, .f32⟩
  | .hbm, ⟨7, _⟩ => ⟨S8x1024x1024, .f32⟩
  | .hbm, ⟨8, _⟩ => ⟨S8x1024x1024, .bf16⟩
  | .hbm, ⟨9, _⟩ => ⟨S_, .i32⟩
  | .hbm, ⟨10, _⟩ => ⟨S1024x2048, .f32⟩
  | .hbm, ⟨11, _⟩ => ⟨S1024x2048, .bf16⟩
  | .hbm, ⟨12, _⟩ => ⟨S2048x4096, .f32⟩
  | .hbm, ⟨13, _⟩ => ⟨S2048x1024, .bf16⟩
  | .hbm, ⟨14, _⟩ => ⟨S2048x1024, .f32⟩
  | .hbm, ⟨15, _⟩ => ⟨S4x1024x512, .f32⟩
  | .hbm, ⟨16, _⟩ => ⟨S4x512x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S2048x1024, .f32⟩
  | .local _ .vmem, ⟨11, _⟩ => ⟨S1x1024x512, .f32⟩
  | .local _ .vmem, ⟨12, _⟩ => ⟨S1x1024x512, .f32⟩
  | .local _ .vmem, ⟨13, _⟩ => ⟨S1x512x1024, .f32⟩
  | .local _ .vmem, ⟨14, _⟩ => ⟨S1x512x1024, .f32⟩
  | .local _ .smem, ⟨0, _⟩ => ⟨S2, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond3 (i : grid0.Coords) : BitVec 1 :=
  let arg0 : BitVec 32 := BitVec.ofNat 32 (i 0).val
  let c0_i32_19 : BitVec 32 := 0#32
  let v30 : BitVec 1 := Scalar.cmpi .eq arg0 c0_i32_19
  let v31 : BitVec 32 := Scalar.extui v30
  let c0_i32_20 : BitVec 32 := 0#32
  let v32 : BitVec 1 := Scalar.cmpi .ne v31 c0_i32_20
  v32

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond4 (i : grid0.Coords) : BitVec 1 :=
  let arg0 : BitVec 32 := BitVec.ofNat 32 (i 0).val
  let c0_i32_21 : BitVec 32 := 0#32
  let v33 : BitVec 1 := Scalar.cmpi .ne arg0 c0_i32_21
  let v34 : BitVec 32 := Scalar.extui v33
  let c0_i32_22 : BitVec 32 := 0#32
  let v35 : BitVec 1 := Scalar.cmpi .ne v34 c0_i32_22
  v35

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_16 : BitVec 32 := 0#32
  let v26 : BitVec 1 := Scalar.cmpi .ne v25 c0_i32_16
  v26

def k0_cond2 (i : grid0.Coords) : BitVec 1 :=
  let arg1 : BitVec 32 := BitVec.ofNat 32 (i 1).val
  let c0_i32_17 : BitVec 32 := 0#32
  let v27 : BitVec 1 := Scalar.cmpi .ne arg1 c0_i32_17
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c0_i32 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c1_i32 : BitVec 32 := 1#32
  let v2 : BitVec 32 := Scalar.xori v1 c1_i32
  let v3 : BitVec 32 := Scalar.addi v0 v2
  let c1_i32_0 : BitVec 32 := 1#32
  let c0_i32 : BitVec 32 := 0#32
  let c0_i32_1 : BitVec 32 := 0#32
  ![v3.toNat, c1_i32_0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2048x1024 : Shape := ⟨2, ![2048, 1024]⟩
abbrev S1024x4096 : Shape := ⟨2, ![1024, 4096]⟩
abbrev S4096x1024 : Shape := ⟨2, ![4096, 1024]⟩
abbrev S1024x4x2x512 : Shape := ⟨4, ![1024, 4, 2, 512]⟩
abbrev S1024x4x1x512 : Shape := ⟨4, ![1024, 4, 1, 512]⟩
abbrev S1024x4x512 : Shape := ⟨3, ![1024, 4, 512]⟩
abbrev S1024x2048 : Shape := ⟨2, ![1024, 2048]⟩
abbrev S2048x2048 : Shape := ⟨2, ![2048, 2048]⟩
abbrev S_ : Shape := ⟨0, ![]⟩
abbrev S4x1024x512 : Shape := ⟨3, ![4, 1024, 512]⟩
abbrev S4x512x1024 : Shape := ⟨3, ![4, 512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S1024x4x2x512, .f32⟩
  | .hbm, ⟨5, _⟩ => ⟨S1024x4x1x512, .f32⟩
  | .hbm, ⟨6, _⟩ => ⟨S1024x4x512, .f32⟩
  | .hbm, ⟨7, _⟩ => ⟨S1024x2048, .f32⟩
  | .hbm, ⟨8, _⟩ => ⟨S1024x4096, .f32⟩
  | .hbm, ⟨9, _⟩ => ⟨S1024x4x2x512, .f32⟩
  | .hbm, ⟨10, _⟩ => ⟨S1024x4x1x512, .f32⟩
  | .hbm, ⟨11, _⟩ => ⟨S1024x4x512, .f32⟩
  | .hbm, ⟨12, _⟩ => ⟨S1024x2048, .f32⟩
  | .hbm, ⟨13, _⟩ => ⟨S2048x1024, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .i1⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x1024, .f32⟩
  | .hbm, ⟨28, _⟩ => ⟨S1024x2048, .f32⟩
  | .hbm, ⟨29, _⟩ => ⟨S2048x1024, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x1024, .f32⟩
  | .hbm, ⟨36, _⟩ => ⟨S1024x2048, .f32⟩
  | .hbm, ⟨37, _⟩ => ⟨S2048x1024, .f32⟩
  | .hbm, ⟨38, _⟩ => ⟨S1024x4x512, .f32⟩
  | .hbm, ⟨39, _⟩ => ⟨S4x1024x512, .f32⟩
  | .hbm, ⟨40, _⟩ => ⟨S4x512x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel3.lean ====
abbrev S2048x1024 : Shape := ⟨2, ![2048, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S_ : Shape := ⟨0, ![]⟩
abbrev S2 : Shape := ⟨1, ![2]⟩
abbrev S1024x2048 : Shape := ⟨2, ![1024, 2048]⟩
abbrev S2048x4096 : Shape := ⟨2, ![2048, 4096]⟩
abbrev S8x128 : Shape := ⟨2, ![8, 128]⟩
abbrev S4x1024x512 : Shape := ⟨3, ![4, 1024, 512]⟩
abbrev S4x512x1024 : Shape := ⟨3, ![4, 512, 1024]⟩
abbrev S1024x512 : Shape := ⟨2, ![1024, 512]⟩
abbrev S512x512 : Shape := ⟨2, ![512, 512]⟩
abbrev S1 : Shape := ⟨1, ![1]⟩
abbrev S512x1024 : Shape := ⟨2, ![512, 1024]⟩
abbrev S1x512x1024 : Shape := ⟨3, ![1, 512, 1024]⟩
abbrev S1x1024x512 : Shape := ⟨3, ![1, 1024, 512]⟩

abbrev nBuf : Space → Nat
  | .hbm => 20
  | .vmem => 18
  | .smem => 1
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S4096x1024, .f32⟩
  | .hbm, ⟨6, _⟩ => ⟨S8x512x1024, .f32⟩
  | .hbm, ⟨7, _⟩ => ⟨S8x512x1024, .f32⟩
  | .hbm, ⟨8, _⟩ => ⟨S8x1024x1024, .f32⟩
  | .hbm, ⟨9, _⟩ => ⟨S8x1024x1024, .bf16⟩
  | .hbm, ⟨10, _⟩ => ⟨S_, .i32⟩
  | .hbm, ⟨11, _⟩ => ⟨S1024x2048, .f32⟩
  | .hbm, ⟨12, _⟩ => ⟨S1024x2048, .bf16⟩
  | .hbm, ⟨13, _⟩ => ⟨S2048x4096, .f32⟩
  | .hbm, ⟨14, _⟩ => ⟨S2048x1024, .bf16⟩
  | .hbm, ⟨15, _⟩ => ⟨S_, .f32⟩
  | .hbm, ⟨16, _⟩ => ⟨S8x128, .f32⟩
  | .hbm, ⟨17, _⟩ => ⟨S2048x1024, .f32⟩
  | .hbm, ⟨18, _⟩ => ⟨S4x1024x512, .f32⟩
  | .hbm, ⟨19, _⟩ => ⟨S4x512x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S2048x1024, .f32⟩
  | .local _ .vmem, ⟨14, _⟩ => ⟨S1x1024x512, .f32⟩
  | .local _ .vmem, ⟨15, _⟩ => ⟨S1x1024x512, .f32⟩
  | .local _ .vmem, ⟨16, _⟩ => ⟨S1x512x1024, .f32⟩
  | .local _ .vmem, ⟨17, _⟩ => ⟨S1x512x1024, .f32⟩
  | .local _ .smem, ⟨0, _⟩ => ⟨S2, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond3 (i : grid0.Coords) : BitVec 1 :=
  let arg0 : BitVec 32 := BitVec.ofNat 32 (i 0).val
  let c0_i32_19 : BitVec 32 := 0#32
  let v30 : BitVec 1 := Scalar.cmpi .eq arg0 c0_i32_19
  let v31 : BitVec 32 := Scalar.extui v30
  let c0_i32_20 : BitVec 32 := 0#32
  let v32 : BitVec 1 := Scalar.cmpi .ne v31 c0_i32_20
  v32

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_25 : Index := 0#32
  ![v38.toNat, 0]
def k0_cond4 (i : grid0.Coords) : BitVec 1 :=
  let arg0 : BitVec 32 := BitVec.ofNat 32 (i 0).val
  let c0_i32_21 : BitVec 32 := 0#32
  let v33 : BitVec 1 := Scalar.cmpi .ne arg0 c0_i32_21
  let v34 : BitVec 32 := Scalar.extui v33
  let c0_i32_22 : BitVec 32 := 0#32
  let v35 : BitVec 1 := Scalar.cmpi .ne v34 c0_i32_22
  v35

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  let c0_23 : Index := 0#32
  ![v36.toNat, 0]
def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_16 : BitVec 32 := 0#32
  let v26 : BitVec 1 := Scalar.cmpi .ne v25 c0_i32_16
  v26

def k0_cond2 (i : grid0.Coords) : BitVec 1 :=
  let arg1 : BitVec 32 := BitVec.ofNat 32 (i 1).val
  let c0_i32_17 : BitVec 32 := 0#32
  let v27 : BitVec 1 := Scalar.cmpi .ne arg1 c0_i32_17
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c0_i32_0 : BitVec 32 := 0#32
  let c0_i32_1 : BitVec 32 := 0#32
  let c0_i32_2 : BitVec 32 := 0#32
  ![v3.toNat, c0_i32_0.toNat, c0_i32_1.toNat]

def cc0_transform_4 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S2) ![0] S1.size inb_S2_S1_0) numel1_S1
  let c0_i32 : BitVec 32 := 0#32
  let v2 : BitVec 32 := Scalar.xori v1 c0_i32
  let v3 : BitVec 32 := Scalar.addi v0 v2
  let c1_i32 : BitVec 32 := 1#32
  let c0_i32_0 : BitVec 32 := 0#32
  let c0_i32_1 : BitVec 32 := 0#32
  ![v3.toNat, c1_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S2048x1024 : Shape := ⟨2, ![2048, 1024]⟩
abbrev S1024x4096 : Shape := ⟨2, ![1024, 4096]⟩
abbrev S4096x1024 : Shape := ⟨2, ![4096, 1024]⟩
abbrev S1024x4x2x512 : Shape := ⟨4, ![1024, 4, 2, 512]⟩
abbrev S1024x4x1x512 : Shape := ⟨4, ![1024, 4, 1, 512]⟩
abbrev S1024x4x512 : Shape := ⟨3, ![1024, 4, 512]⟩
abbrev S1024x2048 : Shape := ⟨2, ![1024, 2048]⟩
abbrev S2048x2048 : Shape := ⟨2, ![2048, 2048]⟩
abbrev S_ : Shape := ⟨0, ![]⟩
abbrev S4x1024x512 : Shape := ⟨3, ![4, 1024, 512]⟩
abbrev S4x512x1024 : Shape := ⟨3, ![4, 512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S1024x4x2x512, .f32⟩
  | .hbm, ⟨6, _⟩ => ⟨S1024x4x1x512, .f32⟩
  | .hbm, ⟨7, _⟩ => ⟨S1024x4x512, .f32⟩
  | .hbm, ⟨8, _⟩ => ⟨S1024x2048, .f32⟩
  | .hbm, ⟨9, _⟩ => ⟨S1024x4096, .f32⟩
  | .hbm, ⟨10, _⟩ => ⟨S1024x4x2x512, .f32⟩
  | .hbm, ⟨11, _⟩ => ⟨S1024x4x1x512, .f32⟩
  | .hbm, ⟨12, _⟩ => ⟨S1024x4x512, .f32⟩
  | .hbm, ⟨13, _⟩ => ⟨S1024x2048, .f32⟩
  | .hbm, ⟨14, _⟩ => ⟨S2048x1024, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .i1⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x1024, .f32⟩
  | .hbm, ⟨29, _⟩ => ⟨S1024x2048, .f32⟩
  | .hbm, ⟨30, _⟩ => ⟨S2048x1024, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x1024, .f32⟩
  | .hbm, ⟨37, _⟩ => ⟨S1024x2048, .f32⟩
  | .hbm, ⟨38, _⟩ => ⟨S2048x1024, .f32⟩
  | .hbm, ⟨39, _⟩ => ⟨S2048x1024, .f32⟩
  | .hbm, ⟨40, _⟩ => ⟨S1024x4x512, .f32⟩
  | .hbm, ⟨41, _⟩ => ⟨S4x1024x512, .f32⟩
  | .hbm, ⟨42, _⟩ => ⟨S4x512x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S2560x2048 : Shape := ⟨2, ![2560, 2048]⟩
abbrev S2048x1024 : Shape := ⟨2, ![2048, 1024]⟩
abbrev S2560x1024 : Shape := ⟨2, ![2560, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2560x2048, .bf16⟩
  | .hbm, ⟨1, _⟩ => ⟨S2048x1024, .bf16⟩
  | .hbm, ⟨2, _⟩ => ⟨S2560x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S2560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2560x2048 : Shape := ⟨2, ![2560, 2048]⟩
abbrev S2048x1024 : Shape := ⟨2, ![2048, 1024]⟩
abbrev S_ : Shape := ⟨0, ![]⟩
abbrev S1024x2560 : Shape := ⟨2, ![1024, 2560]⟩
abbrev S2048x2560 : Shape := ⟨2, ![2048, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2560x2048, .bf16⟩
  | .hbm, ⟨1, _⟩ => ⟨S2048x1024, .bf16⟩
  | .hbm, ⟨2, _⟩ => ⟨S_, .f32⟩
  | .hbm, ⟨3, _⟩ => ⟨S1024x2560, .f32⟩
  | .hbm, ⟨4, _⟩ => ⟨S2048x1024, .f32⟩
  | .hbm, ⟨5, _⟩ => ⟨S2048x2560, .f32⟩
  | .hbm, ⟨6, _⟩ => ⟨S2048x2560, .bf16⟩
  | .hbm, ⟨7, _⟩ => ⟨S2048x2560, .f32⟩
  | .hbm, ⟨8, _⟩ => ⟨S2560x1024, .f32⟩
  | .hbm, ⟨9, _⟩ => ⟨S1024x2560, .f32⟩
  | .hbm, ⟨10, _⟩ => ⟨S2560x1024, .f32⟩
  | _, _ => ⟨S2560x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S1024x2048 : Shape := ⟨2, ![1024, 2048]⟩
abbrev S2048x1024 : Shape := ⟨2, ![2048, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S1024x2048 : Shape := ⟨2, ![1024, 2048]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S8x1024 : Shape := ⟨2, ![8, 1024]⟩
abbrev S1x1024 : Shape := ⟨2, ![1, 1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S1024x2048 : Shape := ⟨2, ![1024, 2048]⟩
abbrev S2048x4096 : Shape := ⟨2, ![2048, 4096]⟩
abbrev S8x128 : Shape := ⟨2, ![8, 128]⟩
abbrev S256x1024 : Shape := ⟨2, ![256, 1024]⟩
abbrev S1024x256 : Shape := ⟨2, ![1024, 256]⟩
abbrev S256x4096 : Shape := ⟨2, ![256, 4096]⟩
abbrev S2 : Shape := ⟨1, ![2]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩
abbrev S256 : Shape := ⟨1, ![256]⟩
abbrev S256x1 : Shape := ⟨2, ![256, 1]⟩
abbrev S256x512 : Shape := ⟨2, ![256, 512]⟩
abbrev S1024 : Shape := ⟨1, ![1024]⟩
abbrev S1x1 : Shape := ⟨2, ![1, 1]⟩

abbrev nBuf : Space → Nat
  | .hbm => 20
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x1024, .f32⟩
  | .hbm, ⟨4, _⟩ => ⟨S8x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S8x512x1024, .f32⟩
  | .hbm, ⟨11, _⟩ => ⟨S8x512x1024, .f32⟩
  | .hbm, ⟨12, _⟩ => ⟨S8x1024x1024, .f32⟩
  | .hbm, ⟨13, _⟩ => ⟨S8x1024x1024, .bf16⟩
  | .hbm, ⟨14, _⟩ => ⟨S1024x2048, .bf16⟩
  | .hbm, ⟨15, _⟩ => ⟨S2048x4096, .f32⟩
  | .hbm, ⟨16, _⟩ => ⟨S2048x1024, .f32⟩
  | .hbm, ⟨17, _⟩ => ⟨S2048x1024, .bf16⟩
  | .hbm, ⟨18, _⟩ => ⟨S8x1024, .f32⟩
  | .hbm, ⟨19, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1024x256, .bf16⟩
  | .local _ .vmem, ⟨11, _⟩ => ⟨S1024x256, .bf16⟩
  | .local _ .vmem, ⟨12, _⟩ => ⟨S256x4096, .f32⟩
  | .local _ .vmem, ⟨13, _⟩ => ⟨S256x4096, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x128, .f32⟩
  | .local _ .vmem, ⟨20, _⟩ => ⟨S4096x1024, .bf16⟩
  | .local _ .vmem, ⟨21, _⟩ => ⟨S4096x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S2048x1024 : Shape := ⟨2, ![2048, 1024]⟩
abbrev S8x1024 : Shape := ⟨2, ![8, 1024]⟩
abbrev S1x1024 : Shape := ⟨2, ![1, 1024]⟩
abbrev S1024x4096 : Shape := ⟨2, ![1024, 4096]⟩
abbrev S4096x1024 : Shape := ⟨2, ![4096, 1024]⟩
abbrev S4x1024 : Shape := ⟨2, ![4, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩
abbrev S6x1024 : Shape := ⟨2, ![6, 1024]⟩
abbrev S1024x2048 : Shape := ⟨2, ![1024, 2048]⟩
abbrev S8x128 : Shape := ⟨2, ![8, 128]⟩

abbrev nBuf : Space → Nat
  | .hbm => 127
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x1024, .f32⟩
  | .hbm, ⟨4, _⟩ => ⟨S8x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S8x1024, .f32⟩
  | .hbm, ⟨10, _⟩ => ⟨S4x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S2048, .f32⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1024, .f32⟩
  | .hbm, ⟨102, _⟩ => ⟨S2048x1024, .f32⟩
  | .hbm, ⟨103, _⟩ => ⟨S2048x1, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S_, .f32⟩
  | .hbm, ⟨108, _⟩ => ⟨S2048, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S2048x1024, .f32⟩
  | .hbm, ⟨116, _⟩ => ⟨S2048x1024, .f32⟩
  | .hbm, ⟨117, _⟩ => ⟨S_, .f32⟩
  | .hbm, ⟨118, _⟩ => ⟨S1024, .f32⟩
  | .hbm, ⟨119, _⟩ => ⟨S1x1024, .f32⟩
  | .hbm, ⟨120, _⟩ => ⟨S_, .f32⟩
  | .hbm, ⟨121, _⟩ => ⟨S6x1024, .f32⟩
  | .hbm, ⟨122, _⟩ => ⟨S8x1024, .f32⟩
  | .hbm, ⟨123, _⟩ => ⟨S1024x2048, .f32⟩
  | .hbm, ⟨124, _⟩ => ⟨S1024x2048, .bf16⟩
  | .hbm, ⟨125, _⟩ => ⟨S2048x1024, .bf16⟩
  | .hbm, ⟨126, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_cst_12 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Proof.Loop.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

public import proofs.«01_k».proof.Proof.Gen.KernelIdeal.Loops
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The scan over the thirty-two groups of eight rows

Each trip reads the group's rows of `arg44` and `arg45`, combines them with the carried rows, and writes the group's
eight rows of `arg46`. -/

/-- The rows of the group trip `k` works on. -/
abbrev grpRect (k : Fin k0_t1_loop.trips) : Rect S256x512 :=
  Rect.unit (s := S256x512) (k0_off1 k) S8x512.size (k0_off1_inb k)

/-- What the scan has done before trip `k`: the carried rows, and the pieces written so far (last first). -/
def scanAt (v296 : IVec S8x512 32) (X Y : Fin k0_t1_loop.trips → Vec F S8x512 .f32) (init : Vec F S8x512 .f32) :
    ℕ → Vec F S8x512 .f32 × List (View.Piece (Elt F) S256x512 .f32)
  | 0 => (init, [])
  | k + 1 =>
    if h : k < k0_t1_loop.trips then
      (k0_pay71 v296 (scanAt v296 X Y init k).1 (X ⟨k, h⟩) (Y ⟨k, h⟩),
        ⟨grpRect ⟨k, h⟩, k0_pay70 v296 (scanAt v296 X Y init k).1 (X ⟨k, h⟩) (Y ⟨k, h⟩)⟩ :: (scanAt v296 X Y init k).2)
    else scanAt v296 X Y init k

theorem scanAt_succ (v296 : IVec S8x512 32) (X Y : Fin k0_t1_loop.trips → Vec F S8x512 .f32) (init : Vec F S8x512 .f32)
    (k : Fin k0_t1_loop.trips) :
    scanAt v296 X Y init (k.val + 1)
      = (k0_pay71 v296 (scanAt v296 X Y init k.val).1 (X k) (Y k),
        ⟨grpRect k, k0_pay70 v296 (scanAt v296 X Y init k.val).1 (X k) (Y k)⟩ :: (scanAt v296 X Y init k.val).2) := by
  rw [scanAt]; exact dif_pos k.isLt

/-- The group's rows of a buffer's contents. -/
abbrev grpOf (arg : Memref sig .tc .vmem S256x512 .f32) (X : BufTy.Contents (Elt F) arg.view.ty) (k : Fin k0_t1_loop.trips) :
    Vec F S8x512 .f32 :=
  arg.view.readAt (Elt F) (grpRect k).toLoadRect X

/-- Before trip `k`: the two arrays the scan reads are at their contents, the array it writes holds the pieces of the
    trips before, and the carried rows are those of `scanAt`. -/
abbrev scanInv (c : Dev nD) (arg44 arg45 arg46 : Memref sig .tc .vmem S256x512 .f32) (v296 : IVec S8x512 32)
    (X : BufTy.Contents (Elt F) arg44.view.ty) (Y : BufTy.Contents (Elt F) arg45.view.ty) (G : BufTy.Contents (Elt F) arg46.view.ty)
    (init : Vec F S8x512 .f32) (k : ℕ) (acc : Vec F S8x512 .f32) : sProp 𝕄 :=
  iprop((arg44.view.loc (c : Thread nD τ) ↦[arg44.view.set]{fullShare} X)
    ∗ (arg45.view.loc (c : Thread nD τ) ↦[arg45.view.set]{fullShare} Y)
    ∗ (∃ f, (arg46.view.loc (c : Thread nD τ) ↦[arg46.view.set]{fullShare} f)
        ∗ ⌜f = arg46.view.writes (Elt F) G (scanAt v296 (grpOf arg44 X) (grpOf arg45 Y) init k).2⌝)
    ∗ ⌜acc = (scanAt v296 (grpOf arg44 X) (grpOf arg45 Y) init k).1⌝)

set_option warn.classDefReducibility false in
/-- The scan by its invariant. -/
@[sl_loop] def scanLoop (𝒱 : Variants) (c : Dev nD) (bd : Option 𝒱.V) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x2560 .f32) (harg5 : arg5.IsWhole) (arg6 : Memref sig .tc .vmem S8x2560 .f32) (harg6 : arg6.IsWhole) (arg7 : Memref sig .tc .vmem S256x512 .f32) (harg7 : arg7.IsWhole) (arg8 : Memref sig .tc .vmem S8x512 .f32) (harg8 : arg8.IsWhole) (arg9 : Memref sig .tc .vmem S256x3072 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S8x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S512x512 .bf16) (harg24 : arg24.IsWhole) (arg25 : Memref sig .tc .hbm S8x448x1024 .bf16) (harg25 : arg25.IsWhole) (arg26 : Memref sig .tc .vmem S256x1024 .f32) (harg26 : arg26.IsWhole) (arg27 : Memref sig .tc .vmem S16x1024 .f32) (harg27 : arg27.IsWhole) (arg28 : Memref sig .tc .vmem S256x1024 .bf16) (harg28 : arg28.IsWhole) (arg29 : Memref sig .tc .vmem S2560x256 .bf16) (harg29 : arg29.IsWhole) (arg30 : Memref sig .tc .vmem S256x1024 .bf16) (harg30 : arg30.IsWhole) (arg31 : Memref sig .tc .vmem S1024x256 .bf16) (harg31 : arg31.IsWhole) (arg32 : Memref sig .tc .vmem S512x256 .bf16) (harg32 : arg32.IsWhole) (arg33 : Memref sig .tc .vmem S256x1024 .bf16) (harg33 : arg33.IsWhole) (arg34 : Memref sig .tc .vmem S2560x1024 .bf16) (harg34 : arg34.IsWhole) (arg35 : Memref sig .tc .vmem S1024x1024 .bf16) (harg35 : arg35.IsWhole) (arg36 : DmaSems sig S2) (arg37 : Memref sig .tc .vmem S264x512 .f32) (harg37 : arg37.IsWhole) (arg38 : Memref sig .tc .vmem S264x512 .f32) (harg38 : arg38.IsWhole) (arg39 : Memref sig .tc .vmem S264x512 .f32) (harg39 : arg39.IsWhole) (arg40 : Memref sig .tc .vmem S264x512 .f32) (harg40 : arg40.IsWhole) (arg41 : Memref sig .tc .vmem S264x512 .f32) (harg41 : arg41.IsWhole) (arg42 : Memref sig .tc .vmem S264x512 .f32) (harg42 : arg42.IsWhole) (arg43 : Memref sig .tc .vmem S8x512 .f32) (harg43 : arg43.IsWhole) (arg44 : Memref sig .tc .vmem S256x512 .f32) (harg44 : arg44.IsWhole) (arg45 : Memref sig .tc .vmem S256x512 .f32) (harg45 : arg45.IsWhole) (arg46 : Memref sig .tc .vmem S256x512 .f32) (harg46 : arg46.IsWhole) (v91 : F .f32) (v102 : Vec F S256x512 .f32) (v104 : Vec F S256x512 .f32) (v129 : FVec F S1x512 .f32) (v134 : FVec F S256x512 .f32) (v142 : FVec F S256x512 .f32) (v148 : IVec S256x512 1) (v150 : FVec F S256x512 .f32) (v151 : Vec F S256x512 .f32) (v296 : IVec S8x512 32) (v297 : Vec F S8x512 .f32) (c0_i32_144 : BitVec 32) (c32_i32 : BitVec 32)
    (X : BufTy.Contents (Elt F) arg44.view.ty) (Y : BufTy.Contents (Elt F) arg45.view.ty) (G : BufTy.Contents (Elt F) arg46.view.ty)
    (init : Vec F S8x512 .f32) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 harg37 arg38 harg38 arg39 harg39 arg40 harg40 arg41 harg41 arg42 harg42 arg43 harg43 arg44 harg44 arg45 harg45 arg46 harg46 v91 v102 v104 v129 v134 v142 v148 v150 v151 v296 v297 c0_i32_144 c32_i32 init where
  inv := scanInv c arg44 arg45 arg46 v296 X Y G init
  step k acc := by
    have hk : k.val < 32 := Nat.lt_of_lt_of_le k.isLt k0_t1_abs.2.1
    unfold k0_t1_body
    iintro ⟨HX, HY, ⟨%f, HG, %hf⟩, %hacc⟩
    subst hacc
    subst hf
    sl_exec
    sl_step
    isplitl [HX]; · iexact HX
    isplitl [HY]; · iexact HY
    isplitl [HG]
    · iexists _; isplitl [HG]; · iexact HG
      ipureintro; exact (congrArg (fun p => arg46.view.writes (Elt F) G p.2) (scanAt_succ v296 (grpOf arg44 X) (grpOf arg45 Y) init k)).symm
    ipureintro; exact (congrArg Prod.fst (scanAt_succ v296 (grpOf arg44 X) (grpOf arg45 Y) init k)).symm

end Cert.KernelIdeal.Hand

end
-- ==== Proof.Run.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

public import proofs.«01_k».proof.Proof.Loop
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
set_option sl_exec.stepHeartbeats 2000000 in
set_option sl_exec.dmaWindow true in
set_option sl_exec.dmaWindowSet true in
/-- The body at one grid point, run once for all points. Each operand is held whole at the contents `f`; the two
    weight matrices in HBM at two read shares, one for each of the two batches of copies; the two counters at zero.
    The run ends with the inputs as they were and every written buffer at the contents the run finds (the tuple `g`,
    in the operands' order); where the first point's branch writes, those contents are an `if` on its condition. -/
def bodyRun (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x2560 .f32) (harg5 : arg5.IsWhole) (arg6 : Memref sig .tc .vmem S8x2560 .f32) (harg6 : arg6.IsWhole) (arg7 : Memref sig .tc .vmem S256x512 .f32) (harg7 : arg7.IsWhole) (arg8 : Memref sig .tc .vmem S8x512 .f32) (harg8 : arg8.IsWhole) (arg9 : Memref sig .tc .vmem S256x3072 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S8x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S512x512 .bf16) (harg24 : arg24.IsWhole) (arg25 : Memref sig .tc .hbm S8x448x1024 .bf16) (harg25 : arg25.IsWhole) (arg26 : Memref sig .tc .vmem S256x1024 .f32) (harg26 : arg26.IsWhole) (arg27 : Memref sig .tc .vmem S16x1024 .f32) (harg27 : arg27.IsWhole) (arg28 : Memref sig .tc .vmem S256x1024 .bf16) (harg28 : arg28.IsWhole) (arg29 : Memref sig .tc .vmem S2560x256 .bf16) (harg29 : arg29.IsWhole) (arg30 : Memref sig .tc .vmem S256x1024 .bf16) (harg30 : arg30.IsWhole) (arg31 : Memref sig .tc .vmem S1024x256 .bf16) (harg31 : arg31.IsWhole) (arg32 : Memref sig .tc .vmem S512x256 .bf16) (harg32 : arg32.IsWhole) (arg33 : Memref sig .tc .vmem S256x1024 .bf16) (harg33 : arg33.IsWhole) (arg34 : Memref sig .tc .vmem S2560x1024 .bf16) (harg34 : arg34.IsWhole) (arg35 : Memref sig .tc .vmem S1024x1024 .bf16) (harg35 : arg35.IsWhole) (arg37 : Memref sig .tc .vmem S264x512 .f32) (harg37 : arg37.IsWhole) (arg38 : Memref sig .tc .vmem S264x512 .f32) (harg38 : arg38.IsWhole) (arg39 : Memref sig .tc .vmem S264x512 .f32) (harg39 : arg39.IsWhole) (arg40 : Memref sig .tc .vmem S264x512 .f32) (harg40 : arg40.IsWhole) (arg41 : Memref sig .tc .vmem S264x512 .f32) (harg41 : arg41.IsWhole) (arg42 : Memref sig .tc .vmem S264x512 .f32) (harg42 : arg42.IsWhole) (arg43 : Memref sig .tc .vmem S8x512 .f32) (harg43 : arg43.IsWhole) (arg44 : Memref sig .tc .vmem S256x512 .f32) (harg44 : arg44.IsWhole) (arg45 : Memref sig .tc .vmem S256x512 .f32) (harg45 : arg45.IsWhole) (arg46 : Memref sig .tc .vmem S256x512 .f32) (harg46 : arg46.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) (f29 : BufTy.Contents (Elt F) arg29.view.ty) (f30 : BufTy.Contents (Elt F) arg30.view.ty) (f31 : BufTy.Contents (Elt F) arg31.view.ty) (f32 : BufTy.Contents (Elt F) arg32.view.ty) (f33 : BufTy.Contents (Elt F) arg33.view.ty) (f34 : BufTy.Contents (Elt F) arg34.view.ty) (f35 : BufTy.Contents (Elt F) arg35.view.ty) (f37 : BufTy.Contents (Elt F) arg37.view.ty) (f38 : BufTy.Contents (Elt F) arg38.view.ty) (f39 : BufTy.Contents (Elt F) arg39.view.ty) (f40 : BufTy.Contents (Elt F) arg40.view.ty) (f41 : BufTy.Contents (Elt F) arg41.view.ty) (f42 : BufTy.Contents (Elt F) arg42.view.ty) (f43 : BufTy.Contents (Elt F) arg43.view.ty) (f44 : BufTy.Contents (Elt F) arg44.view.ty) (f45 : BufTy.Contents (Elt F) arg45.view.ty) (f46 : BufTy.Contents (Elt F) arg46.view.ty)
    (plan0 : Transfers.BatchOf (c : Thread nD τ) (SemLoc.dma (sig := sig) 48) 8 (windows := true))
    (plan1 : Transfers.BatchOf (c : Thread nD τ) (SemLoc.dma (sig := sig) 49) 8 (windows := true)) :
    { g : BufTy.Contents (Elt F) arg26.view.ty × BufTy.Contents (Elt F) arg27.view.ty × BufTy.Contents (Elt F) arg28.view.ty × BufTy.Contents (Elt F) arg29.view.ty × BufTy.Contents (Elt F) arg30.view.ty × BufTy.Contents (Elt F) arg31.view.ty × BufTy.Contents (Elt F) arg32.view.ty × BufTy.Contents (Elt F) arg33.view.ty × BufTy.Contents (Elt F) arg34.view.ty × BufTy.Contents (Elt F) arg35.view.ty × BufTy.Contents (Elt F) arg37.view.ty × BufTy.Contents (Elt F) arg38.view.ty × BufTy.Contents (Elt F) arg39.view.ty × BufTy.Contents (Elt F) arg40.view.ty × BufTy.Contents (Elt F) arg41.view.ty × BufTy.Contents (Elt F) arg42.view.ty × BufTy.Contents (Elt F) arg43.view.ty × BufTy.Contents (Elt F) arg44.view.ty × BufTy.Contents (Elt F) arg45.view.ty × BufTy.Contents (Elt F) arg46.view.ty //
      ∀ (W : Waits sig Unit) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{Transfers.shareTokN fullShare 48} f25) ∗ (arg25.view.loc (c : Thread nD τ) ↦[arg25.view.set]{Transfers.shareTokN fullShare 49} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31) ∗ (arg32.view.loc (c : Thread nD τ) ↦[arg32.view.set]{fullShare} f32) ∗ (arg33.view.loc (c : Thread nD τ) ↦[arg33.view.set]{fullShare} f33) ∗ (arg34.view.loc (c : Thread nD τ) ↦[Finset.univ]{fullShare} f34) ∗ (arg35.view.loc (c : Thread nD τ) ↦[Finset.univ]{fullShare} f35) ∗ (arg37.view.loc (c : Thread nD τ) ↦[arg37.view.set]{fullShare} f37) ∗ (arg38.view.loc (c : Thread nD τ) ↦[arg38.view.set]{fullShare} f38) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg43.view.loc (c : Thread nD τ) ↦[arg43.view.set]{fullShare} f43) ∗ (arg44.view.loc (c : Thread nD τ) ↦[arg44.view.set]{fullShare} f44) ∗ (arg45.view.loc (c : Thread nD τ) ↦[arg45.view.set]{fullShare} f45) ∗ (arg46.view.loc (c : Thread nD τ) ↦[arg46.view.set]{fullShare} f46) ∗ semVal ((c : Thread nD τ), SemLoc.dma 48) 0 ∗ semVal ((c : Thread nD τ), SemLoc.dma 49) 0 ∗ owes (c : Thread nD τ) 0 W
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{Transfers.shareTokN fullShare 48} f25) ∗ (arg25.view.loc (c : Thread nD τ) ↦[arg25.view.set]{Transfers.shareTokN fullShare 49} f25) ∗ (arg26.view.loc (c : Thread nD τ) ↦[arg26.view.set]{fullShare} (g.1)) ∗ (arg27.view.loc (c : Thread nD τ) ↦[arg27.view.set]{fullShare} (g.2.1)) ∗ (arg28.view.loc (c : Thread nD τ) ↦[arg28.view.set]{fullShare} (g.2.2.1)) ∗ (arg29.view.loc (c : Thread nD τ) ↦[arg29.view.set]{fullShare} (g.2.2.2.1)) ∗ (arg30.view.loc (c : Thread nD τ) ↦[arg30.view.set]{fullShare} (g.2.2.2.2.1)) ∗ (arg31.view.loc (c : Thread nD τ) ↦[arg31.view.set]{fullShare} (g.2.2.2.2.2.1)) ∗ (arg32.view.loc (c : Thread nD τ) ↦[arg32.view.set]{fullShare} (g.2.2.2.2.2.2.1)) ∗ (arg33.view.loc (c : Thread nD τ) ↦[arg33.view.set]{fullShare} (g.2.2.2.2.2.2.2.1)) ∗ (arg34.view.loc (c : Thread nD τ) ↦[Finset.univ]{fullShare} (g.2.2.2.2.2.2.2.2.1)) ∗ (arg35.view.loc (c : Thread nD τ) ↦[Finset.univ]{fullShare} (g.2.2.2.2.2.2.2.2.2.1)) ∗ (arg37.view.loc (c : Thread nD τ) ↦[arg37.view.set]{fullShare} (g.2.2.2.2.2.2.2.2.2.2.1)) ∗ (arg38.view.loc (c : Thread nD τ) ↦[arg38.view.set]{fullShare} (g.2.2.2.2.2.2.2.2.2.2.2.1)) ∗ (arg39.view.loc (c : Thread nD τ) ↦[arg39.view.set]{fullShare} (g.2.2.2.2.2.2.2.2.2.2.2.2.1)) ∗ (arg40.view.loc (c : Thread nD τ) ↦[arg40.view.set]{fullShare} (g.2.2.2.2.2.2.2.2.2.2.2.2.2.1)) ∗ (arg41.view.loc (c : Thread nD τ) ↦[arg41.view.set]{fullShare} (g.2.2.2.2.2.2.2.2.2.2.2.2.2.2.1)) ∗ (arg42.view.loc (c : Thread nD τ) ↦[arg42.view.set]{fullShare} (g.2.2.2.2.2.2.2.2.2.2.2.2.2.2.2.1)) ∗ (arg43.view.loc (c : Thread nD τ) ↦[arg43.view.set]{fullShare} (g.2.2.2.2.2.2.2.2.2.2.2.2.2.2.2.2.1)) ∗ (arg44.view.loc (c : Thread nD τ) ↦[arg44.view.set]{fullShare} (g.2.2.2.2.2.2.2.2.2.2.2.2.2.2.2.2.2.1)) ∗ (arg45.view.loc (c : Thread nD τ) ↦[arg45.view.set]{fullShare} (g.2.2.2.2.2.2.2.2.2.2.2.2.2.2.2.2.2.2.1)) ∗ (arg46.view.loc (c : Thread nD τ) ↦[arg46.view.set]{fullShare} (g.2.2.2.2.2.2.2.2.2.2.2.2.2.2.2.2.2.2.2)) ∗ semVal ((c : Thread nD τ), SemLoc.dma 48) 0 ∗ semVal ((c : Thread nD τ), SemLoc.dma 49) 0 ∗ (∃ W', owes (c : Thread nD τ) 0 W')) -∗ K ⟨⟩))
        ⊢ wp frame (wpE (defs₀ (F := F)) Variants.none c none) Set.univ (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 cc0_scratch2 arg37 harg37 arg38 harg38 arg39 harg39 arg40 harg40 arg41 harg41 arg42 harg42 arg43 harg43 arg44 harg44 arg45 harg45 arg46 harg46) K } := by
  refine ⟨⟨?_, ?_, ?_, ?_, ?_, ?_, ?_, ?_, ?_, ?_, ?_, ?_, ?_, ?_, ?_, ?_, ?_, ?_, ?_, ?_⟩, fun W K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    iintro ⟨H1, H2, H3, H4, H5, H6, H7, H8, H9, H10, H11, H12, H13, H14, H15, H16, H17, H18, H19, H20, H21, H22, H23, H24, H25a, H25b, H26, H27, H28, H29, H30, H31, H32, H33, H34, H35, H37, H38, H39, H40, H41, H42, H43, H44, H45, H46, Hq0, Hq1, HW, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25a]; · iexact H25a
    isplitl [H25b]; · iexact H25b
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [Hq0]; · iexact Hq0
    isplitl [Hq1]; · iexact Hq1
    iexists _; iexact HW

end Cert.KernelIdeal.Hand

end
-- ==== Proof.HandFrame.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

public import proofs.«01_k».proof.Proof.Gen.KernelIdeal.Frame
public import proofs.«01_k».proof.Proof.Run
public import Idealize.ShloMosaic.Lib.Claim
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch at the algebra of a body with transfers of its own -/

set_option maxHeartbeats 800000 in
/-- The program up to the region is the region alone. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option maxHeartbeats 4000000 in
/-- The windows' arrays unchanged, and the two weight matrices in HBM: every argument ends as launched. -/
theorem frame_ofD (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 5 rfl).trans ((hA c 5).trans (V_main_arg4 m c)),
      (Pipeline.RDat.FramePost.arr_in h c 7 rfl).trans ((hA c 7).trans (V_main_arg5 m c)),
      (Pipeline.RDat.FramePost.arr_in h c 8 rfl).trans ((hA c 8).trans (V_main_arg6 m c)),
      (Pipeline.RDat.FramePost.arr_in h c 9 rfl).trans ((hA c 9).trans (V_main_arg7 m c)),
      (Pipeline.RDat.FramePost.arr_in h c 10 rfl).trans ((hA c 10).trans (V_main_arg8 m c)),
      (Pipeline.RDat.FramePost.arr_in h c 11 rfl).trans ((hA c 11).trans (V_main_arg9 m c)),
      (Pipeline.RDat.FramePost.arr_in h c 12 rfl).trans ((hA c 12).trans (V_main_arg10 m c)),
      (Pipeline.RDat.FramePost.arr_in h c 13 rfl).trans ((hA c 13).trans (V_main_arg11 m c)),
      (Pipeline.RDat.FramePost.arr_in h c 14 rfl).trans ((hA c 14).trans (V_main_arg12 m c)),
      (Pipeline.RDat.FramePost.arr_in h c 15 rfl).trans ((hA c 15).trans (V_main_arg13 m c)),
      (Pipeline.RDat.FramePost.arr_in h c 16 rfl).trans ((hA c 16).trans (V_main_arg14 m c)),
      (Pipeline.RDat.FramePost.arr_in h c 17 rfl).trans ((hA c 17).trans (V_main_arg15 m c)),
      (Pipeline.RDat.FramePost.arr_in h c 18 rfl).trans ((hA c 18).trans (V_main_arg16 m c)),
      (Pipeline.RDat.FramePost.arr_in h c 19 rfl).trans ((hA c 19).trans (V_main_arg17 m c)),
      (Pipeline.RDat.FramePost.arr_in h c 20 rfl).trans ((hA c 20).trans (V_main_arg18 m c)),
      (Pipeline.RDat.FramePost.arr_in h c 21 rfl).trans ((hA c 21).trans (V_main_arg19 m c)),
      (Pipeline.RDat.FramePost.arr_in h c 22 rfl).trans ((hA c 22).trans (V_main_arg20 m c)),
      (Pipeline.RDat.FramePost.arr_in h c 23 rfl).trans ((hA c 23).trans (V_main_arg21 m c)),
      ((h c).2 main_arg22 (Pipeline.mem_restRefs_of main_arg22 (by decide) (by decide))).trans (V_main_arg22 m c)⟩) h

/-! ## What an input's staging buffer holds: its block, at every point -/

theorem beforeD_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeD_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeD_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeD_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeD_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem beforeD_9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem beforeD_10 {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem beforeD_11 {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem beforeD_12 {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem beforeD_13 {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem beforeD_14 {c : Dev nD} (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem beforeD_15 {c : Dev nD} (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem beforeD_16 {c : Dev nD} (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem beforeD_17 {c : Dev nD} (dat : Dat τ (Elt F) Unit ℕ (Pipeline.UD sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem beforeD_18 {c : Dev nD} (dat : Dat τ (Elt F) Unit ℕ (Pipeline.UD sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem beforeD_19 {c : Dev nD} (dat : Dat τ (Elt F) Unit ℕ (Pipeline.UD sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem beforeD_20 {c : Dev nD} (dat : Dat τ (Elt F) Unit ℕ (Pipeline.UD sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem beforeD_21 {c : Dev nD} (dat : Dat τ (Elt F) Unit ℕ (Pipeline.UD sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem beforeD_22 {c : Dev nD} (dat : Dat τ (Elt F) Unit ℕ (Pipeline.UD sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem beforeD_23 {c : Dev nD} (dat : Dat τ (Elt F) Unit ℕ (Pipeline.UD sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S512x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S256x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S16x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S256x1024 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S2560x256 .bf16 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S256x1024 .bf16 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1024x256 .bf16 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S512x256 .bf16 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S256x1024 .bf16 := win0_31.stage (cfg0.slots t 31)
abbrev hs0_31 (t : Fin cfg0.N) : (ms0_31 t).IsWhole := hstage0_31 ((cfg0.slots t 31).cast nbuf0_31)

/-- The body's two counters: one for the copies of each weight matrix. -/
abbrev osem0 : Fin 2 → SemLoc sig := fun j => (![SemLoc.dma 48, SemLoc.dma 49] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 48) 0 ∗ semVal ((c : Thread nD τ), SemLoc.dma 49) 0) := by
  rw [Pipeline.ownSems0_eq_of_list c osem0 [0, 1] (by decide) (by decide)]; rfl

/-- The array the body's copies read. -/
def H0 : Finset (Ref sig .tc) := {main_arg22}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg22) ↦{fullShare} V m c main_arg22) := by
  rw [BI.bigSep_eq_bigSepL_of_eq [main_arg22] (by decide) (by decide)]; rfl

/-- A whole buffer held over its view's elements is the buffer held whole. -/
theorem whole_in (c : Dev nD) (b : Ref sig .tc) (q : PosShare TreeShare) (f : Buf (Elt F) ((c : Thread nD τ).loc b)) :
    (((c : Thread nD τ).loc b) ↦{q} f : sProp 𝕄)
      ⊢ ((Memref.whole b).view.loc (c : Thread nD τ) ↦[(Memref.whole b).view.set]{q} f : sProp 𝕄) :=
  Entails.of_eq (by rw [show (Memref.whole b).view.set = Finset.univ from View.set_whole b])
theorem whole_out (c : Dev nD) (b : Ref sig .tc) (q : PosShare TreeShare) (f : Buf (Elt F) ((c : Thread nD τ).loc b)) :
    ((Memref.whole b).view.loc (c : Thread nD τ) ↦[(Memref.whole b).view.set]{q} f : sProp 𝕄)
      ⊢ (((c : Thread nD τ).loc b) ↦{q} f : sProp 𝕄) :=
  Entails.of_eq (by rw [show (Memref.whole b).view.set = Finset.univ from View.set_whole b])

/-- What is left of the array the copies read when the two counters' read shares are taken out. -/
def wRest (c : Dev nD) (f : Buf (Elt F) ((c : Thread nD τ).loc main_arg22)) : sProp 𝕄 :=
  iprop((((c : Thread nD τ).loc main_arg22) ↦{Transfers.shareDrop fullShare 50} f)
    ∗ bigSep (Finset.range 48) (fun k => ((c : Thread nD τ).loc main_arg22) ↦{Transfers.shareTokN fullShare k} f))
theorem w_toks (c : Dev nD) (f : Buf (Elt F) ((c : Thread nD τ).loc main_arg22)) :
    (((c : Thread nD τ).loc main_arg22) ↦{fullShare} f : sProp 𝕄)
      ⊣⊢ iprop((((c : Thread nD τ).loc main_arg22) ↦{Transfers.shareTokN fullShare 48} f)
          ∗ (((c : Thread nD τ).loc main_arg22) ↦{Transfers.shareTokN fullShare 49} f) ∗ wRest c f) := by
  refine (Transfers.pointsTo_toks_range (Ix := Unit) (Name := ℕ) (U := Pipeline.UD sig nD τ) (Lvl := ℕ) fullShare 50).trans ?_
  have e (Φ : ℕ → sProp 𝕄) : bigSep (Finset.range 50) Φ = iprop(Φ 49 ∗ Φ 48 ∗ bigSep (Finset.range 48) Φ) := by
    rw [show Finset.range 50 = insert 49 (insert 48 (Finset.range 48)) from by decide, BI.bigSep_insert (by decide), BI.bigSep_insert (by decide)]
    rfl
  rw [e]
  unfold wRest
  constructor
  · iintro ⟨Hd, Hb, Ha, Hr⟩
    isplitl [Ha]; · iexact Ha
    isplitl [Hb]; · iexact Hb
    isplitl [Hd]; · iexact Hd
    iexact Hr
  · iintro ⟨Ha, Hb, Hd, Hr⟩
    isplitl [Hd]; · iexact Hd
    isplitl [Hb]; · iexact Hb
    isplitl [Ha]; · iexact Ha
    iexact Hr

/-! ## The proof data -/

/-- The output windows whose contents nothing here states. -/
def forgets0 : Fin 32 → Bool := fun w => decide (24 ≤ w.val)

/-- The arrays as launched; after the body each input's buffer at its block; between points the scratch buffers at some
    contents, the counters at zero and the copies' array whole. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨_ + 32, h⟩ => absurd h (Nat.not_lt.2 (Nat.le_add_left _ _))
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem before0_0 (c : Dev nD) (t : Fin cfg0.N) (d) : (dats m 0 c).before 0 t d = iblk m c 0 t :=
  beforeD_0 m (dats m 0 c) (A_eq m c 0) (after0_0 m c) t d
theorem before0_1 (c : Dev nD) (t : Fin cfg0.N) (d) : (dats m 0 c).before 1 t d = iblk m c 1 t :=
  beforeD_1 m (dats m 0 c) (A_eq m c 1) (after0_1 m c) t d
theorem before0_2 (c : Dev nD) (t : Fin cfg0.N) (d) : (dats m 0 c).before 2 t d = iblk m c 2 t :=
  beforeD_2 m (dats m 0 c) (A_eq m c 2) (after0_2 m c) t d
theorem before0_3 (c : Dev nD) (t : Fin cfg0.N) (d) : (dats m 0 c).before 3 t d = iblk m c 3 t :=
  beforeD_3 m (dats m 0 c) (A_eq m c 3) (after0_3 m c) t d
theorem before0_4 (c : Dev nD) (t : Fin cfg0.N) (d) : (dats m 0 c).before 4 t d = iblk m c 4 t :=
  beforeD_4 m (dats m 0 c) (A_eq m c 4) (after0_4 m c) t d
theorem before0_5 (c : Dev nD) (t : Fin cfg0.N) (d) : (dats m 0 c).before 5 t d = iblk m c 5 t :=
  beforeD_5 m (dats m 0 c) (A_eq m c 5) (after0_5 m c) t d
theorem before0_6 (c : Dev nD) (t : Fin cfg0.N) (d) : (dats m 0 c).before 6 t d = iblk m c 6 t :=
  beforeD_6 m (dats m 0 c) (A_eq m c 6) (after0_6 m c) t d
theorem before0_7 (c : Dev nD) (t : Fin cfg0.N) (d) : (dats m 0 c).before 7 t d = iblk m c 7 t :=
  beforeD_7 m (dats m 0 c) (A_eq m c 7) (after0_7 m c) t d
theorem before0_8 (c : Dev nD) (t : Fin cfg0.N) (d) : (dats m 0 c).before 8 t d = iblk m c 8 t :=
  beforeD_8 m (dats m 0 c) (A_eq m c 8) (after0_8 m c) t d
theorem before0_9 (c : Dev nD) (t : Fin cfg0.N) (d) : (dats m 0 c).before 9 t d = iblk m c 9 t :=
  beforeD_9 m (dats m 0 c) (A_eq m c 9) (after0_9 m c) t d
theorem before0_10 (c : Dev nD) (t : Fin cfg0.N) (d) : (dats m 0 c).before 10 t d = iblk m c 10 t :=
  beforeD_10 m (dats m 0 c) (A_eq m c 10) (after0_10 m c) t d
theorem before0_11 (c : Dev nD) (t : Fin cfg0.N) (d) : (dats m 0 c).before 11 t d = iblk m c 11 t :=
  beforeD_11 m (dats m 0 c) (A_eq m c 11) (after0_11 m c) t d
theorem before0_12 (c : Dev nD) (t : Fin cfg0.N) (d) : (dats m 0 c).before 12 t d = iblk m c 12 t :=
  beforeD_12 m (dats m 0 c) (A_eq m c 12) (after0_12 m c) t d
theorem before0_13 (c : Dev nD) (t : Fin cfg0.N) (d) : (dats m 0 c).before 13 t d = iblk m c 13 t :=
  beforeD_13 m (dats m 0 c) (A_eq m c 13) (after0_13 m c) t d
theorem before0_14 (c : Dev nD) (t : Fin cfg0.N) (d) : (dats m 0 c).before 14 t d = iblk m c 14 t :=
  beforeD_14 m (dats m 0 c) (A_eq m c 14) (after0_14 m c) t d
theorem before0_15 (c : Dev nD) (t : Fin cfg0.N) (d) : (dats m 0 c).before 15 t d = iblk m c 15 t :=
  beforeD_15 m (dats m 0 c) (A_eq m c 15) (after0_15 m c) t d
theorem before0_16 (c : Dev nD) (t : Fin cfg0.N) (d) : (dats m 0 c).before 16 t d = iblk m c 16 t :=
  beforeD_16 m (dats m 0 c) (A_eq m c 16) (after0_16 m c) t d
theorem before0_17 (c : Dev nD) (t : Fin cfg0.N) (d) : (dats m 0 c).before 17 t d = iblk m c 17 t :=
  beforeD_17 m (dats m 0 c) (A_eq m c 17) (after0_17 m c) t d
theorem before0_18 (c : Dev nD) (t : Fin cfg0.N) (d) : (dats m 0 c).before 18 t d = iblk m c 18 t :=
  beforeD_18 m (dats m 0 c) (A_eq m c 18) (after0_18 m c) t d
theorem before0_19 (c : Dev nD) (t : Fin cfg0.N) (d) : (dats m 0 c).before 19 t d = iblk m c 19 t :=
  beforeD_19 m (dats m 0 c) (A_eq m c 19) (after0_19 m c) t d
theorem before0_20 (c : Dev nD) (t : Fin cfg0.N) (d) : (dats m 0 c).before 20 t d = iblk m c 20 t :=
  beforeD_20 m (dats m 0 c) (A_eq m c 20) (after0_20 m c) t d
theorem before0_21 (c : Dev nD) (t : Fin cfg0.N) (d) : (dats m 0 c).before 21 t d = iblk m c 21 t :=
  beforeD_21 m (dats m 0 c) (A_eq m c 21) (after0_21 m c) t d
theorem before0_22 (c : Dev nD) (t : Fin cfg0.N) (d) : (dats m 0 c).before 22 t d = iblk m c 22 t :=
  beforeD_22 m (dats m 0 c) (A_eq m c 22) (after0_22 m c) t d
theorem before0_23 (c : Dev nD) (t : Fin cfg0.N) (d) : (dats m 0 c).before 23 t d = iblk m c 23 t :=
  beforeD_23 m (dats m 0 c) (A_eq m c 23) (after0_23 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d))

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = (dats m 0 c).Φ t.castSucc from rfl]
  rw [show (dats m 0 c).Φ t.castSucc = Pipeline.ΦD osem0 spec0 H0 (V m) c from rfl, Pipeline.ΦD_eq, scopedRest0_eq, ownSems00_eq, hbmPts0_eq]
  unfold Dat.owesAt Pipeline.owesWithin
  rw [show (dats m 0 c).owed t.castSucc = 0 from rfl, show (dats m 0 c).owed t.succ = 0 from rfl]
  unfold owns
  iintro ⟨⟨⟨⟨%s0, HS0⟩, ⟨%s1, HS1⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩⟩, Hg, ⟨Hq0, Hq1⟩, Hh⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩, ⟨%d27, %f27, %h27, H27⟩, ⟨%d28, %f28, %h28, H28⟩, ⟨%d29, %f29, %h29, H29⟩, ⟨%d30, %f30, %h30, H30⟩, ⟨%d31, %f31, %h31, H31⟩⟩
  ihave Hh' := (w_toks c (V m c main_arg22)).1 $$ Hh
  icases Hh' with ⟨Hha, Hhb, Hhr⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (Memref.whole main_arg22) (Memref.isWhole_whole _) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (Memref.whole cc0_scratch0) (Memref.isWhole_whole _) (Memref.whole cc0_scratch1) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)
    f0 f1 f2 f3 f4 f5 f6 f7 f8 f9 f10 f11 f12 f13 f14 f15 f16 f17 f18 f19 f20 f21 f22 f23 (V m c main_arg22) f24 f25 f26 f27 f28 f29 f30 f31 s0 s1 s3 s4 s5 s6 s7 s8 s9 s10 s11 s12 trivial trivial).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [Hha]; · iapply (whole_in c main_arg22 _ _); iexact Hha
  isplitl [Hhb]; · iapply (whole_in c main_arg22 _ _); iexact Hhb
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [HS0]; · iexact HS0
  isplitl [HS1]; · iexact HS1
  isplitl [HS3]; · iapply (whole_in c cc0_scratch3 _ _); iexact HS3
  isplitl [HS4]; · iapply (whole_in c cc0_scratch4 _ _); iexact HS4
  isplitl [HS5]; · iapply (whole_in c cc0_scratch5 _ _); iexact HS5
  isplitl [HS6]; · iapply (whole_in c cc0_scratch6 _ _); iexact HS6
  isplitl [HS7]; · iapply (whole_in c cc0_scratch7 _ _); iexact HS7
  isplitl [HS8]; · iapply (whole_in c cc0_scratch8 _ _); iexact HS8
  isplitl [HS9]; · iapply (whole_in c cc0_scratch9 _ _); iexact HS9
  isplitl [HS10]; · iapply (whole_in c cc0_scratch10 _ _); iexact HS10
  isplitl [HS11]; · iapply (whole_in c cc0_scratch11 _ _); iexact HS11
  isplitl [HS12]; · iapply (whole_in c cc0_scratch12 _ _); iexact HS12
  isplitl [Hq0]; · iexact Hq0
  isplitl [Hq1]; · iexact Hq1
  isplitl [HW]; · iexact HW
  iintro ⟨H0, H1, H2, H3, H4, H5, H6, H7, H8, H9, H10, H11, H12, H13, H14, H15, H16, H17, H18, H19, H20, H21, H22, H23, Hha, Hhb, H24, H25, H26, H27, H28, H29, H30, H31, HS0, HS1, HS3, HS4, HS5, HS6, HS7, HS8, HS9, HS10, HS11, HS12, Hq0, Hq1, ⟨%W', HW'⟩⟩
  isplitl [HS0 HS1 HS3 HS4 HS5 HS6 HS7 HS8 HS9 HS10 HS11 HS12 Hg Hq0 Hq1 Hha Hhb Hhr]
  · isplitl [HS0 HS1 HS3 HS4 HS5 HS6 HS7 HS8 HS9 HS10 HS11 HS12]
    · isplitl [HS0]; · iexists _; iexact HS0
      isplitl [HS1]; · iexists _; iexact HS1
      isplitl [HS3]; · iexists _; iapply (whole_out c cc0_scratch3 _ _); iexact HS3
      isplitl [HS4]; · iexists _; iapply (whole_out c cc0_scratch4 _ _); iexact HS4
      isplitl [HS5]; · iexists _; iapply (whole_out c cc0_scratch5 _ _); iexact HS5
      isplitl [HS6]; · iexists _; iapply (whole_out c cc0_scratch6 _ _); iexact HS6
      isplitl [HS7]; · iexists _; iapply (whole_out c cc0_scratch7 _ _); iexact HS7
      isplitl [HS8]; · iexists _; iapply (whole_out c cc0_scratch8 _ _); iexact HS8
      isplitl [HS9]; · iexists _; iapply (whole_out c cc0_scratch9 _ _); iexact HS9
      isplitl [HS10]; · iexists _; iapply (whole_out c cc0_scratch10 _ _); iexact HS10
      isplitl [HS11]; · iexists _; iapply (whole_out c cc0_scratch11 _ _); iexact HS11
      iexists _; iapply (whole_out c cc0_scratch12 _ _); iexact HS12
    isplitl [Hg]; · iexact Hg
    isplitl [Hq0 Hq1]
    · isplitl [Hq0]; · iexact Hq0
      iexact Hq1
    iapply (w_toks c (V m c main_arg22)).2
    isplitl [Hha]; · iapply (whole_out c main_arg22 _ _); iexact Hha
    isplitl [Hhb]; · iapply (whole_out c main_arg22 _ _); iexact Hhb
    iexact Hhr
  isplitl [HW']
  · iexists W'; isplitr; · ipureintro; exact fun _ _ => Or.inl trivial
    iexact HW'
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]
  · iexists f12; isplitr; · ipureintro; exact h12
    iexact H12
  isplitl [H13]
  · iexists f13; isplitr; · ipureintro; exact h13
    iexact H13
  isplitl [H14]
  · iexists f14; isplitr; · ipureintro; exact h14
    iexact H14
  isplitl [H15]
  · iexists f15; isplitr; · ipureintro; exact h15
    iexact H15
  isplitl [H16]
  · iexists f16; isplitr; · ipureintro; exact h16
    iexact H16
  isplitl [H17]
  · iexists f17; isplitr; · ipureintro; exact h17
    iexact H17
  isplitl [H18]
  · iexists f18; isplitr; · ipureintro; exact h18
    iexact H18
  isplitl [H19]
  · iexists f19; isplitr; · ipureintro; exact h19
    iexact H19
  isplitl [H20]
  · iexists f20; isplitr; · ipureintro; exact h20
    iexact H20
  isplitl [H21]
  · iexists f21; isplitr; · ipureintro; exact h21
    iexact H21
  isplitl [H22]
  · iexists f22; isplitr; · ipureintro; exact h22
    iexact H22
  isplitl [H23]
  · iexists f23; isplitr; · ipureintro; exact h23
    iexact H23
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  iexists _, _; isplitr; swap; · iexact H31
  ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 40000000 in
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun _ _ _ => rfl)
    (howed := fun _ _ => rfl) (V := V m) (hmain := hmainD m Variants.none) (hA := A_eq m) (hin := fun _ => .rfl) (hout := fun _ => .rfl)

/-- Every execution ends with the arguments as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22))
      ∧ r.2.sem = fun _ => 0) :=
  θ_run_and (frame_ofD m ρ (fun c => (dats m 0 c).toRForget forgets0) (A_eq m) ((θ_run defs _ _).mono (fun _ h => h.1) (run_main m ρ)))
    ((θ_run defs _ _).mono (fun _ h => h.2) (run_main m ρ))

end Cert.KernelIdeal.Hand

end
-- ==== Proof.Same.lean ====
/- The kernel's program and its ideal program have the same text: their body tables and entry points are equal. -/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Same

open Idealize.ShloMosaic Idealize.SL.Sem

/-- The two bodies are one function. -/
theorem body_eq : @Cert.Kernel.cc0_mixer_bwd Bits _ Cert.Kernel.Gen.facts
    = @Cert.KernelIdeal.cc0_mixer_bwd Bits _ Cert.KernelIdeal.Gen.facts := rfl

theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  rw [body_eq]
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel.defs Bits _ Cert.Kernel.Gen.facts = @Cert.KernelIdeal.defs Bits _ Cert.KernelIdeal.Gen.facts := by
  unfold Cert.Kernel.defs Cert.KernelIdeal.defs
  rw [defs₀_eq]
  rfl

theorem main_eq : @Cert.Kernel.main Bits Cert.Kernel.Gen.facts = @Cert.KernelIdeal.main Bits Cert.KernelIdeal.Gen.facts := rfl

end Cert.Same

end
-- ==== Proof.MlpSame.lean ====
/- The MLP backward kernel's program and its ideal program have the same text: their body tables and entry points are equal. -/
module

public import proofs.«01_k».proof.Defs
public import proofs.«01_k».proof.Proof.Gen.Kernel2
public import proofs.«01_k».proof.Proof.Gen.Kernel2Ideal

@[expose] public section

set_option maxRecDepth 65536
set_option maxHeartbeats 4000000

noncomputable section

namespace Cert.Same2

open Idealize.ShloMosaic Idealize.SL.Sem

/-- The two bodies of the MLP backward kernel are one function. -/
theorem body_eq : @Cert.Kernel2.cc0_mlp_bwd_first Bits _ Cert.Kernel2.Gen.facts
    = @Cert.Kernel2Ideal.cc0_mlp_bwd_first Bits _ Cert.Kernel2Ideal.Gen.facts := rfl

theorem defs₀_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  rw [body_eq]
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel2.defs Bits _ Cert.Kernel2.Gen.facts = @Cert.Kernel2Ideal.defs Bits _ Cert.Kernel2Ideal.Gen.facts := by
  unfold Cert.Kernel2.defs Cert.Kernel2Ideal.defs
  rw [defs₀_eq]
  rfl

theorem main_eq : @Cert.Kernel2.main Bits _ Cert.Kernel2.Gen.facts = @Cert.Kernel2Ideal.main Bits _ Cert.Kernel2Ideal.Gen.facts := rfl

end Cert.Same2

end
-- ==== Proof.MlpKit.lean ====
/-
  The MLP backward kernel, first half: what its proof is stated over. The memory the pipeline is entered with, the table
  the index maps read, each window's block at a grid point, and the body's branch conditions over the points.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.Claim
public import Idealize.ShloMosaic.Lib.WordCmp

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the pipeline is entered with -/

/-- The buffers of device `c` once the host's operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function runs the host's operations and enters the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host's operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table the index maps read -/

/-- The table's contents when the pipeline is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table holds zeros. -/
theorem tbl_zero : tbl m 0 = fun _ => (0#32 : BitVec 32) := by
  show V m 0 main_v5 = _
  entry_read
  rfl

theorem ix_word : ∀ n < 4, (Scalar.addi (Scalar.muli 2#32 (BitVec.ofNat 32 n)) (Scalar.xori 0#32 1#32)).toNat = 2 * n + 1 := by decide
theorem ix_small : ∀ n < 4, (BitVec.ofNat 32 n).toNat = n := by decide

/-- The blocks the index maps name with that table: the odd blocks of columns. -/
theorem ix_1 (i : grid0.Coords) : cc0_transform_1 inb_S2_S1_0 numel1_S1 (tbl m) i = ![(i 1).val, 2 * (i 0).val + 1] := by
  have h : (tbl m).at 0 (Rect.unit (s := S2) ![0] S1.size inb_S2_S1_0) numel1_S1 = (0#32 : BitVec 32) := by
    unfold Pipeline.Prefetch.Contents.at; rw [tbl_zero]
  unfold cc0_transform_1
  simp only [h, ix_word _ (i 0).isLt, ix_small _ (i 1).isLt]
theorem ix_3 (i : grid0.Coords) : cc0_transform_3 inb_S2_S1_0 numel1_S1 (tbl m) i = ![2 * (i 0).val + 1, 0, 0] := by
  have h : (tbl m).at 0 (Rect.unit (s := S2) ![0] S1.size inb_S2_S1_0) numel1_S1 = (0#32 : BitVec 32) := by
    unfold Pipeline.Prefetch.Contents.at; rw [tbl_zero]
  unfold cc0_transform_3
  simp only [h, ix_word _ (i 0).isLt]; rfl
theorem ix_4 (i : grid0.Coords) : cc0_transform_4 inb_S2_S1_0 numel1_S1 (tbl m) i = ![2 * (i 0).val + 1, 1, 0] := by
  have h : (tbl m).at 0 (Rect.unit (s := S2) ![0] S1.size inb_S2_S1_0) numel1_S1 = (0#32 : BitVec 32) := by
    unfold Pipeline.Prefetch.Contents.at; rw [tbl_zero]
  unfold cc0_transform_4
  simp only [h, ix_word _ (i 0).isLt]; rfl

/-- Every block the index maps name with that table is inside its array. -/
theorem ok : ok0 (F := F) (tbl m) := by
  unfold ok0
  refine ⟨fun i => ⟨fun a => ?_, .inl rfl⟩, fun i => ⟨fun a => ?_, .inr (Affine.block_words_dvd (of_decide_eq_true rfl) (by decide))⟩, fun i => ⟨fun a => ?_, .inr (Affine.block_words_dvd (of_decide_eq_true rfl) (by decide))⟩⟩
  · rw [ix_1]
    have h0 : (i 0).val < 4 := (i 0).isLt
    have h1 : (i 1).val < 4 := (i 1).isLt
    revert a; exact Fin.forall_fin_two.mpr ⟨by show ((i 1).val + 1) * 512 ≤ 2048; omega, by show (2 * (i 0).val + 1 + 1) * 512 ≤ 4096; omega⟩
  · rw [ix_3]
    have h0 : (i 0).val < 4 := (i 0).isLt
    match a with
    | 0 => show (2 * (i 0).val + 1 + 1) * 1 ≤ 8; omega
    | 1 => show (0 + 1) * 512 ≤ 1024; omega
    | 2 => show (0 + 1) * 1024 ≤ 1024; omega
  · rw [ix_4]
    have h0 : (i 0).val < 4 := (i 0).isLt
    match a with
    | 0 => show (2 * (i 0).val + 1 + 1) * 1 ≤ 8; omega
    | 1 => show (1 + 1) * 512 ≤ 1024; omega
    | 2 => show (0 + 1) * 1024 ≤ 1024; omega

/-- The table as admissible contents, and the pipeline at it. -/
abbrev adm : (pcfg0 (F := F)).Adm := ⟨tbl m, ok m⟩
abbrev cfgM : Pipeline.Cfg sig Λ₀ := cfg0 (adm m)

/-- The table as the body is handed it. -/
abbrev tbM : Memref sig .tc .smem S2 .i32 := Memref.whole main_v5
abbrev htbM : tbM.IsWhole := Memref.isWhole_whole _

/-- A table's buffer, and half of it held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0 holds its block at every point. -/
theorem before_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point. -/
theorem before_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point. -/
theorem before_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point. -/
theorem before_3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point. -/
theorem before_4 {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Where the output windows are written back -/

/-- The gradient of the input is written back at the last point only. -/
theorem flush_5 : ∀ t : Fin (cfgM m).N, ((cfgM m).win 5).flush t = true ↔ t.val % 16 = 15 :=
  (fun t => Pipeline.Window.flushOf_const cc0_transform_5 (fun _ _ => rfl) (n := 16) (by decide) rfl t : ∀ t : Fin grid0.N, Pipeline.Window.flushOf grid0 true cc0_transform_5 t = true ↔ t.val % 16 = 15)
/-- Weight gradient 1 is written back at the last point of each block of columns. -/
theorem flush_6 : ∀ t : Fin (cfgM m).N, ((cfgM m).win 6).flush t = true ↔ t.val % 4 = 3 :=
  (fun t => Pipeline.Window.flushOf_reads cc0_transform_6 reads0_6 hreads0_6 0 (by decide) (by decide) (Pipeline.Window.sep_of_coord cc0_transform_6 0 0 (fun _ => rfl) (by decide)) (P := 4) (m := 3) (by decide) rfl t : ∀ t : Fin grid0.N, Pipeline.Window.flushOf grid0 true cc0_transform_6 t = true ↔ t.val % 4 = 3)
/-- Weight gradient 2 is written back at the last point of each block of columns. -/
theorem flush_7 : ∀ t : Fin (cfgM m).N, ((cfgM m).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-! ## The grid's coordinates and the body's branch conditions -/

theorem coord_0 (t : Fin grid0.N) : (grid0.coords t 0).val = t.val / 4 % 4 := Pipeline.Grid.coords_val t 0 (by decide) rfl
theorem coord_1 (t : Fin grid0.N) : (grid0.coords t 1).val = t.val / 1 % 4 := Pipeline.Grid.coords_val t 1 (by decide) rfl

theorem cond_1 : ∀ t : Fin grid0.N, k0_cond1 (grid0.coords t) = 1#1 ↔ t.val % 4 = 0 := fun t => by
  have ht : t.val < 16 := Nat.lt_of_lt_of_eq t.isLt N_0
  have e0 := coord_0 t
  have e1 := coord_1 t
  simp only [k0_cond1, e0, e1]
  word_cmp
theorem cond_2 : ∀ t : Fin grid0.N, k0_cond2 (grid0.coords t) = 1#1 ↔ 1 ≤ t.val % 4 := fun t => by
  have ht : t.val < 16 := Nat.lt_of_lt_of_eq t.isLt N_0
  have e0 := coord_0 t
  have e1 := coord_1 t
  simp only [k0_cond2, e0, e1]
  word_cmp
theorem cond_3 : ∀ t : Fin grid0.N, k0_cond3 (grid0.coords t) = 1#1 ↔ t.val < 4 := fun t => by
  have ht : t.val < 16 := Nat.lt_of_lt_of_eq t.isLt N_0
  have e0 := coord_0 t
  have e1 := coord_1 t
  simp only [k0_cond3, e0, e1]
  word_cmp
theorem cond_4 : ∀ t : Fin grid0.N, k0_cond4 (grid0.coords t) = 1#1 ↔ 4 ≤ t.val := fun t => by
  have ht : t.val < 16 := Nat.lt_of_lt_of_eq t.isLt N_0
  have e0 := coord_0 t
  have e1 := coord_1 t
  simp only [k0_cond4, e0, e1]
  word_cmp

/-! ## The staging buffers at a point -/

abbrev ms_0 (t : Fin (cfgM m).N) : Memref sig .tc .vmem S1024x512 .bf16 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S512x512 .f32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S512x1024 .bf16 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S1x512x1024 .bf16 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S1x512x1024 .bf16 := spec0_4.stage ((cfgM m).slots t 4)
abbrev hs_4 (t : Fin (cfgM m).N) : (ms_4 m t).IsWhole := hstage0_4 (((cfgM m).slots t 4).cast nbuf0_4)
abbrev ms_5 (t : Fin (cfgM m).N) : Memref sig .tc .vmem S2048x1024 .f32 := spec0_5.stage ((cfgM m).slots t 5)
abbrev hs_5 (t : Fin (cfgM m).N) : (ms_5 m t).IsWhole := hstage0_5 (((cfgM m).slots t 5).cast nbuf0_5)
abbrev ms_6 (t : Fin (cfgM m).N) : Memref sig .tc .vmem S1x1024x512 .f32 := spec0_6.stage ((cfgM m).slots t 6)
abbrev hs_6 (t : Fin (cfgM m).N) : (ms_6 m t).IsWhole := hstage0_6 (((cfgM m).slots t 6).cast nbuf0_6)
abbrev ms_7 (t : Fin (cfgM m).N) : Memref sig .tc .vmem S1x512x1024 .f32 := spec0_7.stage ((cfgM m).slots t 7)
abbrev hs_7 (t : Fin (cfgM m).N) : (ms_7 m t).IsWhole := hstage0_7 (((cfgM m).slots t 7).cast nbuf0_7)

end Cert.Kernel2Ideal.Mlp

end
-- ==== Proof.MlpRun.lean ====
/-
  The MLP backward kernel's body at a grid point, run once per case of its branches: what it leaves in the three output
  windows, in terms of the five input blocks and what the output windows held before.
-/
module

public import proofs.«01_k».proof.Proof.MlpKit
public import Idealize.ShloMosaic.Lib.WritesUnit
public import Idealize.ShloMosaic.Lib.VecWindow

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of the gradient window a point stores. -/
def getRows (i : grid0.Coords) (X : Vec F S2048x1024 .f32) : Vec F S512x1024 .f32 :=
  fun x => X (Fin.cons (⟨512 * (i 1).val + (x 0).val, by
    have h : (i 1).val < 4 := (i 1).isLt
    have h' : (x 0).val < 512 := (x 0).isLt
    show _ < 2048; omega⟩) (Fin.cons (x 1) finZeroElim))
/-- The rows of the gradient window a point stores, replaced by `p`. -/
def putRows (i : grid0.Coords) (p : Vec F S512x1024 .f32) (X : Vec F S2048x1024 .f32) : Vec F S2048x1024 .f32 :=
  fun y => if h : 512 * (i 1).val ≤ (y 0).val ∧ (y 0).val < 512 * (i 1).val + 512 then
    p (Fin.cons (⟨(y 0).val - 512 * (i 1).val, by show _ < 512; omega⟩) (Fin.cons (y 1) finZeroElim)) else X y

theorem off_word : ∀ n < 4, (Scalar.indexCast (Scalar.muli (BitVec.ofNat 32 n) 512#32)).toNat = 512 * n := by decide
theorem off_1 (i : grid0.Coords) : k0_off1 i = ![512 * (i 1).val, 0] := by
  unfold k0_off1; simp only [off_word _ (i 1).isLt]
theorem off_2 (i : grid0.Coords) : k0_off2 i = ![512 * (i 1).val, 0] := by
  unfold k0_off2; simp only [off_word _ (i 1).isLt]

/-- Loading those rows. -/
theorem load_rows (i : grid0.Coords) (M : Memref sig .tc .vmem S2048x1024 .f32) (hM : M.IsWhole) (y : Vec F S2048x1024 .f32)
    {off : Fin 2 → ℕ} (inb : ∀ a, off a + S512x1024.size a ≤ S2048x1024.size a) (ho : off = ![512 * (i 1).val, 0]) :
    M.view.readAt (Elt F) (Rect.unit (s := S2048x1024) off S512x1024.size inb).toLoadRect (hM.unread y) = getRows i y := by
  subst ho
  funext x
  refine (congrFun (hM.read_unread y) _).trans (congrArg y (funext fun a => Fin.ext ?_))
  match a with
  | 0 => show 512 * (i 1).val + 1 * (x 0).val = 512 * (i 1).val + (x 0).val; omega
  | 1 => show 0 + 1 * (x 1).val = (x 1).val; omega

/-- Storing those rows. -/
theorem store_rows (i : grid0.Coords) (M : Memref sig .tc .vmem S2048x1024 .f32) (hM : M.IsWhole) (y : Vec F S2048x1024 .f32) (p : Vec F S512x1024 .f32)
    {off : Fin 2 → ℕ} (inb : ∀ a, off a + S512x1024.size a ≤ S2048x1024.size a) (ho : off = ![512 * (i 1).val, 0]) :
    M.view.read (Elt F) (M.view.writes (Elt F) (hM.unread y) [⟨Rect.unit (s := S2048x1024) off S512x1024.size inb, p⟩]) = putRows i p y := by
  funext z
  unfold putRows
  split
  · rename_i h
    exact View.read_writes_cons_rows_of_mem M.view (hM.unread y) inb p [] z
      (Fin.cons (⟨(z 0).val - 512 * (i 1).val, by show _ < 512; omega⟩) (Fin.cons (z 1) finZeroElim)) ho
      (by show (z 0).val = 512 * (i 1).val + ((z 0).val - 512 * (i 1).val); omega) rfl
  · rename_i h
    exact (View.read_writes_cons_rows_of_not_mem M.view (hM.unread y) inb p [] z ho (W := 512) rfl (by omega)).trans
      (congrFun (hM.read_unread y) z)

set_option maxHeartbeats 1000000 in
theorem run_A (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S2048x1024 .f32) (harg8 : arg8.IsWhole) (arg9 : Memref sig .tc .vmem S1x1024x512 .f32) (harg9 : arg9.IsWhole) (arg10 : Memref sig .tc .vmem S1x512x1024 .f32) (harg10 : arg10.IsWhole) (hc0 : k0_cond1 i = 1#1) (hc1 : ¬k0_cond2 i = 1#1) (hc2 : k0_cond3 i = 1#1) (hc3 : ¬k0_cond4 i = 1#1)
    (x0 : Vec F S1024x512 .bf16) (x1 : Vec F S512x512 .f32) (x2 : Vec F S512x1024 .bf16) (x3 : Vec F S1x512x1024 .bf16) (x4 : Vec F S1x512x1024 .bf16)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (putRows i (k0_pay5 x3 x4 x2 x1) y5) ∗ owns (c : Thread nD τ) arg9 fullShare (k0_pay9 x4 x2 x1 x0) ∗ owns (c : Thread nD τ) arg10 fullShare (k0_pay8 x2 x1) ∗ tbPt c tbM xt) -∗ K ⟨⟩))
      ⊢ wp frame (wpE (defs₀ (F := F)) Variants.none c none) E (cc0_mlp_bwd_first i tbM htbM arg3 harg3 arg4 harg4 arg5 harg5 arg6 harg6 arg7 harg7 arg8 harg8 arg9 harg9 arg10 harg10) K := by
  simp only [cc0_mlp_bwd_first_eq_skeleton]; unfold cc0_mlp_bwd_first_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have e6 : arg9.view.readAt (Elt F) (Rect.unit (s := S1x1024x512) ![0, 0, 0] S1x1024x512.size inb_S1x1024x512_S1x1024x512_0_0_0).toLoadRect (harg9.unread y6) = y6 := (View.readAt_full ..).trans (harg9.read_unread y6)
  have e7 : arg10.view.readAt (Elt F) (Rect.unit (s := S1x512x1024) ![0, 0, 0] S1x512x1024.size inb_S1x512x1024_S1x512x1024_0_0_0).toLoadRect (harg10.unread y7) = y7 := (View.readAt_full ..).trans (harg10.read_unread y7)
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [store_rows i arg8 harg8 y5 _ _ (off_1 i)]
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_B (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S2048x1024 .f32) (harg8 : arg8.IsWhole) (arg9 : Memref sig .tc .vmem S1x1024x512 .f32) (harg9 : arg9.IsWhole) (arg10 : Memref sig .tc .vmem S1x512x1024 .f32) (harg10 : arg10.IsWhole) (hc0 : ¬k0_cond1 i = 1#1) (hc1 : k0_cond2 i = 1#1) (hc2 : k0_cond3 i = 1#1) (hc3 : ¬k0_cond4 i = 1#1)
    (x0 : Vec F S1024x512 .bf16) (x1 : Vec F S512x512 .f32) (x2 : Vec F S512x1024 .bf16) (x3 : Vec F S1x512x1024 .bf16) (x4 : Vec F S1x512x1024 .bf16)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (putRows i (k0_pay5 x3 x4 x2 x1) y5) ∗ owns (c : Thread nD τ) arg9 fullShare (k0_pay11 x4 x2 x1 x0 y6) ∗ owns (c : Thread nD τ) arg10 fullShare (k0_pay10 x2 x1 y7) ∗ tbPt c tbM xt) -∗ K ⟨⟩))
      ⊢ wp frame (wpE (defs₀ (F := F)) Variants.none c none) E (cc0_mlp_bwd_first i tbM htbM arg3 harg3 arg4 harg4 arg5 harg5 arg6 harg6 arg7 harg7 arg8 harg8 arg9 harg9 arg10 harg10) K := by
  simp only [cc0_mlp_bwd_first_eq_skeleton]; unfold cc0_mlp_bwd_first_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have e6 : arg9.view.readAt (Elt F) (Rect.unit (s := S1x1024x512) ![0, 0, 0] S1x1024x512.size inb_S1x1024x512_S1x1024x512_0_0_0).toLoadRect (harg9.unread y6) = y6 := (View.readAt_full ..).trans (harg9.read_unread y6)
  have e7 : arg10.view.readAt (Elt F) (Rect.unit (s := S1x512x1024) ![0, 0, 0] S1x512x1024.size inb_S1x512x1024_S1x512x1024_0_0_0).toLoadRect (harg10.unread y7) = y7 := (View.readAt_full ..).trans (harg10.read_unread y7)
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [store_rows i arg8 harg8 y5 _ _ (off_1 i)]
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_C (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S2048x1024 .f32) (harg8 : arg8.IsWhole) (arg9 : Memref sig .tc .vmem S1x1024x512 .f32) (harg9 : arg9.IsWhole) (arg10 : Memref sig .tc .vmem S1x512x1024 .f32) (harg10 : arg10.IsWhole) (hc0 : k0_cond1 i = 1#1) (hc1 : ¬k0_cond2 i = 1#1) (hc2 : ¬k0_cond3 i = 1#1) (hc3 : k0_cond4 i = 1#1)
    (x0 : Vec F S1024x512 .bf16) (x1 : Vec F S512x512 .f32) (x2 : Vec F S512x1024 .bf16) (x3 : Vec F S1x512x1024 .bf16) (x4 : Vec F S1x512x1024 .bf16)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (putRows i (k0_pay1 (k0_pay5 x3 x4 x2 x1) (getRows i y5)) y5) ∗ owns (c : Thread nD τ) arg9 fullShare (k0_pay9 x4 x2 x1 x0) ∗ owns (c : Thread nD τ) arg10 fullShare (k0_pay8 x2 x1) ∗ tbPt c tbM xt) -∗ K ⟨⟩))
      ⊢ wp frame (wpE (defs₀ (F := F)) Variants.none c none) E (cc0_mlp_bwd_first i tbM htbM arg3 harg3 arg4 harg4 arg5 harg5 arg6 harg6 arg7 harg7 arg8 harg8 arg9 harg9 arg10 harg10) K := by
  simp only [cc0_mlp_bwd_first_eq_skeleton]; unfold cc0_mlp_bwd_first_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have e6 : arg9.view.readAt (Elt F) (Rect.unit (s := S1x1024x512) ![0, 0, 0] S1x1024x512.size inb_S1x1024x512_S1x1024x512_0_0_0).toLoadRect (harg9.unread y6) = y6 := (View.readAt_full ..).trans (harg9.read_unread y6)
  have e7 : arg10.view.readAt (Elt F) (Rect.unit (s := S1x512x1024) ![0, 0, 0] S1x512x1024.size inb_S1x512x1024_S1x512x1024_0_0_0).toLoadRect (harg10.unread y7) = y7 := (View.readAt_full ..).trans (harg10.read_unread y7)
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [store_rows i arg8 harg8 y5 _ _ (off_2 i)]
    have h := congrArg (fun v => putRows i (k0_pay1 (k0_pay5 x3 x4 x2 x1) v) y5) (load_rows i arg8 harg8 y5 (k0_off2_inb i hc3) (off_2 i))
    exact h
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_D (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S2048x1024 .f32) (harg8 : arg8.IsWhole) (arg9 : Memref sig .tc .vmem S1x1024x512 .f32) (harg9 : arg9.IsWhole) (arg10 : Memref sig .tc .vmem S1x512x1024 .f32) (harg10 : arg10.IsWhole) (hc0 : ¬k0_cond1 i = 1#1) (hc1 : k0_cond2 i = 1#1) (hc2 : ¬k0_cond3 i = 1#1) (hc3 : k0_cond4 i = 1#1)
    (x0 : Vec F S1024x512 .bf16) (x1 : Vec F S512x512 .f32) (x2 : Vec F S512x1024 .bf16) (x3 : Vec F S1x512x1024 .bf16) (x4 : Vec F S1x512x1024 .bf16)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (putRows i (k0_pay1 (k0_pay5 x3 x4 x2 x1) (getRows i y5)) y5) ∗ owns (c : Thread nD τ) arg9 fullShare (k0_pay11 x4 x2 x1 x0 y6) ∗ owns (c : Thread nD τ) arg10 fullShare (k0_pay10 x2 x1 y7) ∗ tbPt c tbM xt) -∗ K ⟨⟩))
      ⊢ wp frame (wpE (defs₀ (F := F)) Variants.none c none) E (cc0_mlp_bwd_first i tbM htbM arg3 harg3 arg4 harg4 arg5 harg5 arg6 harg6 arg7 harg7 arg8 harg8 arg9 harg9 arg10 harg10) K := by
  simp only [cc0_mlp_bwd_first_eq_skeleton]; unfold cc0_mlp_bwd_first_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have e6 : arg9.view.readAt (Elt F) (Rect.unit (s := S1x1024x512) ![0, 0, 0] S1x1024x512.size inb_S1x1024x512_S1x1024x512_0_0_0).toLoadRect (harg9.unread y6) = y6 := (View.readAt_full ..).trans (harg9.read_unread y6)
  have e7 : arg10.view.readAt (Elt F) (Rect.unit (s := S1x512x1024) ![0, 0, 0] S1x512x1024.size inb_S1x512x1024_S1x512x1024_0_0_0).toLoadRect (harg10.unread y7) = y7 := (View.readAt_full ..).trans (harg10.read_unread y7)
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [store_rows i arg8 harg8 y5 _ _ (off_2 i)]
    have h := congrArg (fun v => putRows i (k0_pay1 (k0_pay5 x3 x4 x2 x1) v) y5) (load_rows i arg8 harg8 y5 (k0_off2_inb i hc3) (off_2 i))
    exact h
  isplitl [H6]
  · iexists _; isplitr; swap; · iexact H6
    ipureintro
    rw [View.read_writes_full]
  isplitl [H7]
  · iexists _; isplitr; swap; · iexact H7
    ipureintro
    rw [View.read_writes_full]
  iexact HT

end Cert.Kernel2Ideal.Mlp

end
-- ==== Proof.MlpFrame.lean ====
/-
  The MLP backward kernel, first half: what its three output windows hold after each grid point, the body's obligation at
  every point, and the run: it ends, leaves the arguments, and the three output arrays hold sums of the points' products.
-/
module

public import proofs.«01_k».proof.Proof.MlpRun
public import Idealize.ShloMosaic.Lib.Pipeline.DatRel
public import Idealize.ShloMosaic.Lib.Pipeline.ArrRel

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output windows hold -/

theorem N_eq : (cfgM m).N = 16 := N_0

/-- Grid point `n`. -/
def pt (n : ℕ) : Fin (cfgM m).N := ⟨n % 16, by rw [N_eq]; omega⟩

theorem pt_val (t : Fin (cfgM m).N) : pt m t.val = t :=
  Fin.ext (Nat.mod_eq_of_lt (lt_of_lt_of_eq t.isLt (N_eq m)))

/-- The input's gradient from one point's rows and block of columns. -/
def dh (c : Dev nD) (t : Fin (cfgM m).N) : Vec F S512x1024 .f32 := k0_pay5 (iblk m c 3 t) (iblk m c 4 t) (iblk m c 2 t) (iblk m c 1 t)

/-- Block `b` of the rows of `X`. -/
def rowsAt (b : ℕ) (hb : b < 4) (X : Vec F S2048x1024 .f32) : Vec F S512x1024 .f32 :=
  fun x => X (Fin.cons (⟨512 * b + (x 0).val, by
    have h' : (x 0).val < 512 := (x 0).isLt
    show _ < 2048; omega⟩) (Fin.cons (x 1) finZeroElim))

/-- Block `b` of the rows of the input's gradient, summed over the blocks of columns up to `k`. -/
def acc5 (c : Dev nD) (b : ℕ) : ℕ → Vec F S512x1024 .f32
  | 0 => dh m c (pt m b)
  | k + 1 => k0_pay1 (dh m c (pt m (4 * (k + 1) + b))) (acc5 c b k)

/-- The first weight's gradient for a point's block of columns, summed over the blocks of rows so far. -/
def acc6 (c : Dev nD) : ℕ → Vec F S1x1024x512 .f32
  | 0 => k0_pay9 (iblk m c 4 (pt m 0)) (iblk m c 2 (pt m 0)) (iblk m c 1 (pt m 0)) (iblk m c 0 (pt m 0))
  | n + 1 => if (n + 1) % 4 = 0 then
      k0_pay9 (iblk m c 4 (pt m (n + 1))) (iblk m c 2 (pt m (n + 1))) (iblk m c 1 (pt m (n + 1))) (iblk m c 0 (pt m (n + 1)))
    else k0_pay11 (iblk m c 4 (pt m (n + 1))) (iblk m c 2 (pt m (n + 1))) (iblk m c 1 (pt m (n + 1))) (iblk m c 0 (pt m (n + 1))) (acc6 c n)

/-- The second weight's gradient, likewise. -/
def acc7 (c : Dev nD) : ℕ → Vec F S1x512x1024 .f32
  | 0 => k0_pay8 (iblk m c 2 (pt m 0)) (iblk m c 1 (pt m 0))
  | n + 1 => if (n + 1) % 4 = 0 then k0_pay8 (iblk m c 2 (pt m (n + 1))) (iblk m c 1 (pt m (n + 1)))
    else k0_pay10 (iblk m c 2 (pt m (n + 1))) (iblk m c 1 (pt m (n + 1))) (acc7 c n)

/-- After point `n` the gradient window's blocks of rows visited so far hold their sums. -/
def Sum5 (c : Dev nD) (n : ℕ) (X : Vec F S2048x1024 .f32) : Prop :=
  ∀ b (hb : b < 4), b ≤ n → rowsAt b hb X = acc5 m c b ((n - b) / 4)

theorem rowsAt_putRows_same (i : grid0.Coords) (b : ℕ) (hb : b < 4) (h : (i 1).val = b) (p : Vec F S512x1024 .f32) (X : Vec F S2048x1024 .f32) :
    rowsAt b hb (putRows i p X) = p := by
  subst h
  funext x
  have h' : (x 0).val < 512 := (x 0).isLt
  have hc : 512 * (i 1).val ≤ 512 * (i 1).val + (x 0).val ∧ 512 * (i 1).val + (x 0).val < 512 * (i 1).val + 512 := by omega
  refine (dif_pos hc).trans (congrArg p (funext fun a => Fin.ext ?_))
  match a with
  | 0 => show 512 * (i 1).val + (x 0).val - 512 * (i 1).val = (x 0).val; omega
  | 1 => rfl

theorem rowsAt_putRows_other (i : grid0.Coords) (b : ℕ) (hb : b < 4) (h : (i 1).val ≠ b) (p : Vec F S512x1024 .f32) (X : Vec F S2048x1024 .f32) :
    rowsAt b hb (putRows i p X) = rowsAt b hb X := by
  funext x
  have h' : (x 0).val < 512 := (x 0).isLt
  have hc : ¬(512 * (i 1).val ≤ 512 * b + (x 0).val ∧ 512 * b + (x 0).val < 512 * (i 1).val + 512) := by omega
  exact dif_neg hc

theorem getRows_eq (i : grid0.Coords) (X : Vec F S2048x1024 .f32) : getRows i X = rowsAt (i 1).val (i 1).isLt X := rfl

/-- A point of the first block of columns stores its product. -/
theorem sum5_first (c : Dev nD) (t : Fin (cfgM m).N) (ht : t.val < 4) (Y : Vec F S2048x1024 .f32) (hY : t.val ≠ 0 → Sum5 m c (t.val - 1) Y) :
    Sum5 m c t.val (putRows (grid0.coords t) (dh m c t) Y) := by
  intro b hb hbt
  have e1 : (grid0.coords t 1).val = t.val / 1 % 4 := coord_1 t
  by_cases h : b = t.val
  · subst h
    rw [rowsAt_putRows_same _ _ hb (by omega), Nat.sub_self]
    show _ = dh m c (pt m t.val)
    rw [pt_val]
  · rw [rowsAt_putRows_other _ _ hb (by omega), hY (by omega) b hb (by omega), show (t.val - 1 - b) / 4 = (t.val - b) / 4 by omega]

/-- A later point adds its product. -/
theorem sum5_later (c : Dev nD) (t : Fin (cfgM m).N) (ht : 4 ≤ t.val) (Y : Vec F S2048x1024 .f32) (hY : t.val ≠ 0 → Sum5 m c (t.val - 1) Y) :
    Sum5 m c t.val (putRows (grid0.coords t) (k0_pay1 (dh m c t) (getRows (grid0.coords t) Y)) Y) := by
  intro b hb hbt
  have e1 : (grid0.coords t 1).val = t.val / 1 % 4 := coord_1 t
  have hY' := hY (by omega)
  by_cases h : (grid0.coords t 1).val = b
  · rw [rowsAt_putRows_same _ _ hb h, getRows_eq]
    have hr : rowsAt (grid0.coords t 1).val (grid0.coords t 1).isLt Y = acc5 m c b ((t.val - 1 - b) / 4) := by
      subst h; exact hY' _ _ (by omega)
    rw [hr, show (t.val - b) / 4 = (t.val - 1 - b) / 4 + 1 by omega]
    show k0_pay1 (dh m c t) _ = k0_pay1 (dh m c (pt m (4 * ((t.val - 1 - b) / 4 + 1) + b))) _
    rw [show 4 * ((t.val - 1 - b) / 4 + 1) + b = t.val by omega, pt_val]
  · rw [rowsAt_putRows_other _ _ hb h, hY' b hb (by omega), show (t.val - 1 - b) / 4 = (t.val - b) / 4 by omega]

theorem acc6_first (c : Dev nD) (t : Fin (cfgM m).N) (h : t.val % 4 = 0) :
    k0_pay9 (iblk m c 4 t) (iblk m c 2 t) (iblk m c 1 t) (iblk m c 0 t) = acc6 m c t.val := by
  generalize hn : t.val = n at *
  have hp : pt m n = t := hn ▸ pt_val m t
  cases n with
  | zero => show _ = k0_pay9 _ _ _ _; rw [hp]
  | succ n => rw [acc6, if_pos h, hp]

theorem acc6_later (c : Dev nD) (t : Fin (cfgM m).N) (h : ¬t.val % 4 = 0) :
    k0_pay11 (iblk m c 4 t) (iblk m c 2 t) (iblk m c 1 t) (iblk m c 0 t) (acc6 m c (t.val - 1)) = acc6 m c t.val := by
  generalize hn : t.val = n at *
  have hp : pt m n = t := hn ▸ pt_val m t
  cases n with
  | zero => exact absurd rfl h
  | succ n => rw [acc6, if_neg h, hp]; rfl

theorem acc7_first (c : Dev nD) (t : Fin (cfgM m).N) (h : t.val % 4 = 0) :
    k0_pay8 (iblk m c 2 t) (iblk m c 1 t) = acc7 m c t.val := by
  generalize hn : t.val = n at *
  have hp : pt m n = t := hn ▸ pt_val m t
  cases n with
  | zero => show _ = k0_pay8 _ _; rw [hp]
  | succ n => rw [acc7, if_pos h, hp]

theorem acc7_later (c : Dev nD) (t : Fin (cfgM m).N) (h : ¬t.val % 4 = 0) :
    k0_pay10 (iblk m c 2 t) (iblk m c 1 t) (acc7 m c (t.val - 1)) = acc7 m c t.val := by
  generalize hn : t.val = n at *
  have hp : pt m n = t := hn ▸ pt_val m t
  cases n with
  | zero => exact absurd rfl h
  | succ n => rw [acc7, if_neg h, hp]; rfl

/-! ## The pipeline's proof data -/

/-- The windows held to what the points so far left in them: the three outputs. -/
def held : Fin 8 → Bool := fun w => w.val == 5 || w.val == 6 || w.val == 7

/-- What an output window holds after a point. -/
def Holds (c : Dev nD) (w : Fin (cfgM m).W) (t : Fin (cfgM m).N) : (((cfgM m).win w).block.Idx → Elt F ((cfgM m).win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => Sum5 m c t.val X
  | ⟨6, _⟩ => fun X => X = acc6 m c t.val
  | ⟨7, _⟩ => fun X => X = acc7 m c t.val

/-- The inputs' windows hold their blocks; of the outputs' the data say nothing themselves. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := (cfgM m)) ⟨5, h⟩ t
    | ⟨6, h⟩ => Pipeline.Dat.unnamed (cfg := (cfgM m)) ⟨6, h⟩ t
    | ⟨7, h⟩ => Pipeline.Dat.unnamed (cfg := (cfgM m)) ⟨7, h⟩ t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem found_0 (c : Dev nD) (t : Fin (cfgM m).N) (d) : (dats m 0 c).before 0 t d = iblk m c 0 t :=
  before_0 m (dats m 0 c) (A_eq m c 0) (after_0 m c) t d
theorem after_1 (c : Dev nD) (t : Fin (cfgM m).N) : (dats m 0 c).after 1 t = iblk m c 1 t := by dsimp only [dats]; try rfl
theorem found_1 (c : Dev nD) (t : Fin (cfgM m).N) (d) : (dats m 0 c).before 1 t d = iblk m c 1 t :=
  before_1 m (dats m 0 c) (A_eq m c 1) (after_1 m c) t d
theorem after_2 (c : Dev nD) (t : Fin (cfgM m).N) : (dats m 0 c).after 2 t = iblk m c 2 t := by dsimp only [dats]; try rfl
theorem found_2 (c : Dev nD) (t : Fin (cfgM m).N) (d) : (dats m 0 c).before 2 t d = iblk m c 2 t :=
  before_2 m (dats m 0 c) (A_eq m c 2) (after_2 m c) t d
theorem after_3 (c : Dev nD) (t : Fin (cfgM m).N) : (dats m 0 c).after 3 t = iblk m c 3 t := by dsimp only [dats]; try rfl
theorem found_3 (c : Dev nD) (t : Fin (cfgM m).N) (d) : (dats m 0 c).before 3 t d = iblk m c 3 t :=
  before_3 m (dats m 0 c) (A_eq m c 3) (after_3 m c) t d
theorem after_4 (c : Dev nD) (t : Fin (cfgM m).N) : (dats m 0 c).after 4 t = iblk m c 4 t := by dsimp only [dats]; try rfl
theorem found_4 (c : Dev nD) (t : Fin (cfgM m).N) (d) : (dats m 0 c).before 4 t d = iblk m c 4 t :=
  before_4 m (dats m 0 c) (A_eq m c 4) (after_4 m c) t d

/-- The data with the output windows held to `Holds`. -/
abbrev rdat (c : Dev nD) : Pipeline.RDat τ (Elt F) Unit ℕ (UR sig nD τ) ℕ (cfgM m) c := (dats m 0 c).toRRel held (Holds m c)

/-- What a point finds in the gradient window: what the point before left. -/
theorem finds_5 (c : Dev nD) (t : Fin (cfgM m).N) (Y : Vec F S2048x1024 .f32) (h : (rdat m c).Finds 5 t Y) (ht : t.val ≠ 0) :
    Sum5 m c (t.val - 1) Y := by
  have hN : t.val < 16 := lt_of_lt_of_eq t.isLt (N_eq m)
  rcases ((rdat m c).finds_of_pos (w := 5) (t := t) rfl ht Y).mp h with hf | hl
  · have := (flush_5 m _).mp hf
    simp only at this
    omega
  · exact Dat.toRRel_leaves (fgt := held) (Rl := Holds m c) (dats m 0 c) (w := 5) rfl hl
theorem finds_6 (c : Dev nD) (t : Fin (cfgM m).N) (Y : Vec F S1x1024x512 .f32) (h : (rdat m c).Finds 6 t Y) (ht : ¬t.val % 4 = 0) :
    Y = acc6 m c (t.val - 1) := by
  have ht' : t.val ≠ 0 := fun h => ht (by rw [h])
  rcases ((rdat m c).finds_of_pos (w := 6) (t := t) rfl ht' Y).mp h with hf | hl
  · have := (flush_6 m _).mp hf
    simp only at this
    omega
  · exact Dat.toRRel_leaves (fgt := held) (Rl := Holds m c) (dats m 0 c) (w := 6) rfl hl
theorem finds_7 (c : Dev nD) (t : Fin (cfgM m).N) (Y : Vec F S1x512x1024 .f32) (h : (rdat m c).Finds 7 t Y) (ht : ¬t.val % 4 = 0) :
    Y = acc7 m c (t.val - 1) := by
  have ht' : t.val ≠ 0 := fun h => ht (by rw [h])
  rcases ((rdat m c).finds_of_pos (w := 7) (t := t) rfl ht' Y).mp h with hf | hl
  · have := (flush_7 m _).mp hf
    simp only at this
    omega
  · exact Dat.toRRel_leaves (fgt := held) (Rl := Holds m c) (dats m 0 c) (w := 7) rfl hl

/-! ## The body at a point -/

/-- The body at point `t`, on what the pipeline calls it with. -/
abbrev bodyAt (t : Fin (cfgM m).N) : Prog (TpuEff nD τ sig (Elt F) Λ₀ .tc) PUnit :=
  cc0_mlp_bwd_first (grid0.coords t) tbM htbM (ms_0 m t) (hs_0 m t) (ms_1 m t) (hs_1 m t) (ms_2 m t) (hs_2 m t) (ms_3 m t) (hs_3 m t) (ms_4 m t) (hs_4 m t) (ms_5 m t) (hs_5 m t) (ms_6 m t) (hs_6 m t) (ms_7 m t) (hs_7 m t)

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ Y, ⌜(rdat m c).Finds 5 t Y⌝ ∗ owns (c : Thread nD τ) (ms_5 m t) fullShare Y)
    ∗ (∃ Y, ⌜(rdat m c).Finds 6 t Y⌝ ∗ owns (c : Thread nD τ) (ms_6 m t) fullShare Y)
    ∗ (∃ Y, ⌜(rdat m c).Finds 7 t Y⌝ ∗ owns (c : Thread nD τ) (ms_7 m t) fullShare Y))

def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ owns (c : Thread nD τ) (ms_4 m t) fullShare ((dats m 0 c).after 4 t)
    ∗ (∃ X, ⌜Holds m c 5 t X⌝ ∗ owns (c : Thread nD τ) (ms_5 m t) fullShare X)
    ∗ (∃ X, ⌜Holds m c 6 t X⌝ ∗ owns (c : Thread nD τ) (ms_6 m t) fullShare X)
    ∗ (∃ X, ⌜Holds m c 7 t X⌝ ∗ owns (c : Thread nD τ) (ms_7 m t) fullShare X))

set_option maxHeartbeats 3200000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [found_0, found_1, found_2, found_3, found_4, after_0, after_1, after_2, after_3, after_4]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  have hN : t.val < 16 := lt_of_lt_of_eq t.isLt (N_eq m)
  iintro ⟨⟨HΦ, HT⟩, Ho, ⟨%d0, H0⟩, ⟨%d1, H1⟩, ⟨%d2, H2⟩, ⟨%d3, H3⟩, ⟨%d4, H4⟩, ⟨%y5, %hy5, H5⟩, ⟨%y6, %hy6, H6⟩, ⟨%y7, %hy7, H7⟩⟩
  by_cases h0 : t.val % 4 = 0
  · by_cases h3 : t.val < 4
    · iapply (run_A c (grid0.coords t) _ _ _ _ _ _ _ _ _ _ _ _ _ _ _ _ ((cond_1 t).mpr h0) (fun h => (show ¬1 ≤ t.val % 4 by omega) ((cond_2 t).mp h)) ((cond_3 t).mpr h3) (fun h => (show ¬4 ≤ t.val by omega) ((cond_4 t).mp h)) (iblk m c 0 t) (iblk m c 1 t) (iblk m c 2 t) (iblk m c 3 t) (iblk m c 4 t) y5 y6 y7 (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT]; · iexact HT
      iintro ⟨H0, H1, H2, H3, H4, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact sum5_first m c t h3 y5 (finds_5 m c t y5 hy5)
      isplitl [H6]
      · iexists _; isplitr; swap; · iexact H6
        ipureintro; exact acc6_first m c t h0
      iexists _; isplitr; swap; · iexact H7
      ipureintro; exact acc7_first m c t h0
    · iapply (run_C c (grid0.coords t) _ _ _ _ _ _ _ _ _ _ _ _ _ _ _ _ ((cond_1 t).mpr h0) (fun h => (show ¬1 ≤ t.val % 4 by omega) ((cond_2 t).mp h)) (fun h => h3 ((cond_3 t).mp h)) ((cond_4 t).mpr (by omega)) (iblk m c 0 t) (iblk m c 1 t) (iblk m c 2 t) (iblk m c 3 t) (iblk m c 4 t) y5 y6 y7 (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT]; · iexact HT
      iintro ⟨H0, H1, H2, H3, H4, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact sum5_later m c t (by omega) y5 (finds_5 m c t y5 hy5)
      isplitl [H6]
      · iexists _; isplitr; swap; · iexact H6
        ipureintro; exact acc6_first m c t h0
      iexists _; isplitr; swap; · iexact H7
      ipureintro; exact acc7_first m c t h0
  · by_cases h3 : t.val < 4
    · iapply (run_B c (grid0.coords t) _ _ _ _ _ _ _ _ _ _ _ _ _ _ _ _ (fun h => h0 ((cond_1 t).mp h)) ((cond_2 t).mpr (by omega)) ((cond_3 t).mpr h3) (fun h => (show ¬4 ≤ t.val by omega) ((cond_4 t).mp h)) (iblk m c 0 t) (iblk m c 1 t) (iblk m c 2 t) (iblk m c 3 t) (iblk m c 4 t) y5 y6 y7 (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT]; · iexact HT
      iintro ⟨H0, H1, H2, H3, H4, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact sum5_first m c t h3 y5 (finds_5 m c t y5 hy5)
      isplitl [H6]
      · iexists _; isplitr; swap; · iexact H6
        ipureintro; show k0_pay11 _ _ _ _ y6 = _; rw [finds_6 m c t y6 hy6 h0]; exact acc6_later m c t h0
      iexists _; isplitr; swap; · iexact H7
      ipureintro; show k0_pay10 _ _ y7 = _; rw [finds_7 m c t y7 hy7 h0]; exact acc7_later m c t h0
    · iapply (run_D c (grid0.coords t) _ _ _ _ _ _ _ _ _ _ _ _ _ _ _ _ (fun h => h0 ((cond_1 t).mp h)) ((cond_2 t).mpr (by omega)) (fun h => h3 ((cond_3 t).mp h)) ((cond_4 t).mpr (by omega)) (iblk m c 0 t) (iblk m c 1 t) (iblk m c 2 t) (iblk m c 3 t) (iblk m c 4 t) y5 y6 y7 (tbl m 0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT]; · iexact HT
      iintro ⟨H0, H1, H2, H3, H4, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact sum5_later m c t (by omega) y5 (finds_5 m c t y5 hy5)
      isplitl [H6]
      · iexists _; isplitr; swap; · iexact H6
        ipureintro; show k0_pay11 _ _ _ _ y6 = _; rw [finds_6 m c t y6 hy6 h0]; exact acc6_later m c t h0
      iexists _; isplitr; swap; · iexact H7
      ipureintro; show k0_pay10 _ _ y7 = _; rw [finds_7 m c t y7 hy7 h0]; exact acc7_later m c t h0

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : Pipeline.BodyObligationRel (dats (F := F) m 0 c) (defs₀ (F := F)) Variants.none () Set.univ held (Holds m c) := fun t => by
  rw [bigSep_W0, bigSep_W0, defs₀_row m]
  exact triple_restated (sound_body m c t) rfl .rfl fun _ => .rfl

/-! ## The run -/

set_option backward.isDefEq.respectTransparency.types false in
/-- The run ends, with every array as the relational data say and every counter at zero. -/
theorem run_main : θ_run defs (onTc (τ := τ) (main (F := F))) (s₀ m ρ) (fun r => Pipeline.RDat.FramePost ((Pipeline.pin pcfgs fun _ => adm m) 0) (rdat m) (V m) r ∧ r.2.sem = fun _ => 0) :=
  Pipeline.RDat.θ_run_frameP_track_shared pcfgs (fun _ => adm m) (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hpf := V_pre m)
    (hin := fun _ => .rfl) (hout := fun c => by
      show iprop(Pipeline.ΦA spec0 c ∗ Pipeline.ΦT pre0 (tbl m) c) ⊢ _
      iintro ⟨H, -⟩; iexact H)
    (Q' := _) (hQ' := fun _ h => h)

theorem args_of (r : PUnit × MemSt nD τ sig (Elt F)) (h : Pipeline.RDat.FramePost ((Pipeline.pin pcfgs fun _ => adm m) 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c)⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.Kernel2Ideal.Mlp

end
-- ==== Proof.MlpArrays.lean ====
/-
  The MLP backward kernel, first half: the three output arrays after the run, in terms of the sums the output windows
  hold.
-/
module

public import proofs.«01_k».proof.Proof.MlpFrame
public import Idealize.ShloMosaic.Lib.Pipeline.ValueKit
public import Idealize.ShloMosaic.Lib.Pointwise.Index

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic (ix2 ix3)

/-- The data with the contents `after` that a run leaves. -/
abbrev xdat (c : Dev nD) (after : (w : Fin (cfgM m).W) → Fin (cfgM m).N → ((cfgM m).win w).block.Idx → Elt F ((cfgM m).win w).elt) :
    Dat τ (Elt F) Unit ℕ (UR sig nD τ) ℕ (cfgM m) c := (rdat m c).withAfter after

theorem whole_5 : ((cfgM m).win 5).WholeAt (pt m 15) := by
  refine ⟨(flush_5 m _).mpr rfl, fun t h => ?_, fun a => ?_⟩
  · have := (flush_5 m t).mp h
    have hN : t.val < 16 := lt_of_lt_of_eq t.isLt (N_eq m)
    exact Fin.ext (by show t.val = 15; omega)
  · match a with
    | ⟨0, _⟩ => exact ⟨rfl, rfl⟩
    | ⟨1, _⟩ => exact ⟨rfl, rfl⟩
    | ⟨n + 2, hn⟩ => exact absurd (show n + 2 < 2 from hn) (by omega)

/-- The input's gradient array. -/
theorem arr_5 (c : Dev nD) (after) (h : ∀ (w : Fin (cfgM m).W) (u : Fin (cfgM m).N), ((cfgM m).win w).flush u = true → (rdat m c).Leaves w u (after w u))
    (b : ℕ) (hb : b < 4) (p : Fin 512) (j : Fin 1024) :
    (xdat m c after).arrAt 5 (cfgM m).N (ix2 (n0 := 2048) ⟨512 * b + p.val, by omega⟩ j) = acc5 m c b 3 (ix2 p j) := by
  have hl : Sum5 m c 15 (after 5 (pt m 15)) :=
    Dat.toRRel_leaves (fgt := held) (Rl := Holds m c) (dats m 0 c) (w := 5) rfl (h 5 (pt m 15) ((flush_5 m _).mpr rfl))
  refine ((xdat m c after).arrAt_emb_eq_after_last 5 (pt m 15) (whole_5 m) (ix2 (n0 := 2048) ⟨512 * b + p.val, by omega⟩ j)).trans ?_
  have hs := congrFun (hl b hb (by omega)) (ix2 p j)
  rw [show (15 - b) / 4 = 3 by omega] at hs
  rw [← hs]
  show after 5 (pt m 15) _ = _
  unfold rowsAt
  refine congrArg _ (funext fun a => ?_)
  match a with
  | ⟨0, _⟩ => rfl
  | ⟨1, _⟩ => rfl
  | ⟨n + 2, hn⟩ => exact absurd (show n + 2 < 2 from hn) (by omega)

theorem index_6 (t : Fin (cfgM m).N) : ((cfgM m).win 6).index t = ![(grid0.coords t 0).val, 0, 0] := by
  have h : (grid0.coords t 0).val < 4 := (grid0.coords t 0).isLt
  show cc0_transform_6 (grid0.coords t) = _
  unfold cc0_transform_6
  simp only [ix_small _ h]; rfl

theorem index_7 (t : Fin (cfgM m).N) : ((cfgM m).win 7).index t = ![(grid0.coords t 0).val, 0, 0] := by
  have h : (grid0.coords t 0).val < 4 := (grid0.coords t 0).isLt
  show cc0_transform_7 (grid0.coords t) = _
  unfold cc0_transform_7
  simp only [ix_small _ h]; rfl

theorem disj_6 : ∀ t t' : Fin (cfgM m).N, ((cfgM m).win 6).flush t = true → ((cfgM m).win 6).flush t' = true → t ≠ t' →
    Disjoint (((cfgM m).win 6).blk t).view.set (((cfgM m).win 6).blk t').view.set :=
  Pipeline.Window.hdisj_of_index_inj _ fun t t' hf hf' he => by
    have e := congrFun he (0 : Fin 3)
    rw [index_6, index_6] at e
    have e0 : t.val / 4 % 4 = (grid0.coords t 0).val := (coord_0 t).symm
    have e0' : t'.val / 4 % 4 = (grid0.coords t' 0).val := (coord_0 t').symm
    have e' : (grid0.coords t 0).val = (grid0.coords t' 0).val := e
    have hN : t.val < 16 := lt_of_lt_of_eq t.isLt (N_eq m)
    have hN' : t'.val < 16 := lt_of_lt_of_eq t'.isLt (N_eq m)
    have h1 := (flush_6 m t).mp hf
    have h2 := (flush_6 m t').mp hf'
    exact Fin.ext (by omega)

theorem disj_7 : ∀ t t' : Fin (cfgM m).N, ((cfgM m).win 7).flush t = true → ((cfgM m).win 7).flush t' = true → t ≠ t' →
    Disjoint (((cfgM m).win 7).blk t).view.set (((cfgM m).win 7).blk t').view.set :=
  Pipeline.Window.hdisj_of_index_inj _ fun t t' hf hf' he => by
    have e := congrFun he (0 : Fin 3)
    rw [index_7, index_7] at e
    have e0 : t.val / 4 % 4 = (grid0.coords t 0).val := (coord_0 t).symm
    have e0' : t'.val / 4 % 4 = (grid0.coords t' 0).val := (coord_0 t').symm
    have e' : (grid0.coords t 0).val = (grid0.coords t' 0).val := e
    have hN : t.val < 16 := lt_of_lt_of_eq t.isLt (N_eq m)
    have hN' : t'.val < 16 := lt_of_lt_of_eq t'.isLt (N_eq m)
    have h1 := (flush_7 m t).mp hf
    have h2 := (flush_7 m t').mp hf'
    exact Fin.ext (by omega)

/-- The first weight's gradient array. -/
theorem arr_6 (c : Dev nD) (after) (h : ∀ (w : Fin (cfgM m).W) (u : Fin (cfgM m).N), ((cfgM m).win w).flush u = true → (rdat m c).Leaves w u (after w u))
    (k : Fin 4) (i : Fin 1024) (q : Fin 512) :
    (xdat m c after).arrAt 6 (cfgM m).N (ix3 k i q) = acc6 m c (4 * k.val + 3) (ix3 0 i q) := by
  have hv : (pt m (4 * k.val + 3)).val = 4 * k.val + 3 := by show (4 * k.val + 3) % 16 = _; omega
  have hf : ((cfgM m).win 6).flush (pt m (4 * k.val + 3)) = true := (flush_6 m _).mpr (by rw [hv]; omega)
  have hl : after 6 (pt m (4 * k.val + 3)) = acc6 m c (pt m (4 * k.val + 3)).val :=
    Dat.toRRel_leaves (fgt := held) (Rl := Holds m c) (dats m 0 c) (w := 6) rfl (h 6 _ hf)
  rw [hv] at hl
  have hy : (((cfgM m).win 6).blk (pt m (4 * k.val + 3))).view.emb (ix3 (n0 := 1) (n1 := 1024) (n2 := 512) 0 i q) = ix3 (n0 := 4) (n1 := 1024) (n2 := 512) k i q := by
    funext a
    apply Fin.ext
    refine (Pipeline.Window.rect_emb_val ((cfgM m).win 6) (pt m (4 * k.val + 3)) (ix3 (n0 := 1) (n1 := 1024) (n2 := 512) 0 i q) a rfl).trans ?_
    rw [index_6]
    have e0 : (grid0.coords (pt m (4 * k.val + 3)) 0).val = (pt m (4 * k.val + 3)).val / 4 % 4 := coord_0 _
    rw [hv] at e0
    match a with
    | ⟨0, _⟩ => show (grid0.coords (pt m (4 * k.val + 3)) 0).val * 1 + 0 = k.val; omega
    | ⟨1, _⟩ => show 0 * 1024 + i.val = i.val; omega
    | ⟨2, _⟩ => show 0 * 512 + q.val = q.val; omega
    | ⟨n + 3, hn⟩ => exact absurd (show n + 3 < 3 from hn) (by omega)
  have := (xdat m c after).arrAt_emb_eq_flushed 6 (disj_6 m) (pt m (4 * k.val + 3)) hf (ix3 (n0 := 1) (n1 := 1024) (n2 := 512) 0 i q)
  rw [hy] at this
  refine this.trans ?_
  rw [← hl]
  rfl

/-- The second weight's gradient array. -/
theorem arr_7 (c : Dev nD) (after) (h : ∀ (w : Fin (cfgM m).W) (u : Fin (cfgM m).N), ((cfgM m).win w).flush u = true → (rdat m c).Leaves w u (after w u))
    (k : Fin 4) (q : Fin 512) (j : Fin 1024) :
    (xdat m c after).arrAt 7 (cfgM m).N (ix3 k q j) = acc7 m c (4 * k.val + 3) (ix3 0 q j) := by
  have hv : (pt m (4 * k.val + 3)).val = 4 * k.val + 3 := by show (4 * k.val + 3) % 16 = _; omega
  have hf : ((cfgM m).win 7).flush (pt m (4 * k.val + 3)) = true := (flush_7 m _).mpr (by rw [hv]; omega)
  have hl : after 7 (pt m (4 * k.val + 3)) = acc7 m c (pt m (4 * k.val + 3)).val :=
    Dat.toRRel_leaves (fgt := held) (Rl := Holds m c) (dats m 0 c) (w := 7) rfl (h 7 _ hf)
  rw [hv] at hl
  have hy : (((cfgM m).win 7).blk (pt m (4 * k.val + 3))).view.emb (ix3 (n0 := 1) (n1 := 512) (n2 := 1024) 0 q j) = ix3 (n0 := 4) (n1 := 512) (n2 := 1024) k q j := by
    funext a
    apply Fin.ext
    refine (Pipeline.Window.rect_emb_val ((cfgM m).win 7) (pt m (4 * k.val + 3)) (ix3 (n0 := 1) (n1 := 512) (n2 := 1024) 0 q j) a rfl).trans ?_
    rw [index_7]
    have e0 : (grid0.coords (pt m (4 * k.val + 3)) 0).val = (pt m (4 * k.val + 3)).val / 4 % 4 := coord_0 _
    rw [hv] at e0
    match a with
    | ⟨0, _⟩ => show (grid0.coords (pt m (4 * k.val + 3)) 0).val * 1 + 0 = k.val; omega
    | ⟨1, _⟩ => show 0 * 512 + q.val = q.val; omega
    | ⟨2, _⟩ => show 0 * 1024 + j.val = j.val; omega
    | ⟨n + 3, hn⟩ => exact absurd (show n + 3 < 3 from hn) (by omega)
  have := (xdat m c after).arrAt_emb_eq_flushed 7 (disj_7 m) (pt m (4 * k.val + 3)) hf (ix3 (n0 := 1) (n1 := 512) (n2 := 1024) 0 q j)
  rw [hy] at this
  refine this.trans ?_
  rw [← hl]
  rfl

/-- The three output arrays after the run. -/
theorem outs_of (r : PUnit × MemSt nD τ sig (Elt F)) (h : Pipeline.RDat.FramePost ((Pipeline.pin pcfgs fun _ => adm m) 0) (rdat m) (V m) r) (c : Dev nD) :
    (∀ (b : Fin 4) (p : Fin 512) (j : Fin 1024), r.2.mem ((c.tc : Thread nD τ).loc main_v10_0) (ix2 (n0 := 2048) ⟨512 * b.val + p.val, by omega⟩ j) = acc5 m c b.val 3 (ix2 p j))
      ∧ (∀ (k : Fin 4) (i : Fin 1024) (q : Fin 512), r.2.mem ((c.tc : Thread nD τ).loc main_v10_1) (ix3 k i q) = acc6 m c (4 * k.val + 3) (ix3 0 i q))
      ∧ (∀ (k : Fin 4) (q : Fin 512) (j : Fin 1024), r.2.mem ((c.tc : Thread nD τ).loc main_v10_2) (ix3 k q j) = acc7 m c (4 * k.val + 3) (ix3 0 q j)) := by
  obtain ⟨after, hL, hA⟩ := Pipeline.RDat.FramePost.exists_exact h c
  exact ⟨fun b p j => (congrFun (hA 5) _).trans (arr_5 m c after hL b.val b.isLt p j),
    fun k i q => (congrFun (hA 6) _).trans (arr_6 m c after hL k i q),
    fun k q j => (congrFun (hA 7) _).trans (arr_7 m c after hL k q j)⟩

end Cert.Kernel2Ideal.Mlp

end
-- ==== Proof.MlpSpec.lean ====
/-
  The MLP backward's first half, as sums over the extended reals: the gradients that the kernel and the reference are both
  shown to compute.
-/
module

public import Idealize.ShloMosaic.Lib.Pointwise

@[expose] public section

noncomputable section

namespace Cert.MlpSpec

/-- Row `p` of block `b` of the rows. -/
def row (b : Fin 4) (p : Fin 512) : Fin 2048 := ⟨b.val * 512 + p.val, by omega⟩

/-- Column `q` of the odd block `2k+1` of the hidden columns. -/
def col (k : Fin 4) (q : Fin 512) : Fin 4096 := ⟨(2 * k.val + 1) * 512 + q.val, by omega⟩

variable (two : EReal) (H Z : Fin 2048 → Fin 1024 → EReal) (W₁ : Fin 1024 → Fin 4096 → EReal) (W₂ : Fin 4096 → Fin 1024 → EReal)

/-- The hidden layer's value clipped at zero. -/
def act (r : Fin 2048) (c : Fin 4096) : EReal := max (∑ d : Fin 1024, H r d * W₁ d c) 0

/-- The gradient at the hidden layer. -/
def hid (r : Fin 2048) (c : Fin 4096) : EReal := (∑ d : Fin 1024, Z r d * W₂ c d) * (two * act H W₁ r c)

/-- The input's gradient from the odd blocks of columns. -/
def dh2 (r : Fin 2048) (j : Fin 1024) : EReal := ∑ k : Fin 4, ∑ q : Fin 512, hid two H Z W₁ W₂ r (col k q) * W₁ j (col k q)

/-- The first weight's gradient, at the odd blocks of columns. -/
def dw1 (k : Fin 4) (i : Fin 1024) (q : Fin 512) : EReal :=
  ∑ b : Fin 4, ∑ p : Fin 512, H (row b p) i * hid two H Z W₁ W₂ (row b p) (col k q)

/-- The second weight's gradient, at the odd blocks of rows. -/
def dw2 (k : Fin 4) (q : Fin 512) (j : Fin 1024) : EReal :=
  ∑ b : Fin 4, ∑ p : Fin 512, (act H W₁ (row b p) (col k q) * act H W₁ (row b p) (col k q)) * Z (row b p) j

end Cert.MlpSpec

end
-- ==== Proof.MlpBlocks.lean ====
/-
  The MLP backward kernel, first half: the blocks that the input windows hold at each grid point, element by element, from
  the arguments.
-/
module

public import proofs.«01_k».proof.Proof.MlpKit
public import proofs.«01_k».proof.Proof.MlpSpec
public import Idealize.ShloMosaic.Lib.Pipeline.ValueKit
public import Idealize.ShloMosaic.Lib.Pointwise

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.MlpSpec (row col)

/-- The arguments, as functions of their coordinates. -/
abbrev argH (c : Dev nD) : Fin 2048 → Fin 1024 → EReal := fun r d => m ((c.tc : Thread nD τ).loc main_arg0) (ix2 r d)
abbrev argW₁ (c : Dev nD) : Fin 1024 → Fin 4096 → EReal := fun d k => m ((c.tc : Thread nD τ).loc main_arg1) (ix2 d k)
abbrev argW₂ (c : Dev nD) : Fin 4096 → Fin 1024 → EReal := fun k d => m ((c.tc : Thread nD τ).loc main_arg2) (ix2 k d)
abbrev argZ (c : Dev nD) : Fin 2048 → Fin 1024 → EReal := fun r d => m ((c.tc : Thread nD τ).loc main_arg3) (ix2 r d)

/-! ## The host's operations -/

theorem V_v7 (c : Dev nD) (d : Fin 1024) (r : Fin 2048) : V m c main_v7 (ix2 d r) = argH m c r d := by
  entry_read
  pointwise

theorem V_v8 (c : Dev nD) (r : Fin 2048) (k : Fin 4096) : V m c main_v8 (ix2 r k) = ∑ d : Fin 1024, argH m c r d * argW₁ m c d k := by
  entry_read
  pointwise

theorem V_v9 (c : Dev nD) (r : Fin 2048) (d : Fin 1024) : V m c main_v9 (ix2 r d) = argZ m c r d := by
  entry_read
  pointwise

theorem V_v4_lo (c : Dev nD) (k : Fin 4) (q : Fin 512) (d : Fin 1024) :
    V m c main_v4 (ix3 (n0 := 8) (n1 := 1024) (n2 := 1024) ⟨2 * k.val + 1, by omega⟩ ⟨q.val, by omega⟩ d) = argW₁ m c d (col k q) := by
  entry_read
  pointwise
  rfl

theorem V_v4_hi (c : Dev nD) (k : Fin 4) (q : Fin 512) (d : Fin 1024) :
    V m c main_v4 (ix3 (n0 := 8) (n1 := 1024) (n2 := 1024) ⟨2 * k.val + 1, by omega⟩ ⟨512 + q.val, by omega⟩ d) = argW₂ m c (col k q) d := by
  entry_read
  pointwise
  rfl

/-! ## The windows' blocks -/

/-- The grid point of block `k` of columns and block `b` of rows. -/
abbrev at_ (k b : Fin 4) : Fin (cfgM m).N := ⟨4 * k.val + b.val, by show _ < 16; omega⟩

theorem at_0 (k b : Fin 4) : (grid0.coords (at_ m k b) 0).val = k.val := by rw [coord_0]; show (4 * k.val + b.val) / 4 % 4 = k.val; omega
theorem at_1 (k b : Fin 4) : (grid0.coords (at_ m k b) 1).val = b.val := by rw [coord_1]; show (4 * k.val + b.val) / 1 % 4 = b.val; omega

theorem index_0 (t : Fin (cfgM m).N) : ((cfgM m).win 0).index t = ![0, (grid0.coords t 1).val] := by
  have h : (grid0.coords t 1).val < 4 := (grid0.coords t 1).isLt
  show cc0_transform_0 (grid0.coords t) = _
  unfold cc0_transform_0
  simp only [ix_small _ h]; rfl
theorem index_1 (t : Fin (cfgM m).N) : ((cfgM m).win 1).index t = ![(grid0.coords t 1).val, 2 * (grid0.coords t 0).val + 1] := ix_1 m (grid0.coords t)
theorem index_2 (t : Fin (cfgM m).N) : ((cfgM m).win 2).index t = ![(grid0.coords t 1).val, 0] := by
  have h : (grid0.coords t 1).val < 4 := (grid0.coords t 1).isLt
  show cc0_transform_2 (grid0.coords t) = _
  unfold cc0_transform_2
  simp only [ix_small _ h]; rfl
theorem index_3 (t : Fin (cfgM m).N) : ((cfgM m).win 3).index t = ![2 * (grid0.coords t 0).val + 1, 0, 0] := ix_3 m (grid0.coords t)
theorem index_4 (t : Fin (cfgM m).N) : ((cfgM m).win 4).index t = ![2 * (grid0.coords t 0).val + 1, 1, 0] := ix_4 m (grid0.coords t)

theorem iblk_0 (c : Dev nD) (k b : Fin 4) (d : Fin 1024) (p : Fin 512) :
    iblk m c 0 (at_ m k b) (ix2 (n0 := 1024) (n1 := 512) d p) = argH m c (row b p) d := by
  rw [← V_v7 m c d (row b p)]
  show V m c main_v7 ((((cfgM m).win 0).blk (at_ m k b)).view.emb (ix2 (n0 := 1024) (n1 := 512) d p)) = _
  refine congrArg _ (funext fun a => Fin.ext ?_)
  refine (Pipeline.Window.rect_emb_val ((cfgM m).win 0) (at_ m k b) (ix2 (n0 := 1024) (n1 := 512) d p) a rfl).trans ?_
  rw [index_0]
  have e0 := at_0 m k b
  have e1 := at_1 m k b
  match a with
  | ⟨0, _⟩ => show 0 * 1024 + d.val = d.val; omega
  | ⟨1, _⟩ => show (grid0.coords (at_ m k b) 1).val * 512 + p.val = b.val * 512 + p.val; omega
  | ⟨n + 2, hn⟩ => exact absurd (show n + 2 < 2 from hn) (by omega)

theorem iblk_1 (c : Dev nD) (k b : Fin 4) (p q : Fin 512) :
    iblk m c 1 (at_ m k b) (ix2 (n0 := 512) (n1 := 512) p q) = ∑ d : Fin 1024, argH m c (row b p) d * argW₁ m c d (col k q) := by
  rw [← V_v8 m c (row b p) (col k q)]
  show V m c main_v8 ((((cfgM m).win 1).blk (at_ m k b)).view.emb (ix2 (n0 := 512) (n1 := 512) p q)) = _
  refine congrArg _ (funext fun a => Fin.ext ?_)
  refine (Pipeline.Window.rect_emb_val ((cfgM m).win 1) (at_ m k b) (ix2 (n0 := 512) (n1 := 512) p q) a rfl).trans ?_
  rw [index_1]
  have e0 := at_0 m k b
  have e1 := at_1 m k b
  match a with
  | ⟨0, _⟩ => show (grid0.coords (at_ m k b) 1).val * 512 + p.val = b.val * 512 + p.val; omega
  | ⟨1, _⟩ => show (2 * (grid0.coords (at_ m k b) 0).val + 1) * 512 + q.val = (2 * k.val + 1) * 512 + q.val; omega
  | ⟨n + 2, hn⟩ => exact absurd (show n + 2 < 2 from hn) (by omega)

theorem iblk_2 (c : Dev nD) (k b : Fin 4) (p : Fin 512) (d : Fin 1024) :
    iblk m c 2 (at_ m k b) (ix2 (n0 := 512) (n1 := 1024) p d) = argZ m c (row b p) d := by
  rw [← V_v9 m c (row b p) d]
  show V m c main_v9 ((((cfgM m).win 2).blk (at_ m k b)).view.emb (ix2 (n0 := 512) (n1 := 1024) p d)) = _
  refine congrArg _ (funext fun a => Fin.ext ?_)
  refine (Pipeline.Window.rect_emb_val ((cfgM m).win 2) (at_ m k b) (ix2 (n0 := 512) (n1 := 1024) p d) a rfl).trans ?_
  rw [index_2]
  have e0 := at_0 m k b
  have e1 := at_1 m k b
  match a with
  | ⟨0, _⟩ => show (grid0.coords (at_ m k b) 1).val * 512 + p.val = b.val * 512 + p.val; omega
  | ⟨1, _⟩ => show 0 * 1024 + d.val = d.val; omega
  | ⟨n + 2, hn⟩ => exact absurd (show n + 2 < 2 from hn) (by omega)

theorem iblk_3 (c : Dev nD) (k b : Fin 4) (q : Fin 512) (d : Fin 1024) :
    iblk m c 3 (at_ m k b) (ix3 (n0 := 1) (n1 := 512) (n2 := 1024) 0 q d) = argW₁ m c d (col k q) := by
  rw [← V_v4_lo m c k q d]
  show V m c main_v4 ((((cfgM m).win 3).blk (at_ m k b)).view.emb (ix3 (n0 := 1) (n1 := 512) (n2 := 1024) 0 q d)) = _
  refine congrArg _ (funext fun a => Fin.ext ?_)
  refine (Pipeline.Window.rect_emb_val ((cfgM m).win 3) (at_ m k b) (ix3 (n0 := 1) (n1 := 512) (n2 := 1024) 0 q d) a rfl).trans ?_
  rw [index_3]
  have e0 := at_0 m k b
  have e1 := at_1 m k b
  match a with
  | ⟨0, _⟩ => show (2 * (grid0.coords (at_ m k b) 0).val + 1) * 1 + 0 = 2 * k.val + 1; omega
  | ⟨1, _⟩ => show 0 * 512 + q.val = q.val; omega
  | ⟨2, _⟩ => show 0 * 1024 + d.val = d.val; omega
  | ⟨n + 3, hn⟩ => exact absurd (show n + 3 < 3 from hn) (by omega)

theorem iblk_4 (c : Dev nD) (k b : Fin 4) (q : Fin 512) (d : Fin 1024) :
    iblk m c 4 (at_ m k b) (ix3 (n0 := 1) (n1 := 512) (n2 := 1024) 0 q d) = argW₂ m c (col k q) d := by
  rw [← V_v4_hi m c k q d]
  show V m c main_v4 ((((cfgM m).win 4).blk (at_ m k b)).view.emb (ix3 (n0 := 1) (n1 := 512) (n2 := 1024) 0 q d)) = _
  refine congrArg _ (funext fun a => Fin.ext ?_)
  refine (Pipeline.Window.rect_emb_val ((cfgM m).win 4) (at_ m k b) (ix3 (n0 := 1) (n1 := 512) (n2 := 1024) 0 q d) a rfl).trans ?_
  rw [index_4]
  have e0 := at_0 m k b
  have e1 := at_1 m k b
  match a with
  | ⟨0, _⟩ => show (2 * (grid0.coords (at_ m k b) 0).val + 1) * 1 + 0 = 2 * k.val + 1; omega
  | ⟨1, _⟩ => show 1 * 512 + q.val = 512 + q.val; omega
  | ⟨2, _⟩ => show 0 * 1024 + d.val = d.val; omega
  | ⟨n + 3, hn⟩ => exact absurd (show n + 3 < 3 from hn) (by omega)

end Cert.Kernel2Ideal.Mlp

end
-- ==== Proof.MlpPay.lean ====
/-
  The MLP backward kernel, first half: what its body computes from the blocks it reads, element by element.
-/
module

public import proofs.«01_k».proof.Proof.MlpKit
public import Idealize.ShloMosaic.Lib.Pointwise

@[expose] public section

set_option maxRecDepth 16384

noncomputable section

namespace Cert.Kernel2Ideal.Mlp

open Cert.Kernel2Ideal.Gen
open Idealize.ShloMosaic

/-- The literal two of the body. -/
abbrev two : EReal := Ideal.ofBits .f32 0x40000000#32

variable (w1 : Vec Ideal S1x512x1024 .bf16) (w2 : Vec Ideal S1x512x1024 .bf16) (dz : Vec Ideal S512x1024 .bf16) (f : Vec Ideal S512x512 .f32)
  (h : Vec Ideal S1024x512 .bf16)

theorem pay4_apply (p q : Fin 512) :
    k0_pay4 w2 dz f (ix2 p q) = (∑ d : Fin 1024, dz (ix2 p d) * w2 (ix3 0 q d)) * (two * max (f (ix2 p q)) 0) := by
  pointwise [k0_pay4, k0_pay2, k0_pay3]

theorem pay5_apply (p : Fin 512) (j : Fin 1024) :
    k0_pay5 w1 w2 dz f (ix2 p j) = ∑ q : Fin 512, k0_pay4 w2 dz f (ix2 p q) * w1 (ix3 0 q j) := by
  unfold k0_pay5; generalize k0_pay4 w2 dz f = g; pointwise

theorem pay1_apply (x y : Vec Ideal S512x1024 .f32) (p : Fin 512) (j : Fin 1024) :
    k0_pay1 x y (ix2 p j) = y (ix2 p j) + x (ix2 p j) := by
  pointwise [k0_pay1]

theorem pay9_apply (i : Fin 1024) (q : Fin 512) :
    k0_pay9 w2 dz f h (ix3 0 i q) = ∑ p : Fin 512, h (ix2 i p) * k0_pay4 w2 dz f (ix2 p q) := by
  unfold k0_pay9 k0_pay6; generalize k0_pay4 w2 dz f = g; pointwise

theorem pay11_apply (y : Vec Ideal S1x1024x512 .f32) (i : Fin 1024) (q : Fin 512) :
    k0_pay11 w2 dz f h y (ix3 0 i q) = y (ix3 0 i q) + ∑ p : Fin 512, h (ix2 i p) * k0_pay4 w2 dz f (ix2 p q) := by
  unfold k0_pay11 k0_pay6; generalize k0_pay4 w2 dz f = g; pointwise

theorem pay8_apply (q : Fin 512) (j : Fin 1024) :
    k0_pay8 dz f (ix3 0 q j) = ∑ p : Fin 512, (max (f (ix2 p q)) 0 * max (f (ix2 p q)) 0) * dz (ix2 p j) := by
  pointwise [k0_pay8, k0_pay7, k0_pay2, k0_pay3]

theorem pay10_apply (y : Vec Ideal S1x512x1024 .f32) (q : Fin 512) (j : Fin 1024) :
    k0_pay10 dz f y (ix3 0 q j) = y (ix3 0 q j) + ∑ p : Fin 512, (max (f (ix2 p q)) 0 * max (f (ix2 p q)) 0) * dz (ix2 p j) := by
  pointwise [k0_pay10, k0_pay7, k0_pay2, k0_pay3]

end Cert.Kernel2Ideal.Mlp

end
-- ==== Proof.MlpValue.lean ====
/-
  The MLP backward kernel, first half, over the extended reals: its three output arrays are the gradients of MlpSpec.
-/
module

public import proofs.«01_k».proof.Proof.MlpArrays
public import proofs.«01_k».proof.Proof.MlpBlocks
public import proofs.«01_k».proof.Proof.MlpPay

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.MlpSpec (row col act hid)

/-- The blocks of the input windows at a point. -/
def x0 (c : Dev nD) (t : Fin (cfgM m).N) : Vec Ideal S1024x512 .bf16 := iblk m c 0 t
def x1 (c : Dev nD) (t : Fin (cfgM m).N) : Vec Ideal S512x512 .f32 := iblk m c 1 t
def x2 (c : Dev nD) (t : Fin (cfgM m).N) : Vec Ideal S512x1024 .bf16 := iblk m c 2 t
def x3 (c : Dev nD) (t : Fin (cfgM m).N) : Vec Ideal S1x512x1024 .bf16 := iblk m c 3 t
def x4 (c : Dev nD) (t : Fin (cfgM m).N) : Vec Ideal S1x512x1024 .bf16 := iblk m c 4 t

/-- The block's clipped hidden values. -/
theorem act_point (c : Dev nD) (k b : Fin 4) (p q : Fin 512) :
    max (x1 m c (at_ m k b) (ix2 p q)) 0 = act (argH m c) (argW₁ m c) (row b p) (col k q) := by
  exact congrArg (fun x : EReal => max x 0) (iblk_1 m c k b p q)

/-- The gradient at the hidden layer that a point computes. -/
theorem hid_point (c : Dev nD) (k b : Fin 4) (p q : Fin 512) :
    k0_pay4 (x4 m c (at_ m k b)) (x2 m c (at_ m k b)) (x1 m c (at_ m k b)) (ix2 p q)
      = hid two (argH m c) (argZ m c) (argW₁ m c) (argW₂ m c) (row b p) (col k q) := by
  refine (pay4_apply _ _ _ p q).trans ?_
  unfold hid
  refine congr (congrArg _ (Finset.sum_congr rfl fun d _ => ?_)) (congrArg _ (act_point m c k b p q))
  exact congr (congrArg _ (iblk_2 m c k b p d)) (iblk_4 m c k b q d)

/-- A point's part of the input's gradient. -/
def part5 (c : Dev nD) (k b : Fin 4) (p : Fin 512) (j : Fin 1024) : EReal :=
  ∑ q : Fin 512, hid two (argH m c) (argZ m c) (argW₁ m c) (argW₂ m c) (row b p) (col k q) * argW₁ m c j (col k q)

/-- A point's part of the first weight's gradient. -/
def part6 (c : Dev nD) (k b : Fin 4) (i : Fin 1024) (q : Fin 512) : EReal :=
  ∑ p : Fin 512, argH m c (row b p) i * hid two (argH m c) (argZ m c) (argW₁ m c) (argW₂ m c) (row b p) (col k q)

/-- A point's part of the second weight's gradient. -/
def part7 (c : Dev nD) (k b : Fin 4) (q : Fin 512) (j : Fin 1024) : EReal :=
  ∑ p : Fin 512, (act (argH m c) (argW₁ m c) (row b p) (col k q) * act (argH m c) (argW₁ m c) (row b p) (col k q)) * argZ m c (row b p) j

theorem dh_point (c : Dev nD) (k b : Fin 4) (p : Fin 512) (j : Fin 1024) : dh m c (at_ m k b) (ix2 p j) = part5 m c k b p j := by
  refine (pay5_apply _ _ _ _ p j).trans ?_
  unfold part5
  exact Finset.sum_congr rfl fun q _ => congr (congrArg _ (hid_point m c k b p q)) (iblk_3 m c k b q j)

theorem sum6_point (c : Dev nD) (k b : Fin 4) (i : Fin 1024) (q : Fin 512) :
    (∑ p : Fin 512, x0 m c (at_ m k b) (ix2 i p) * k0_pay4 (x4 m c (at_ m k b)) (x2 m c (at_ m k b)) (x1 m c (at_ m k b)) (ix2 p q) : EReal)
      = part6 m c k b i q := by
  unfold part6
  exact Finset.sum_congr rfl fun p _ => congr (congrArg _ (iblk_0 m c k b i p)) (hid_point m c k b p q)

theorem sum7_point (c : Dev nD) (k b : Fin 4) (q : Fin 512) (j : Fin 1024) :
    (∑ p : Fin 512, (max (x1 m c (at_ m k b) (ix2 p q)) 0 * max (x1 m c (at_ m k b) (ix2 p q)) 0) * x2 m c (at_ m k b) (ix2 p j) : EReal)
      = part7 m c k b q j := by
  unfold part7
  exact Finset.sum_congr rfl fun p _ => congr (congrArg _ (congr (congrArg _ (act_point m c k b p q)) (act_point m c k b p q))) (iblk_2 m c k b p j)

theorem pt_at (k b : Fin 4) (n : ℕ) (h : n = 4 * k.val + b.val) : pt m n = at_ m k b := by
  subst h; exact Fin.ext (Nat.mod_eq_of_lt (by omega))

/-- The input's gradient. -/
theorem acc5_value (c : Dev nD) (b : Fin 4) (p : Fin 512) (j : Fin 1024) :
    acc5 m c b.val 3 (ix2 p j) = ∑ k : Fin 4, part5 m c k b p j := by
  have h0 : pt m b.val = at_ m 0 b := pt_at m 0 b _ (by show b.val = 4 * 0 + b.val; omega)
  have h1 : pt m (4 * (0 + 1) + b.val) = at_ m 1 b := pt_at m 1 b _ (by show _ = 4 * 1 + b.val; omega)
  have h2 : pt m (4 * (1 + 1) + b.val) = at_ m 2 b := pt_at m 2 b _ (by show _ = 4 * 2 + b.val; omega)
  have h3 : pt m (4 * (2 + 1) + b.val) = at_ m 3 b := pt_at m 3 b _ (by show _ = 4 * 3 + b.val; omega)
  have e0 : acc5 m c b.val 0 (ix2 p j) = part5 m c 0 b p j := by
    show dh m c (pt m b.val) (ix2 p j) = _
    rw [h0, dh_point]
  have e1 : acc5 m c b.val 1 (ix2 p j) = part5 m c 0 b p j + part5 m c 1 b p j := by
    show k0_pay1 (dh m c (pt m (4 * (0 + 1) + b.val))) (acc5 m c b.val 0) (ix2 p j) = _
    rw [pay1_apply, e0, h1, dh_point]
  have e2 : acc5 m c b.val 2 (ix2 p j) = part5 m c 0 b p j + part5 m c 1 b p j + part5 m c 2 b p j := by
    show k0_pay1 (dh m c (pt m (4 * (1 + 1) + b.val))) (acc5 m c b.val 1) (ix2 p j) = _
    rw [pay1_apply, e1, h2, dh_point]
  show k0_pay1 (dh m c (pt m (4 * (2 + 1) + b.val))) (acc5 m c b.val 2) (ix2 p j) = _
  rw [pay1_apply, e2, h3, dh_point, Fin.sum_univ_four]

/-- The first weight's gradient: a block of columns' first point, and a later one. -/
theorem acc6_start (c : Dev nD) (k : Fin 4) (i : Fin 1024) (q : Fin 512) (n : ℕ) (hn : n = 4 * k.val) :
    acc6 m c n (ix3 0 i q) = part6 m c k 0 i q := by
  have e : acc6 m c n = k0_pay9 (x4 m c (at_ m k 0)) (x2 m c (at_ m k 0)) (x1 m c (at_ m k 0)) (x0 m c (at_ m k 0)) := by
    have h := acc6_first m c (at_ m k 0) (by show (4 * k.val + 0) % 4 = 0; omega)
    rw [show (at_ m k 0).val = n from hn.symm] at h
    exact h.symm
  rw [e, pay9_apply]
  exact sum6_point m c k 0 i q

theorem acc6_step (c : Dev nD) (k b : Fin 4) (i : Fin 1024) (q : Fin 512) (n : ℕ) (hn : n + 1 = 4 * k.val + b.val) (hb : b.val ≠ 0) :
    acc6 m c (n + 1) (ix3 0 i q) = acc6 m c n (ix3 0 i q) + part6 m c k b i q := by
  have e : acc6 m c (n + 1) = k0_pay11 (x4 m c (at_ m k b)) (x2 m c (at_ m k b)) (x1 m c (at_ m k b)) (x0 m c (at_ m k b)) (acc6 m c n) := by
    have h := acc6_later m c (at_ m k b) (by show ¬(4 * k.val + b.val) % 4 = 0; omega)
    rw [show (at_ m k b).val = n + 1 from hn.symm] at h
    exact h.symm
  rw [e, pay11_apply]
  exact congrArg _ (sum6_point m c k b i q)

theorem acc6_value (c : Dev nD) (k : Fin 4) (i : Fin 1024) (q : Fin 512) :
    acc6 m c (4 * k.val + 3) (ix3 0 i q) = ∑ b : Fin 4, part6 m c k b i q := by
  rw [Fin.sum_univ_four, acc6_step m c k 3 i q (4 * k.val + 2) rfl (by decide), acc6_step m c k 2 i q (4 * k.val + 1) rfl (by decide),
    acc6_step m c k 1 i q (4 * k.val) rfl (by decide), acc6_start m c k i q (4 * k.val) rfl]

/-- The second weight's gradient: a block of columns' first point, and a later one. -/
theorem acc7_start (c : Dev nD) (k : Fin 4) (q : Fin 512) (j : Fin 1024) (n : ℕ) (hn : n = 4 * k.val) :
    acc7 m c n (ix3 0 q j) = part7 m c k 0 q j := by
  have e : acc7 m c n = k0_pay8 (x2 m c (at_ m k 0)) (x1 m c (at_ m k 0)) := by
    have h := acc7_first m c (at_ m k 0) (by show (4 * k.val + 0) % 4 = 0; omega)
    rw [show (at_ m k 0).val = n from hn.symm] at h
    exact h.symm
  rw [e, pay8_apply]
  exact sum7_point m c k 0 q j

theorem acc7_step (c : Dev nD) (k b : Fin 4) (q : Fin 512) (j : Fin 1024) (n : ℕ) (hn : n + 1 = 4 * k.val + b.val) (hb : b.val ≠ 0) :
    acc7 m c (n + 1) (ix3 0 q j) = acc7 m c n (ix3 0 q j) + part7 m c k b q j := by
  have e : acc7 m c (n + 1) = k0_pay10 (x2 m c (at_ m k b)) (x1 m c (at_ m k b)) (acc7 m c n) := by
    have h := acc7_later m c (at_ m k b) (by show ¬(4 * k.val + b.val) % 4 = 0; omega)
    rw [show (at_ m k b).val = n + 1 from hn.symm] at h
    exact h.symm
  rw [e, pay10_apply]
  exact congrArg _ (sum7_point m c k b q j)

theorem acc7_value (c : Dev nD) (k : Fin 4) (q : Fin 512) (j : Fin 1024) :
    acc7 m c (4 * k.val + 3) (ix3 0 q j) = ∑ b : Fin 4, part7 m c k b q j := by
  rw [Fin.sum_univ_four, acc7_step m c k 3 q j (4 * k.val + 2) rfl (by decide), acc7_step m c k 2 q j (4 * k.val + 1) rfl (by decide),
    acc7_step m c k 1 q j (4 * k.val) rfl (by decide), acc7_start m c k q j (4 * k.val) rfl]

/-- The output arrays hold the gradients. -/
theorem values_of (r : PUnit × MemSt nD τ sig (Elt Ideal)) (h : Pipeline.RDat.FramePost ((Pipeline.pin pcfgs fun _ => adm m) 0) (rdat m) (V m) r) (c : Dev nD) :
    (∀ (b : Fin 4) (p : Fin 512) (j : Fin 1024), r.2.mem ((c.tc : Thread nD τ).loc main_v10_0) (ix2 (row b p) j)
        = MlpSpec.dh2 two (argH m c) (argZ m c) (argW₁ m c) (argW₂ m c) (row b p) j)
      ∧ (∀ (k : Fin 4) (i : Fin 1024) (q : Fin 512), r.2.mem ((c.tc : Thread nD τ).loc main_v10_1) (ix3 k i q)
        = MlpSpec.dw1 two (argH m c) (argZ m c) (argW₁ m c) (argW₂ m c) k i q)
      ∧ (∀ (k : Fin 4) (q : Fin 512) (j : Fin 1024), r.2.mem ((c.tc : Thread nD τ).loc main_v10_2) (ix3 k q j)
        = MlpSpec.dw2 (argH m c) (argZ m c) (argW₁ m c) k q j) := by
  obtain ⟨h5, h6, h7⟩ := outs_of m r h c
  refine ⟨fun b p j => ?_, fun k i q => (h6 k i q).trans (acc6_value m c k i q), fun k q j => (h7 k q j).trans (acc7_value m c k q j)⟩
  rw [show row b p = ⟨512 * b.val + p.val, by omega⟩ from Fin.ext (by show b.val * 512 + p.val = 512 * b.val + p.val; omega)]
  refine (h5 b p j).trans ((acc5_value m c b p j).trans ?_)
  unfold MlpSpec.dh2 part5
  rw [show (⟨512 * b.val + p.val, by omega⟩ : Fin 2048) = row b p from Fin.ext (by show 512 * b.val + p.val = b.val * 512 + p.val; omega)]

end Cert.Kernel2Ideal.Mlp

end
-- ==== Proof.MlpRef.lean ====
/-
  The MLP backward's first half: the reference's results are the gradients of MlpSpec.
-/
module

public import proofs.«01_k».proof.Proof.MlpSpec
public import proofs.«01_k».proof.Proof.Gen.Reference2Ideal.Read
public import Idealize.ShloMosaic.Lib.Pointwise

@[expose] public section

set_option maxRecDepth 16384

noncomputable section

namespace Cert.Reference2Ideal.Mlp

open Cert.Reference2Ideal Cert.Reference2Ideal.Gen Cert.Reference2Ideal.Read
open Idealize.ShloMosaic
open Cert.MlpSpec (col row)

abbrev two : EReal := Ideal.ofBits .f32 0x40000000#32

variable (x0 : (⟨S2048x1024, .f32⟩ : BufTy).Contents (Elt Ideal)) (x1 : (⟨S1024x4096, .f32⟩ : BufTy).Contents (Elt Ideal))
  (x2 : (⟨S4096x1024, .f32⟩ : BufTy).Contents (Elt Ideal)) (x3 : (⟨S2048x1024, .f32⟩ : BufTy).Contents (Elt Ideal))

abbrev H : Fin 2048 → Fin 1024 → EReal := fun r d => x0 (ix2 r d)
abbrev W₁ : Fin 1024 → Fin 4096 → EReal := fun d c => x1 (ix2 d c)
abbrev W₂ : Fin 4096 → Fin 1024 → EReal := fun c d => x2 (ix2 c d)

/-- The odd block's column that the reference keeps as column `k`. -/
def odd (k : Fin 2048) : Fin 4096 := ⟨(2 * (k.val / 512) + 1) * 512 + k.val % 512, by omega⟩

theorem odd_col (k : Fin 4) (q : Fin 512) (h : k.val * 512 + q.val < 2048) : odd ⟨k.val * 512 + q.val, h⟩ = col k q := by
  apply Fin.ext; show (2 * ((k.val * 512 + q.val) / 512) + 1) * 512 + (k.val * 512 + q.val) % 512 = (2 * k.val + 1) * 512 + q.val; omega

theorem v3_apply (d : Fin 1024) (k : Fin 2048) : val_main_v3 (F := Ideal) x1 (ix2 d k) = x1 (ix2 d (odd k)) := by
  rw [val_main_v3_apply, val_main_v2_apply, val_main_v1_apply, val_main_v0_apply]
  refine congrArg x1 (funext fun a => Fin.ext ?_)
  have hd := d.isLt
  have hk := k.isLt
  match a with
  | ⟨0, _⟩ => simp only [ix2_0, ix2_1]; show _ = d.val; omega
  | ⟨1, _⟩ => simp only [ix2_0, ix2_1]; show _ = (2 * (k.val / 512) + 1) * 512 + k.val % 512; omega

theorem v9_apply (k : Fin 2048) (d : Fin 1024) : val_main_v9 (F := Ideal) x2 (ix2 k d) = x2 (ix2 (odd k) d) := by
  rw [val_main_v9_apply, val_main_v8_apply, val_main_v7_apply, val_main_v6_apply, val_main_v5_apply, val_main_v4_apply]
  refine congrArg x2 (funext fun a => Fin.ext ?_)
  have hd := d.isLt
  have hk := k.isLt
  match a with
  | ⟨0, _⟩ => simp only [ix2_0, ix2_1]; show _ = (2 * (k.val / 512) + 1) * 512 + k.val % 512; omega
  | ⟨1, _⟩ => simp only [ix2_0, ix2_1]; show _ = d.val; omega

theorem v10_apply (r k : Fin 2048) : val_main_v10 (F := Ideal) x0 x1 (ix2 r k) = ∑ d : Fin 1024, H x0 r d * W₁ x1 d (odd k) := by
  have e : ∀ d, val_main_v3 (F := Ideal) x1 (ix2 d k) = x1 (ix2 d (odd k)) := fun d => v3_apply x1 d k
  simp only [← e]
  unfold val_main_v10; generalize val_main_v3 (F := Ideal) x1 = g; pointwise

theorem v11_apply (r k : Fin 2048) : val_main_v11 (F := Ideal) x0 x1 (ix2 r k) = MlpSpec.act (H x0) (W₁ x1) r (odd k) := by
  unfold MlpSpec.act
  rw [← v10_apply]
  unfold val_main_v11 val_main_call0_v0 val_main_call0_cst; generalize val_main_v10 (F := Ideal) x0 x1 = g; pointwise

theorem v24_apply (r k : Fin 2048) : val_main_v24 (F := Ideal) x0 x1 x2 x3 (ix2 r k) = MlpSpec.hid two (H x0) (H x3) (W₁ x1) (W₂ x2) r (odd k) := by
  have e21 : val_main_v21 (F := Ideal) x2 x3 (ix2 r k) = ∑ d : Fin 1024, x3 (ix2 r d) * x2 (ix2 (odd k) d) := by
    have e : ∀ d, val_main_v9 (F := Ideal) x2 (ix2 k d) = x2 (ix2 (odd k) d) := fun d => v9_apply x2 k d
    simp only [← e]
    unfold val_main_v21; generalize val_main_v9 (F := Ideal) x2 = g; pointwise
  unfold MlpSpec.hid
  rw [← v11_apply, ← e21]
  unfold val_main_v24 val_main_v13 val_main_v22 val_main_v17 val_main_v11 val_main_call0_v0 val_main_call0_cst val_main_v12 val_main_v16 val_main_v23 val_main_cst val_main_cst_1 val_main_cst_2
  generalize val_main_v10 (F := Ideal) x0 x1 = g
  generalize val_main_v21 (F := Ideal) x2 x3 = g'
  pointwise
  by_cases h : 0 < g (ix2 r k)
  · rw [if_pos h]
  · rw [if_neg h, max_eq_right (not_lt.mp h), mul_zero, mul_zero]

theorem v27_apply (r : Fin 2048) (j : Fin 1024) : val_main_v27 (F := Ideal) x0 x1 x2 x3 (ix2 r j) = MlpSpec.dh2 two (H x0) (H x3) (W₁ x1) (W₂ x2) r j := by
  have e : val_main_v27 (F := Ideal) x0 x1 x2 x3 (ix2 r j) = ∑ k : Fin 2048, val_main_v24 (F := Ideal) x0 x1 x2 x3 (ix2 r k) * val_main_v3 (F := Ideal) x1 (ix2 j k) := by
    unfold val_main_v27; generalize val_main_v24 (F := Ideal) x0 x1 x2 x3 = g; generalize val_main_v3 (F := Ideal) x1 = g'; pointwise
  rw [e, Fin.sum_univ_tiles 4 512 rfl]
  unfold MlpSpec.dh2
  refine Finset.sum_congr rfl fun k _ => Finset.sum_congr rfl fun q _ => ?_
  rw [v24_apply, v3_apply, odd_col]

theorem v29_apply (k : Fin 4) (i : Fin 1024) (q : Fin 512) : val_main_v29 (F := Ideal) x0 x1 x2 x3 (ix3 k i q) = MlpSpec.dw1 two (H x0) (H x3) (W₁ x1) (W₂ x2) k i q := by
  have hkq : k.val * 512 + q.val < 2048 := by omega
  have e1 : val_main_v29 (F := Ideal) x0 x1 x2 x3 (ix3 k i q) = val_main_v25 (F := Ideal) x0 x1 x2 x3 (ix2 ⟨k.val * 512 + q.val, hkq⟩ i) := by
    rw [val_main_v29_apply, val_main_v28_apply, val_main_v26_apply]
    refine congrArg _ (funext fun a => Fin.ext ?_)
    have hi := i.isLt
    have hk := k.isLt
    have hq := q.isLt
    match a with
    | ⟨0, _⟩ => show ((i.val * 4 + k.val) * 512 + q.val) % 2048 = k.val * 512 + q.val; omega
    | ⟨1, _⟩ => show ((i.val * 4 + k.val) * 512 + q.val) / 2048 = i.val; omega
  have e2 : ∀ c, val_main_v25 (F := Ideal) x0 x1 x2 x3 (ix2 c i) = ∑ r : Fin 2048, val_main_v24 (F := Ideal) x0 x1 x2 x3 (ix2 r c) * x0 (ix2 r i) := by
    intro c; unfold val_main_v25; generalize val_main_v24 (F := Ideal) x0 x1 x2 x3 = g; pointwise
  rw [e1, e2, Fin.sum_univ_tiles 4 512 rfl]
  unfold MlpSpec.dw1
  refine Finset.sum_congr rfl fun b _ => Finset.sum_congr rfl fun p _ => ?_
  rw [v24_apply, odd_col, mul_comm]; rfl

theorem v30_apply (k : Fin 4) (q : Fin 512) (j : Fin 1024) : val_main_v30 (F := Ideal) x0 x1 x3 (ix3 k q j) = MlpSpec.dw2 (H x0) (H x3) (W₁ x1) k q j := by
  have hkq : k.val * 512 + q.val < 2048 := by omega
  have e1 : val_main_v30 (F := Ideal) x0 x1 x3 (ix3 k q j) = val_main_v19 (F := Ideal) x0 x1 x3 (ix2 j ⟨k.val * 512 + q.val, hkq⟩) := by
    rw [val_main_v30_apply, val_main_v20_apply]
    refine congrArg _ (funext fun a => Fin.ext ?_)
    have hj := j.isLt
    have hk := k.isLt
    have hq := q.isLt
    match a with
    | ⟨0, _⟩ => show ((k.val * 512 + q.val) * 1024 + j.val) % 1024 = j.val; omega
    | ⟨1, _⟩ => show ((k.val * 512 + q.val) * 1024 + j.val) / 1024 = k.val * 512 + q.val; omega
  have e2 : ∀ c, val_main_v19 (F := Ideal) x0 x1 x3 (ix2 j c) = ∑ r : Fin 2048, x3 (ix2 r j) * (val_main_v11 (F := Ideal) x0 x1 (ix2 r c) * val_main_v11 (F := Ideal) x0 x1 (ix2 r c)) := by
    intro c; unfold val_main_v19 val_main_v15; generalize val_main_v11 (F := Ideal) x0 x1 = g; pointwise
  rw [e1, e2, Fin.sum_univ_tiles 4 512 rfl]
  unfold MlpSpec.dw2
  refine Finset.sum_congr rfl fun b _ => Finset.sum_congr rfl fun p _ => ?_
  rw [v11_apply, odd_col, mul_comm]; rfl

end Cert.Reference2Ideal.Mlp

end
-- ==== Proof.MlpClaim.lean ====
/-
  The MLP backward's first half: the kernel's frames, the reference's frame, and the equality of their results over the
  extended reals.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.MlpSame
public import proofs.«01_k».proof.Proof.MlpValue
public import proofs.«01_k».proof.Proof.MlpRef
public import Idealize.ShloMosaic.Lib.Quiescent

@[expose] public section

noncomputable section

namespace Cert.MlpClaim

open Idealize.ShloMosaic Idealize.ShloMosaic.TcCoe Idealize.SL.Sem

set_option maxHeartbeats 8000000 in
set_option maxRecDepth 65536 in
/-- The kernel's frame: the ideal program's run, read at the TPU's own bits. -/
theorem frame_kernel2 : Cert.quiescent_Kernel2 (hKernel2 := Cert.Kernel2.Gen.facts) := fun m ρ _ => by
  rw [Cert.Same2.defs_eq, Cert.Same2.main_eq]
  exact Cert.Kernel2Ideal.Mlp.frame (F := Bits) m ρ

theorem frame_kernel2Ideal : Cert.quiescent_Kernel2Ideal (hKernel2Ideal := Cert.Kernel2Ideal.Gen.facts) := fun m ρ _ =>
  Cert.Kernel2Ideal.Mlp.frame (F := Ideal) m ρ

theorem frame_reference2Ideal : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

open Cert.Reference2Ideal.Read Cert.Reference2Ideal.Gen in
/-- Over the extended reals the kernel's three results are the reference's. -/
theorem algebraic : Cert.algebraic_Kernel2Ideal_Reference2Ideal (hKernel2Ideal := Cert.Kernel2Ideal.Gen.facts) (hReference2Ideal := Cert.Reference2Ideal.Gen.facts) := by
  intro m ρ m' ρ' _ hm
  have hd : ∀ c : Dev Cert.Kernel2Ideal.nD, c = 0 := fun c => Subsingleton.elim _ _
  refine ⟨fun c => val_main_v27 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => val_main_v29 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => val_main_v30 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)),
    ?_, ?_⟩
  · refine (θ_run Cert.Kernel2Ideal.defs _ _).mono (fun r h c => ?_) (Cert.Kernel2Ideal.Mlp.run_main (F := Ideal) m ρ)
    obtain ⟨h5, h6, h7⟩ := Cert.Kernel2Ideal.Mlp.values_of m r h.1 c
    refine ⟨funext fun i => ?_, funext fun i => ?_, funext fun i => ?_, Cert.Kernel2Ideal.Mlp.args_of m r h.1 c⟩
    · have hr : (i 0).val < 2048 := (i 0).isLt
      have e : i = ix2 (n0 := 2048) (n1 := 1024) (Cert.MlpSpec.row ⟨(i 0).val / 512, by omega⟩ ⟨(i 0).val % 512, by omega⟩) (i 1) := by
        funext a
        match a with
        | ⟨0, _⟩ => exact Fin.ext (by show (i 0).val = (i 0).val / 512 * 512 + (i 0).val % 512; omega)
        | ⟨1, _⟩ => rfl
        | ⟨n + 2, hn⟩ => exact absurd (show n + 2 < 2 from hn) (by omega)
      rw [e]
      exact (h5 _ _ _).trans (Cert.Reference2Ideal.Mlp.v27_apply _ _ _ _ _ _).symm
    · have e : i = ix3 (n0 := 4) (n1 := 1024) (n2 := 512) (i 0) (i 1) (i 2) := by
        funext a
        match a with
        | ⟨0, _⟩ => rfl
        | ⟨1, _⟩ => rfl
        | ⟨2, _⟩ => rfl
        | ⟨n + 3, hn⟩ => exact absurd (show n + 3 < 3 from hn) (by omega)
      rw [e]
      exact (h6 _ _ _).trans (Cert.Reference2Ideal.Mlp.v29_apply _ _ _ _ _ _ _).symm
    · have e : i = ix3 (n0 := 4) (n1 := 512) (n2 := 1024) (i 0) (i 1) (i 2) := by
        funext a
        match a with
        | ⟨0, _⟩ => rfl
        | ⟨1, _⟩ => rfl
        | ⟨2, _⟩ => rfl
        | ⟨n + 3, hn⟩ => exact absurd (show n + 3 < 3 from hn) (by omega)
      rw [e]
      exact (h7 _ _ _).trans (Cert.Reference2Ideal.Mlp.v30_apply _ _ _ _ _ _).symm
  · refine (θ_run Cert.Reference2Ideal.defs _ _).mono (fun r h c => ?_) (Cert.Reference2Ideal.Value.run (F := Ideal) m' ρ')
    obtain ⟨a0, a1, a2, a3⟩ := hm c
    obtain ⟨h0, h1, h2, h3⟩ := h c
    refine ⟨?_, ?_, ?_, h3⟩
    · show _ = val_main_v27 (F := Ideal) _ _ _ _
      exact (h0.trans (val_main_v27_eq _ _ _ _)).trans (by rw [a0, a1, a2, a3])
    · show _ = val_main_v29 (F := Ideal) _ _ _ _
      exact (h1.trans (val_main_v29_eq _ _ _ _)).trans (by rw [a0, a1, a2, a3])
    · show _ = val_main_v30 (F := Ideal) _ _ _
      exact (h2.trans (val_main_v30_eq _ _ _)).trans (by rw [a0, a1, a3])

end Cert.MlpClaim

end
-- ==== Proof.Mlp2Same.lean ====
/- The MLP backward kernel's second half: its program and its ideal program have the same text: their body tables and entry points are equal. -/
module

public import proofs.«01_k».proof.Defs
public import proofs.«01_k».proof.Proof.Gen.Kernel3
public import proofs.«01_k».proof.Proof.Gen.Kernel3Ideal

@[expose] public section

set_option maxRecDepth 65536
set_option maxHeartbeats 4000000

noncomputable section

namespace Cert.Same3

open Idealize.ShloMosaic Idealize.SL.Sem

/-- The two bodies of the MLP backward kernel are one function. -/
theorem body_eq : @Cert.Kernel3.cc0_mlp_bwd_second Bits _ Cert.Kernel3.Gen.facts
    = @Cert.Kernel3Ideal.cc0_mlp_bwd_second Bits _ Cert.Kernel3Ideal.Gen.facts := rfl

theorem defs₀_eq : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  rw [body_eq]
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel3.defs Bits _ Cert.Kernel3.Gen.facts = @Cert.Kernel3Ideal.defs Bits _ Cert.Kernel3Ideal.Gen.facts := by
  unfold Cert.Kernel3.defs Cert.Kernel3Ideal.defs
  rw [defs₀_eq]
  rfl

theorem main_eq : @Cert.Kernel3.main Bits _ Cert.Kernel3.Gen.facts = @Cert.Kernel3Ideal.main Bits _ Cert.Kernel3Ideal.Gen.facts := rfl

end Cert.Same3

end
-- ==== Proof.Mlp2Kit.lean ====
/-
  The MLP backward kernel, second half: what its proof is stated over. The memory the pipeline is entered with, the table
  the index maps read, each window's block at a grid point, and the body's branch conditions over the points.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.Claim
public import Idealize.ShloMosaic.Lib.WordCmp

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the pipeline is entered with -/

/-- The buffers of device `c` once the host's operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function runs the host's operations and enters the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host's operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table the index maps read -/

/-- The table's contents when the pipeline is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table holds zeros. -/
theorem tbl_zero : tbl m 0 = fun _ => (0#32 : BitVec 32) := by
  show V m 0 main_v5 = _
  entry_read
  rfl

theorem ix_word : ∀ n < 4, (Scalar.addi (Scalar.muli 2#32 (BitVec.ofNat 32 n)) (Scalar.xori 0#32 0#32)).toNat = 2 * n := by decide
theorem ix_small : ∀ n < 4, (BitVec.ofNat 32 n).toNat = n := by decide

/-- The blocks the index maps name with that table: the even blocks of columns. -/
theorem ix_1 (i : grid0.Coords) : cc0_transform_1 inb_S2_S1_0 numel1_S1 (tbl m) i = ![(i 1).val, 2 * (i 0).val] := by
  have h : (tbl m).at 0 (Rect.unit (s := S2) ![0] S1.size inb_S2_S1_0) numel1_S1 = (0#32 : BitVec 32) := by
    unfold Pipeline.Prefetch.Contents.at; rw [tbl_zero]
  unfold cc0_transform_1
  simp only [h, ix_word _ (i 0).isLt, ix_small _ (i 1).isLt]
theorem ix_3 (i : grid0.Coords) : cc0_transform_3 inb_S2_S1_0 numel1_S1 (tbl m) i = ![2 * (i 0).val, 0, 0] := by
  have h : (tbl m).at 0 (Rect.unit (s := S2) ![0] S1.size inb_S2_S1_0) numel1_S1 = (0#32 : BitVec 32) := by
    unfold Pipeline.Prefetch.Contents.at; rw [tbl_zero]
  unfold cc0_transform_3
  simp only [h, ix_word _ (i 0).isLt]; rfl
theorem ix_4 (i : grid0.Coords) : cc0_transform_4 inb_S2_S1_0 numel1_S1 (tbl m) i = ![2 * (i 0).val, 1, 0] := by
  have h : (tbl m).at 0 (Rect.unit (s := S2) ![0] S1.size inb_S2_S1_0) numel1_S1 = (0#32 : BitVec 32) := by
    unfold Pipeline.Prefetch.Contents.at; rw [tbl_zero]
  unfold cc0_transform_4
  simp only [h, ix_word _ (i 0).isLt]; rfl

/-- Every block the index maps name with that table is inside its array. -/
theorem ok : ok0 (F := F) (tbl m) := by
  unfold ok0
  refine ⟨fun i => ⟨fun a => ?_, .inl rfl⟩, fun i => ⟨fun a => ?_, .inr (Affine.block_words_dvd (of_decide_eq_true rfl) (by decide))⟩, fun i => ⟨fun a => ?_, .inr (Affine.block_words_dvd (of_decide_eq_true rfl) (by decide))⟩⟩
  · rw [ix_1]
    have h0 : (i 0).val < 4 := (i 0).isLt
    have h1 : (i 1).val < 4 := (i 1).isLt
    revert a; exact Fin.forall_fin_two.mpr ⟨by show ((i 1).val + 1) * 512 ≤ 2048; omega, by show (2 * (i 0).val + 1) * 512 ≤ 4096; omega⟩
  · rw [ix_3]
    have h0 : (i 0).val < 4 := (i 0).isLt
    match a with
    | 0 => show (2 * (i 0).val + 1) * 1 ≤ 8; omega
    | 1 => show (0 + 1) * 512 ≤ 1024; omega
    | 2 => show (0 + 1) * 1024 ≤ 1024; omega
  · rw [ix_4]
    have h0 : (i 0).val < 4 := (i 0).isLt
    match a with
    | 0 => show (2 * (i 0).val + 1) * 1 ≤ 8; omega
    | 1 => show (1 + 1) * 512 ≤ 1024; omega
    | 2 => show (0 + 1) * 1024 ≤ 1024; omega

/-- The table as admissible contents, and the pipeline at it. -/
abbrev adm : (pcfg0 (F := F)).Adm := ⟨tbl m, ok m⟩
abbrev cfgM : Pipeline.Cfg sig Λ₀ := cfg0 (adm m)

/-- The table as the body is handed it. -/
abbrev tbM : Memref sig .tc .smem S2 .i32 := Memref.whole main_v5
abbrev htbM : tbM.IsWhole := Memref.isWhole_whole _

/-- A table's buffer, and half of it held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0 holds its block at every point. -/
theorem before_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point. -/
theorem before_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point. -/
theorem before_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point. -/
theorem before_3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point. -/
theorem before_4 {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 holds its block at every point. -/
theorem before_5 {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point. -/
theorem before_6 {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## Where the output windows are written back -/

/-- The gradient of the input is written back at the last point only. -/
theorem flush_7 : ∀ t : Fin (cfgM m).N, ((cfgM m).win 7).flush t = true ↔ t.val % 16 = 15 :=
  (fun t => Pipeline.Window.flushOf_const cc0_transform_7 (fun _ _ => rfl) (n := 16) (by decide) rfl t : ∀ t : Fin grid0.N, Pipeline.Window.flushOf grid0 true cc0_transform_7 t = true ↔ t.val % 16 = 15)
/-- Weight gradient 1 is written back at the last point of each block of columns. -/
theorem flush_8 : ∀ t : Fin (cfgM m).N, ((cfgM m).win 8).flush t = true ↔ t.val % 4 = 3 :=
  (fun t => Pipeline.Window.flushOf_reads cc0_transform_8 reads0_8 hreads0_8 0 (by decide) (by decide) (Pipeline.Window.sep_of_coord cc0_transform_8 0 0 (fun _ => rfl) (by decide)) (P := 4) (m := 3) (by decide) rfl t : ∀ t : Fin grid0.N, Pipeline.Window.flushOf grid0 true cc0_transform_8 t = true ↔ t.val % 4 = 3)
/-- Weight gradient 2 is written back at the last point of each block of columns. -/
theorem flush_9 : ∀ t : Fin (cfgM m).N, ((cfgM m).win 9).flush t = true ↔ t.val % 4 = 3 :=
  (fun t => Pipeline.Window.flushOf_reads cc0_transform_9 reads0_9 hreads0_9 0 (by decide) (by decide) (Pipeline.Window.sep_of_coord cc0_transform_9 0 0 (fun _ => rfl) (by decide)) (P := 4) (m := 3) (by decide) rfl t : ∀ t : Fin grid0.N, Pipeline.Window.flushOf grid0 true cc0_transform_9 t = true ↔ t.val % 4 = 3)

/-! ## The grid's coordinates and the body's branch conditions -/

theorem coord_0 (t : Fin grid0.N) : (grid0.coords t 0).val = t.val / 4 % 4 := Pipeline.Grid.coords_val t 0 (by decide) rfl
theorem coord_1 (t : Fin grid0.N) : (grid0.coords t 1).val = t.val / 1 % 4 := Pipeline.Grid.coords_val t 1 (by decide) rfl

theorem cond_1 : ∀ t : Fin grid0.N, k0_cond1 (grid0.coords t) = 1#1 ↔ t.val % 4 = 0 := fun t => by
  have ht : t.val < 16 := Nat.lt_of_lt_of_eq t.isLt N_0
  have e0 := coord_0 t
  have e1 := coord_1 t
  simp only [k0_cond1, e0, e1]
  word_cmp
theorem cond_2 : ∀ t : Fin grid0.N, k0_cond2 (grid0.coords t) = 1#1 ↔ 1 ≤ t.val % 4 := fun t => by
  have ht : t.val < 16 := Nat.lt_of_lt_of_eq t.isLt N_0
  have e0 := coord_0 t
  have e1 := coord_1 t
  simp only [k0_cond2, e0, e1]
  word_cmp
theorem cond_3 : ∀ t : Fin grid0.N, k0_cond3 (grid0.coords t) = 1#1 ↔ t.val < 4 := fun t => by
  have ht : t.val < 16 := Nat.lt_of_lt_of_eq t.isLt N_0
  have e0 := coord_0 t
  have e1 := coord_1 t
  simp only [k0_cond3, e0, e1]
  word_cmp
theorem cond_4 : ∀ t : Fin grid0.N, k0_cond4 (grid0.coords t) = 1#1 ↔ 4 ≤ t.val := fun t => by
  have ht : t.val < 16 := Nat.lt_of_lt_of_eq t.isLt N_0
  have e0 := coord_0 t
  have e1 := coord_1 t
  simp only [k0_cond4, e0, e1]
  word_cmp

/-! ## The staging buffers at a point -/

abbrev ms_0 (t : Fin (cfgM m).N) : Memref sig .tc .vmem S1024x512 .bf16 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S512x512 .f32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S512x1024 .bf16 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S1x512x1024 .bf16 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S1x512x1024 .bf16 := spec0_4.stage ((cfgM m).slots t 4)
abbrev hs_4 (t : Fin (cfgM m).N) : (ms_4 m t).IsWhole := hstage0_4 (((cfgM m).slots t 4).cast nbuf0_4)
abbrev ms_5 (t : Fin (cfgM m).N) : Memref sig .tc .vmem S512x1024 .f32 := spec0_5.stage ((cfgM m).slots t 5)
abbrev hs_5 (t : Fin (cfgM m).N) : (ms_5 m t).IsWhole := hstage0_5 (((cfgM m).slots t 5).cast nbuf0_5)
abbrev ms_6 (t : Fin (cfgM m).N) : Memref sig .tc .vmem S8x128 .f32 := spec0_6.stage ((cfgM m).slots t 6)
abbrev hs_6 (t : Fin (cfgM m).N) : (ms_6 m t).IsWhole := hstage0_6 (((cfgM m).slots t 6).cast nbuf0_6)
abbrev ms_7 (t : Fin (cfgM m).N) : Memref sig .tc .vmem S2048x1024 .f32 := spec0_7.stage ((cfgM m).slots t 7)
abbrev hs_7 (t : Fin (cfgM m).N) : (ms_7 m t).IsWhole := hstage0_7 (((cfgM m).slots t 7).cast nbuf0_7)
abbrev ms_8 (t : Fin (cfgM m).N) : Memref sig .tc .vmem S1x1024x512 .f32 := spec0_8.stage ((cfgM m).slots t 8)
abbrev hs_8 (t : Fin (cfgM m).N) : (ms_8 m t).IsWhole := hstage0_8 (((cfgM m).slots t 8).cast nbuf0_8)
abbrev ms_9 (t : Fin (cfgM m).N) : Memref sig .tc .vmem S1x512x1024 .f32 := spec0_9.stage ((cfgM m).slots t 9)
abbrev hs_9 (t : Fin (cfgM m).N) : (ms_9 m t).IsWhole := hstage0_9 (((cfgM m).slots t 9).cast nbuf0_9)

end Cert.Kernel3Ideal.Mlp

end
-- ==== Proof.Mlp2Run.lean ====
/-
  The MLP backward kernel's body at a grid point, run once per case of its branches: what it leaves in the three output
  windows, in terms of the seven input blocks and what the output windows held before.
-/
module

public import proofs.«01_k».proof.Proof.Mlp2Kit
public import Idealize.ShloMosaic.Lib.WritesUnit
public import Idealize.ShloMosaic.Lib.VecWindow

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of the gradient window a point stores. -/
def getRows (i : grid0.Coords) (X : Vec F S2048x1024 .f32) : Vec F S512x1024 .f32 :=
  fun x => X (Fin.cons (⟨512 * (i 1).val + (x 0).val, by
    have h : (i 1).val < 4 := (i 1).isLt
    have h' : (x 0).val < 512 := (x 0).isLt
    show _ < 2048; omega⟩) (Fin.cons (x 1) finZeroElim))
/-- The rows of the gradient window a point stores, replaced by `p`. -/
def putRows (i : grid0.Coords) (p : Vec F S512x1024 .f32) (X : Vec F S2048x1024 .f32) : Vec F S2048x1024 .f32 :=
  fun y => if h : 512 * (i 1).val ≤ (y 0).val ∧ (y 0).val < 512 * (i 1).val + 512 then
    p (Fin.cons (⟨(y 0).val - 512 * (i 1).val, by show _ < 512; omega⟩) (Fin.cons (y 1) finZeroElim)) else X y

theorem off_word : ∀ n < 4, (Scalar.indexCast (Scalar.muli (BitVec.ofNat 32 n) 512#32)).toNat = 512 * n := by decide
theorem off_1 (i : grid0.Coords) : k0_off1 i = ![512 * (i 1).val, 0] := by
  unfold k0_off1; simp only [off_word _ (i 1).isLt]
theorem off_2 (i : grid0.Coords) : k0_off2 i = ![512 * (i 1).val, 0] := by
  unfold k0_off2; simp only [off_word _ (i 1).isLt]

/-- Loading those rows. -/
theorem load_rows (i : grid0.Coords) (M : Memref sig .tc .vmem S2048x1024 .f32) (hM : M.IsWhole) (y : Vec F S2048x1024 .f32)
    {off : Fin 2 → ℕ} (inb : ∀ a, off a + S512x1024.size a ≤ S2048x1024.size a) (ho : off = ![512 * (i 1).val, 0]) :
    M.view.readAt (Elt F) (Rect.unit (s := S2048x1024) off S512x1024.size inb).toLoadRect (hM.unread y) = getRows i y := by
  subst ho
  funext x
  refine (congrFun (hM.read_unread y) _).trans (congrArg y (funext fun a => Fin.ext ?_))
  match a with
  | 0 => show 512 * (i 1).val + 1 * (x 0).val = 512 * (i 1).val + (x 0).val; omega
  | 1 => show 0 + 1 * (x 1).val = (x 1).val; omega

/-- Storing those rows. -/
theorem store_rows (i : grid0.Coords) (M : Memref sig .tc .vmem S2048x1024 .f32) (hM : M.IsWhole) (y : Vec F S2048x1024 .f32) (p : Vec F S512x1024 .f32)
    {off : Fin 2 → ℕ} (inb : ∀ a, off a + S512x1024.size a ≤ S2048x1024.size a) (ho : off = ![512 * (i 1).val, 0]) :
    M.view.read (Elt F) (M.view.writes (Elt F) (hM.unread y) [⟨Rect.unit (s := S2048x1024) off S512x1024.size inb, p⟩]) = putRows i p y := by
  funext z
  unfold putRows
  split
  · rename_i h
    exact View.read_writes_cons_rows_of_mem M.view (hM.unread y) inb p [] z
      (Fin.cons (⟨(z 0).val - 512 * (i 1).val, by show _ < 512; omega⟩) (Fin.cons (z 1) finZeroElim)) ho
      (by show (z 0).val = 512 * (i 1).val + ((z 0).val - 512 * (i 1).val); omega) rfl
  · rename_i h
    exact (View.read_writes_cons_rows_of_not_mem M.view (hM.unread y) inb p [] z ho (W := 512) rfl (by omega)).trans
      (congrFun (hM.read_unread y) z)

set_option maxHeartbeats 1000000 in
theorem run_A (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S2048x1024 .f32) (harg10 : arg10.IsWhole) (arg11 : Memref sig .tc .vmem S1x1024x512 .f32) (harg11 : arg11.IsWhole) (arg12 : Memref sig .tc .vmem S1x512x1024 .f32) (harg12 : arg12.IsWhole) (hc0 : k0_cond1 i = 1#1) (hc1 : ¬k0_cond2 i = 1#1) (hc2 : k0_cond3 i = 1#1) (hc3 : ¬k0_cond4 i = 1#1)
    (x0 : Vec F S1024x512 .bf16) (x1 : Vec F S512x512 .f32) (x2 : Vec F S512x1024 .bf16) (x3 : Vec F S1x512x1024 .bf16) (x4 : Vec F S1x512x1024 .bf16) (x5 : Vec F S512x1024 .f32) (x6 : Vec F S8x128 .f32)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y5 ∗ owns (c : Thread nD τ) arg11 fullShare y6 ∗ owns (c : Thread nD τ) arg12 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (putRows i (k0_pay1 (k0_pay6 x3 x4 x2 x1) x5) y5) ∗ owns (c : Thread nD τ) arg11 fullShare (k0_pay10 x4 x2 x1 x0) ∗ owns (c : Thread nD τ) arg12 fullShare (k0_pay9 x2 x1) ∗ tbPt c tbM xt) -∗ K ⟨⟩))
      ⊢ wp frame (wpE (defs₀ (F := F)) Variants.none c none) E (cc0_mlp_bwd_second i tbM htbM arg3 harg3 arg4 harg4 arg5 harg5 arg6 harg6 arg7 harg7 arg8 harg8 arg9 harg9 arg10 harg10 arg11 harg11 arg12 harg12) K := by
  simp only [cc0_mlp_bwd_second_eq_skeleton]; unfold cc0_mlp_bwd_second_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have ea : arg8.view.readAt (Elt F) (Rect.unit (s := S512x1024) ![0, 0] S512x1024.size inb_S512x1024_S512x1024_0_0).toLoadRect (harg8.unread x5) = x5 := (View.readAt_full ..).trans (harg8.read_unread x5)
  have e6 : arg11.view.readAt (Elt F) (Rect.unit (s := S1x1024x512) ![0, 0, 0] S1x1024x512.size inb_S1x1024x512_S1x1024x512_0_0_0).toLoadRect (harg11.unread y6) = y6 := (View.readAt_full ..).trans (harg11.read_unread y6)
  have e7 : arg12.view.readAt (Elt F) (Rect.unit (s := S1x512x1024) ![0, 0, 0] S1x512x1024.size inb_S1x512x1024_S1x512x1024_0_0_0).toLoadRect (harg12.unread y7) = y7 := (View.readAt_full ..).trans (harg12.read_unread y7)
  unfold owns
  iintro ⟨⟨%f0, %hf0, H0⟩, ⟨%f1, %hf1, H1⟩, ⟨%f2, %hf2, H2⟩, ⟨%f3, %hf3, H3⟩, ⟨%f4, %hf4, H4⟩, ⟨%fa, %hfa, Ha⟩, ⟨%fb, %hfb, Hb⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfa; obtain rfl := harg9.eq_unread hfb
  obtain rfl := harg10.eq_unread hf5; obtain rfl := harg11.eq_unread hf6; obtain rfl := harg12.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Ha]
  · iexists _; isplitr; · ipureintro; exact harg8.read_unread _
    iexact Ha
  isplitl [Hb]
  · iexists _; isplitr; · ipureintro; exact harg9.read_unread _
    iexact Hb
  isplitl [H5]
  · iexists _; isplitr; swap; · iexact H5
    ipureintro
    rw [store_rows i arg10 harg10 y5 _ _ (off_1 i)]
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_B (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S2048x1024 .f32) (harg10 : arg10.IsWhole) (arg11 : Memref sig .tc .vmem S1x1024x512 .f32) (harg11 : arg11.IsWhole) (arg12 : Memref sig .tc .vmem S1x512x1024 .f32) (harg12 : arg12.IsWhole) (hc0 : ¬k0_cond1 i = 1#1) (hc1 : k0_cond2 i = 1#1) (hc2 : k0_cond3 i = 1#1) (hc3 : ¬k0_cond4 i = 1#1)
    (x0 : Vec F S1024x512 .bf16) (x1 : Vec F S512x512 .f32) (x2 : Vec F S512x1024 .bf16) (x3 : Vec F S1x512x1024 .bf16) (x4 : Vec F S1x512x1024 .bf16) (x5 : Vec F S512x1024 .f32) (x6 : Vec F S8x128 .f32)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y5 ∗ owns (c : Thread nD τ) arg11 fullShare y6 ∗ owns (c : Thread nD τ) arg12 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (putRows i (k0_pay1 (k0_pay6 x3 x4 x2 x1) x5) y5) ∗ owns (c : Thread nD τ) arg11 fullShare (k0_pay12 x4 x2 x1 x0 y6) ∗ owns (c : Thread nD τ) arg12 fullShare (k0_pay11 x2 x1 y7) ∗ tbPt c tbM xt) -∗ K ⟨⟩))
      ⊢ wp frame (wpE (defs₀ (F := F)) Variants.none c none) E (cc0_mlp_bwd_second i tbM htbM arg3 harg3 arg4 harg4 arg5 harg5 arg6 harg6 arg7 harg7 arg8 harg8 arg9 harg9 arg10 harg10 arg11 harg11 arg12 harg12) K := by
  simp only [cc0_mlp_bwd_second_eq_skeleton]; unfold cc0_mlp_bwd_second_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have ea : arg8.view.readAt (Elt F) (Rect.unit (s := S512x1024) ![0, 0] S512x1024.size inb_S512x1024_S512x1024_0_0).toLoadRect (harg8.unread x5) = x5 := (View.readAt_full ..).trans (harg8.read_unread x5)
  have e6 : arg11.view.readAt (Elt F) (Rect.unit (s := S1x1024x512) ![0, 0, 0] S1x1024x512.size inb_S1x1024x512_S1x1024x512_0_0_0).toLoadRect (harg11.unread y6) = y6 := (View.readAt_full ..).trans (harg11.read_unread y6)
  have e7 : arg12.view.readAt (Elt F) (Rect.unit (s := S1x512x1024) ![0, 0, 0] S1x512x1024.size inb_S1x512x1024_S1x512x1024_0_0_0).toLoadRect (harg12.unread y7) = y7 := (View.readAt_full ..).trans (harg12.read_unread y7)
  unfold owns
  iintro ⟨⟨%f0, %hf0, H0⟩, ⟨%f1, %hf1, H1⟩, ⟨%f2, %hf2, H2⟩, ⟨%f3, %hf3, H3⟩, ⟨%f4, %hf4, H4⟩, ⟨%fa, %hfa, Ha⟩, ⟨%fb, %hfb, Hb⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfa; obtain rfl := harg9.eq_unread hfb
  obtain rfl := harg10.eq_unread hf5; obtain rfl := harg11.eq_unread hf6; obtain rfl := harg12.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Ha]
  · iexists _; isplitr; · ipureintro; exact harg8.read_unread _
    iexact Ha
  isplitl [Hb]
  · iexists _; isplitr; · ipureintro; exact harg9.read_unread _
    iexact Hb
  isplitl [H5]
  · iexists _; isplitr; swap; · iexact H5
    ipureintro
    rw [store_rows i arg10 harg10 y5 _ _ (off_1 i)]
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_C (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S2048x1024 .f32) (harg10 : arg10.IsWhole) (arg11 : Memref sig .tc .vmem S1x1024x512 .f32) (harg11 : arg11.IsWhole) (arg12 : Memref sig .tc .vmem S1x512x1024 .f32) (harg12 : arg12.IsWhole) (hc0 : k0_cond1 i = 1#1) (hc1 : ¬k0_cond2 i = 1#1) (hc2 : ¬k0_cond3 i = 1#1) (hc3 : k0_cond4 i = 1#1)
    (x0 : Vec F S1024x512 .bf16) (x1 : Vec F S512x512 .f32) (x2 : Vec F S512x1024 .bf16) (x3 : Vec F S1x512x1024 .bf16) (x4 : Vec F S1x512x1024 .bf16) (x5 : Vec F S512x1024 .f32) (x6 : Vec F S8x128 .f32)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y5 ∗ owns (c : Thread nD τ) arg11 fullShare y6 ∗ owns (c : Thread nD τ) arg12 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (putRows i (k0_pay2 (k0_pay6 x3 x4 x2 x1) (getRows i y5)) y5) ∗ owns (c : Thread nD τ) arg11 fullShare (k0_pay10 x4 x2 x1 x0) ∗ owns (c : Thread nD τ) arg12 fullShare (k0_pay9 x2 x1) ∗ tbPt c tbM xt) -∗ K ⟨⟩))
      ⊢ wp frame (wpE (defs₀ (F := F)) Variants.none c none) E (cc0_mlp_bwd_second i tbM htbM arg3 harg3 arg4 harg4 arg5 harg5 arg6 harg6 arg7 harg7 arg8 harg8 arg9 harg9 arg10 harg10 arg11 harg11 arg12 harg12) K := by
  simp only [cc0_mlp_bwd_second_eq_skeleton]; unfold cc0_mlp_bwd_second_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have ea : arg8.view.readAt (Elt F) (Rect.unit (s := S512x1024) ![0, 0] S512x1024.size inb_S512x1024_S512x1024_0_0).toLoadRect (harg8.unread x5) = x5 := (View.readAt_full ..).trans (harg8.read_unread x5)
  have e6 : arg11.view.readAt (Elt F) (Rect.unit (s := S1x1024x512) ![0, 0, 0] S1x1024x512.size inb_S1x1024x512_S1x1024x512_0_0_0).toLoadRect (harg11.unread y6) = y6 := (View.readAt_full ..).trans (harg11.read_unread y6)
  have e7 : arg12.view.readAt (Elt F) (Rect.unit (s := S1x512x1024) ![0, 0, 0] S1x512x1024.size inb_S1x512x1024_S1x512x1024_0_0_0).toLoadRect (harg12.unread y7) = y7 := (View.readAt_full ..).trans (harg12.read_unread y7)
  unfold owns
  iintro ⟨⟨%f0, %hf0, H0⟩, ⟨%f1, %hf1, H1⟩, ⟨%f2, %hf2, H2⟩, ⟨%f3, %hf3, H3⟩, ⟨%f4, %hf4, H4⟩, ⟨%fa, %hfa, Ha⟩, ⟨%fb, %hfb, Hb⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfa; obtain rfl := harg9.eq_unread hfb
  obtain rfl := harg10.eq_unread hf5; obtain rfl := harg11.eq_unread hf6; obtain rfl := harg12.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Ha]
  · iexists _; isplitr; · ipureintro; exact harg8.read_unread _
    iexact Ha
  isplitl [Hb]
  · iexists _; isplitr; · ipureintro; exact harg9.read_unread _
    iexact Hb
  isplitl [H5]
  · iexists _; isplitr; swap; · iexact H5
    ipureintro
    rw [store_rows i arg10 harg10 y5 _ _ (off_2 i)]
    have h := congrArg (fun v => putRows i (k0_pay2 (k0_pay6 x3 x4 x2 x1) v) y5) (load_rows i arg10 harg10 y5 (k0_off2_inb i hc3) (off_2 i))
    exact h
  isplitl [H6]
  · iexists _; isplitr; swap; · iexact H6
    ipureintro
    rw [View.read_writes_full]
  isplitl [H7]
  · iexists _; isplitr; swap; · iexact H7
    ipureintro
    rw [View.read_writes_full]
  iexact HT

set_option maxHeartbeats 1000000 in
theorem run_D (c : Dev nD) (i : grid0.Coords) (arg3 : Memref sig .tc .vmem S1024x512 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S8x128 .f32) (harg9 : arg9.IsWhole) (arg10 : Memref sig .tc .vmem S2048x1024 .f32) (harg10 : arg10.IsWhole) (arg11 : Memref sig .tc .vmem S1x1024x512 .f32) (harg11 : arg11.IsWhole) (arg12 : Memref sig .tc .vmem S1x512x1024 .f32) (harg12 : arg12.IsWhole) (hc0 : ¬k0_cond1 i = 1#1) (hc1 : k0_cond2 i = 1#1) (hc2 : ¬k0_cond3 i = 1#1) (hc3 : k0_cond4 i = 1#1)
    (x0 : Vec F S1024x512 .bf16) (x1 : Vec F S512x512 .f32) (x2 : Vec F S512x1024 .bf16) (x3 : Vec F S1x512x1024 .bf16) (x4 : Vec F S1x512x1024 .bf16) (x5 : Vec F S512x1024 .f32) (x6 : Vec F S8x128 .f32)
    (y5 : Vec F S2048x1024 .f32) (y6 : Vec F S1x1024x512 .f32) (y7 : Vec F S1x512x1024 .f32) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y5 ∗ owns (c : Thread nD τ) arg11 fullShare y6 ∗ owns (c : Thread nD τ) arg12 fullShare y7 ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (putRows i (k0_pay2 (k0_pay6 x3 x4 x2 x1) (getRows i y5)) y5) ∗ owns (c : Thread nD τ) arg11 fullShare (k0_pay12 x4 x2 x1 x0 y6) ∗ owns (c : Thread nD τ) arg12 fullShare (k0_pay11 x2 x1 y7) ∗ tbPt c tbM xt) -∗ K ⟨⟩))
      ⊢ wp frame (wpE (defs₀ (F := F)) Variants.none c none) E (cc0_mlp_bwd_second i tbM htbM arg3 harg3 arg4 harg4 arg5 harg5 arg6 harg6 arg7 harg7 arg8 harg8 arg9 harg9 arg10 harg10 arg11 harg11 arg12 harg12) K := by
  simp only [cc0_mlp_bwd_second_eq_skeleton]; unfold cc0_mlp_bwd_second_skel
  simp only [k0_part1_eq_skeleton]
  have e0 : arg3.view.readAt (Elt F) (Rect.unit (s := S1024x512) ![0, 0] S1024x512.size inb_S1024x512_S1024x512_0_0).toLoadRect (harg3.unread x0) = x0 := (View.readAt_full ..).trans (harg3.read_unread x0)
  have e1 : arg4.view.readAt (Elt F) (Rect.unit (s := S512x512) ![0, 0] S512x512.size inb_S512x512_S512x512_0_0).toLoadRect (harg4.unread x1) = x1 := (View.readAt_full ..).trans (harg4.read_unread x1)
  have e2 : arg5.view.readAt (Elt F) (Rect.unit (s := S512x1024) ![0, 0] S512x1024.size inb_S512x1024_S512x1024_0_0).toLoadRect (harg5.unread x2) = x2 := (View.readAt_full ..).trans (harg5.read_unread x2)
  have e3 : arg6.view.readAt (Elt F) (Rect.unit (s := S1x512x1024) ![0, 0, 0] S1x512x1024.size inb_S1x512x1024_S1x512x1024_0_0_0).toLoadRect (harg6.unread x3) = x3 := (View.readAt_full ..).trans (harg6.read_unread x3)
  have e4 : arg7.view.readAt (Elt F) (Rect.unit (s := S1x512x1024) ![0, 0, 0] S1x512x1024.size inb_S1x512x1024_S1x512x1024_0_0_0).toLoadRect (harg7.unread x4) = x4 := (View.readAt_full ..).trans (harg7.read_unread x4)
  have ea : arg8.view.readAt (Elt F) (Rect.unit (s := S512x1024) ![0, 0] S512x1024.size inb_S512x1024_S512x1024_0_0).toLoadRect (harg8.unread x5) = x5 := (View.readAt_full ..).trans (harg8.read_unread x5)
  have e6 : arg11.view.readAt (Elt F) (Rect.unit (s := S1x1024x512) ![0, 0, 0] S1x1024x512.size inb_S1x1024x512_S1x1024x512_0_0_0).toLoadRect (harg11.unread y6) = y6 := (View.readAt_full ..).trans (harg11.read_unread y6)
  have e7 : arg12.view.readAt (Elt F) (Rect.unit (s := S1x512x1024) ![0, 0, 0] S1x512x1024.size inb_S1x512x1024_S1x512x1024_0_0_0).toLoadRect (harg12.unread y7) = y7 := (View.readAt_full ..).trans (harg12.read_unread y7)
  unfold owns
  iintro ⟨⟨%f0, %hf0, H0⟩, ⟨%f1, %hf1, H1⟩, ⟨%f2, %hf2, H2⟩, ⟨%f3, %hf3, H3⟩, ⟨%f4, %hf4, H4⟩, ⟨%fa, %hfa, Ha⟩, ⟨%fb, %hfb, Hb⟩, ⟨%f5, %hf5, H5⟩, ⟨%f6, %hf6, H6⟩, ⟨%f7, %hf7, H7⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfa; obtain rfl := harg9.eq_unread hfb
  obtain rfl := harg10.eq_unread hf5; obtain rfl := harg11.eq_unread hf6; obtain rfl := harg12.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Ha]
  · iexists _; isplitr; · ipureintro; exact harg8.read_unread _
    iexact Ha
  isplitl [Hb]
  · iexists _; isplitr; · ipureintro; exact harg9.read_unread _
    iexact Hb
  isplitl [H5]
  · iexists _; isplitr; swap; · iexact H5
    ipureintro
    rw [store_rows i arg10 harg10 y5 _ _ (off_2 i)]
    have h := congrArg (fun v => putRows i (k0_pay2 (k0_pay6 x3 x4 x2 x1) v) y5) (load_rows i arg10 harg10 y5 (k0_off2_inb i hc3) (off_2 i))
    exact h
  isplitl [H6]
  · iexists _; isplitr; swap; · iexact H6
    ipureintro
    rw [View.read_writes_full]
  isplitl [H7]
  · iexists _; isplitr; swap; · iexact H7
    ipureintro
    rw [View.read_writes_full]
  iexact HT

end Cert.Kernel3Ideal.Mlp

end
-- ==== Proof.Mlp2Frame.lean ====
/-
  The MLP backward kernel, second half: what its three output windows hold after each grid point, the body's obligation at
  every point, and the run: it ends, leaves the arguments, and the three output arrays hold sums of the points' products.
-/
module

public import proofs.«01_k».proof.Proof.Mlp2Run
public import Idealize.ShloMosaic.Lib.Pipeline.DatRel
public import Idealize.ShloMosaic.Lib.Pipeline.ArrRel

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output windows hold -/

theorem N_eq : (cfgM m).N = 16 := N_0

/-- Grid point `n`. -/
def pt (n : ℕ) : Fin (cfgM m).N := ⟨n % 16, by rw [N_eq]; omega⟩

theorem pt_val (t : Fin (cfgM m).N) : pt m t.val = t :=
  Fin.ext (Nat.mod_eq_of_lt (lt_of_lt_of_eq t.isLt (N_eq m)))

/-- The input's gradient from one point's rows and block of columns. -/
def dh (c : Dev nD) (t : Fin (cfgM m).N) : Vec F S512x1024 .f32 := k0_pay6 (iblk m c 3 t) (iblk m c 4 t) (iblk m c 2 t) (iblk m c 1 t)

/-- Block `b` of the rows of `X`. -/
def rowsAt (b : ℕ) (hb : b < 4) (X : Vec F S2048x1024 .f32) : Vec F S512x1024 .f32 :=
  fun x => X (Fin.cons (⟨512 * b + (x 0).val, by
    have h' : (x 0).val < 512 := (x 0).isLt
    show _ < 2048; omega⟩) (Fin.cons (x 1) finZeroElim))

/-- Block `b` of the rows of the input's gradient, the first half's plus the sum over the blocks of columns up to `k`. -/
def acc5 (c : Dev nD) (b : ℕ) : ℕ → Vec F S512x1024 .f32
  | 0 => k0_pay1 (dh m c (pt m b)) (iblk m c 5 (pt m b))
  | k + 1 => k0_pay2 (dh m c (pt m (4 * (k + 1) + b))) (acc5 c b k)

/-- The first weight's gradient for a point's block of columns, summed over the blocks of rows so far. -/
def acc6 (c : Dev nD) : ℕ → Vec F S1x1024x512 .f32
  | 0 => k0_pay10 (iblk m c 4 (pt m 0)) (iblk m c 2 (pt m 0)) (iblk m c 1 (pt m 0)) (iblk m c 0 (pt m 0))
  | n + 1 => if (n + 1) % 4 = 0 then
      k0_pay10 (iblk m c 4 (pt m (n + 1))) (iblk m c 2 (pt m (n + 1))) (iblk m c 1 (pt m (n + 1))) (iblk m c 0 (pt m (n + 1)))
    else k0_pay12 (iblk m c 4 (pt m (n + 1))) (iblk m c 2 (pt m (n + 1))) (iblk m c 1 (pt m (n + 1))) (iblk m c 0 (pt m (n + 1))) (acc6 c n)

/-- The second weight's gradient, likewise. -/
def acc7 (c : Dev nD) : ℕ → Vec F S1x512x1024 .f32
  | 0 => k0_pay9 (iblk m c 2 (pt m 0)) (iblk m c 1 (pt m 0))
  | n + 1 => if (n + 1) % 4 = 0 then k0_pay9 (iblk m c 2 (pt m (n + 1))) (iblk m c 1 (pt m (n + 1)))
    else k0_pay11 (iblk m c 2 (pt m (n + 1))) (iblk m c 1 (pt m (n + 1))) (acc7 c n)

/-- After point `n` the gradient window's blocks of rows visited so far hold their sums. -/
def Sum5 (c : Dev nD) (n : ℕ) (X : Vec F S2048x1024 .f32) : Prop :=
  ∀ b (hb : b < 4), b ≤ n → rowsAt b hb X = acc5 m c b ((n - b) / 4)

theorem rowsAt_putRows_same (i : grid0.Coords) (b : ℕ) (hb : b < 4) (h : (i 1).val = b) (p : Vec F S512x1024 .f32) (X : Vec F S2048x1024 .f32) :
    rowsAt b hb (putRows i p X) = p := by
  subst h
  funext x
  have h' : (x 0).val < 512 := (x 0).isLt
  have hc : 512 * (i 1).val ≤ 512 * (i 1).val + (x 0).val ∧ 512 * (i 1).val + (x 0).val < 512 * (i 1).val + 512 := by omega
  refine (dif_pos hc).trans (congrArg p (funext fun a => Fin.ext ?_))
  match a with
  | 0 => show 512 * (i 1).val + (x 0).val - 512 * (i 1).val = (x 0).val; omega
  | 1 => rfl

theorem rowsAt_putRows_other (i : grid0.Coords) (b : ℕ) (hb : b < 4) (h : (i 1).val ≠ b) (p : Vec F S512x1024 .f32) (X : Vec F S2048x1024 .f32) :
    rowsAt b hb (putRows i p X) = rowsAt b hb X := by
  funext x
  have h' : (x 0).val < 512 := (x 0).isLt
  have hc : ¬(512 * (i 1).val ≤ 512 * b + (x 0).val ∧ 512 * b + (x 0).val < 512 * (i 1).val + 512) := by omega
  exact dif_neg hc

theorem getRows_eq (i : grid0.Coords) (X : Vec F S2048x1024 .f32) : getRows i X = rowsAt (i 1).val (i 1).isLt X := rfl

/-- A point of the first block of columns stores the first half's rows plus its product. -/
theorem sum5_first (c : Dev nD) (t : Fin (cfgM m).N) (ht : t.val < 4) (Y : Vec F S2048x1024 .f32) (hY : t.val ≠ 0 → Sum5 m c (t.val - 1) Y) :
    Sum5 m c t.val (putRows (grid0.coords t) (k0_pay1 (dh m c t) (iblk m c 5 t)) Y) := by
  intro b hb hbt
  have e1 : (grid0.coords t 1).val = t.val / 1 % 4 := coord_1 t
  by_cases h : b = t.val
  · subst h
    rw [rowsAt_putRows_same _ _ hb (by omega), Nat.sub_self]
    show _ = k0_pay1 (dh m c (pt m t.val)) (iblk m c 5 (pt m t.val))
    rw [pt_val]
  · rw [rowsAt_putRows_other _ _ hb (by omega), hY (by omega) b hb (by omega), show (t.val - 1 - b) / 4 = (t.val - b) / 4 by omega]

/-- A later point adds its product. -/
theorem sum5_later (c : Dev nD) (t : Fin (cfgM m).N) (ht : 4 ≤ t.val) (Y : Vec F S2048x1024 .f32) (hY : t.val ≠ 0 → Sum5 m c (t.val - 1) Y) :
    Sum5 m c t.val (putRows (grid0.coords t) (k0_pay2 (dh m c t) (getRows (grid0.coords t) Y)) Y) := by
  intro b hb hbt
  have e1 : (grid0.coords t 1).val = t.val / 1 % 4 := coord_1 t
  have hY' := hY (by omega)
  by_cases h : (grid0.coords t 1).val = b
  · rw [rowsAt_putRows_same _ _ hb h, getRows_eq]
    have hr : rowsAt (grid0.coords t 1).val (grid0.coords t 1).isLt Y = acc5 m c b ((t.val - 1 - b) / 4) := by
      subst h; exact hY' _ _ (by omega)
    rw [hr, show (t.val - b) / 4 = (t.val - 1 - b) / 4 + 1 by omega]
    show k0_pay2 (dh m c t) _ = k0_pay2 (dh m c (pt m (4 * ((t.val - 1 - b) / 4 + 1) + b))) _
    rw [show 4 * ((t.val - 1 - b) / 4 + 1) + b = t.val by omega, pt_val]
  · rw [rowsAt_putRows_other _ _ hb h, hY' b hb (by omega), show (t.val - 1 - b) / 4 = (t.val - b) / 4 by omega]

theorem acc6_first (c : Dev nD) (t : Fin (cfgM m).N) (h : t.val % 4 = 0) :
    k0_pay10 (iblk m c 4 t) (iblk m c 2 t) (iblk m c 1 t) (iblk m c 0 t) = acc6 m c t.val := by
  generalize hn : t.val = n at *
  have hp : pt m n = t := hn ▸ pt_val m t
  cases n with
  | zero => show _ = k0_pay10 _ _ _ _; rw [hp]
  | succ n => rw [acc6, if_pos h, hp]

theorem acc6_later (c : Dev nD) (t : Fin (cfgM m).N) (h : ¬t.val % 4 = 0) :
    k0_pay12 (iblk m c 4 t) (iblk m c 2 t) (iblk m c 1 t) (iblk m c 0 t) (acc6 m c (t.val - 1)) = acc6 m c t.val := by
  generalize hn : t.val = n at *
  have hp : pt m n = t := hn ▸ pt_val m t
  cases n with
  | zero => exact absurd rfl h
  | succ n => rw [acc6, if_neg h, hp]; rfl

theorem acc7_first (c : Dev nD) (t : Fin (cfgM m).N) (h : t.val % 4 = 0) :
    k0_pay9 (iblk m c 2 t) (iblk m c 1 t) = acc7 m c t.val := by
  generalize hn : t.val = n at *
  have hp : pt m n = t := hn ▸ pt_val m t
  cases n with
  | zero => show _ = k0_pay9 _ _; rw [hp]
  | succ n => rw [acc7, if_pos h, hp]

theorem acc7_later (c : Dev nD) (t : Fin (cfgM m).N) (h : ¬t.val % 4 = 0) :
    k0_pay11 (iblk m c 2 t) (iblk m c 1 t) (acc7 m c (t.val - 1)) = acc7 m c t.val := by
  generalize hn : t.val = n at *
  have hp : pt m n = t := hn ▸ pt_val m t
  cases n with
  | zero => exact absurd rfl h
  | succ n => rw [acc7, if_neg h, hp]; rfl

/-! ## The pipeline's proof data -/

/-- The windows held to what the points so far left in them: the three outputs. -/
def held : Fin 10 → Bool := fun w => w.val == 7 || w.val == 8 || w.val == 9

/-- What an output window holds after a point. -/
def Holds (c : Dev nD) (w : Fin (cfgM m).W) (t : Fin (cfgM m).N) : (((cfgM m).win w).block.Idx → Elt F ((cfgM m).win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun X => Sum5 m c t.val X
  | ⟨8, _⟩ => fun X => X = acc6 m c t.val
  | ⟨9, _⟩ => fun X => X = acc7 m c t.val

/-- The inputs' windows hold their blocks; of the outputs' the data say nothing themselves. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := (cfgM m)) ⟨7, h⟩ t
    | ⟨8, h⟩ => Pipeline.Dat.unnamed (cfg := (cfgM m)) ⟨8, h⟩ t
    | ⟨9, h⟩ => Pipeline.Dat.unnamed (cfg := (cfgM m)) ⟨9, h⟩ t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem found_0 (c : Dev nD) (t : Fin (cfgM m).N) (d) : (dats m 0 c).before 0 t d = iblk m c 0 t :=
  before_0 m (dats m 0 c) (A_eq m c 0) (after_0 m c) t d
theorem after_1 (c : Dev nD) (t : Fin (cfgM m).N) : (dats m 0 c).after 1 t = iblk m c 1 t := by dsimp only [dats]; try rfl
theorem found_1 (c : Dev nD) (t : Fin (cfgM m).N) (d) : (dats m 0 c).before 1 t d = iblk m c 1 t :=
  before_1 m (dats m 0 c) (A_eq m c 1) (after_1 m c) t d
theorem after_2 (c : Dev nD) (t : Fin (cfgM m).N) : (dats m 0 c).after 2 t = iblk m c 2 t := by dsimp only [dats]; try rfl
theorem found_2 (c : Dev nD) (t : Fin (cfgM m).N) (d) : (dats m 0 c).before 2 t d = iblk m c 2 t :=
  before_2 m (dats m 0 c) (A_eq m c 2) (after_2 m c) t d
theorem after_3 (c : Dev nD) (t : Fin (cfgM m).N) : (dats m 0 c).after 3 t = iblk m c 3 t := by dsimp only [dats]; try rfl
theorem found_3 (c : Dev nD) (t : Fin (cfgM m).N) (d) : (dats m 0 c).before 3 t d = iblk m c 3 t :=
  before_3 m (dats m 0 c) (A_eq m c 3) (after_3 m c) t d
theorem after_4 (c : Dev nD) (t : Fin (cfgM m).N) : (dats m 0 c).after 4 t = iblk m c 4 t := by dsimp only [dats]; try rfl
theorem found_4 (c : Dev nD) (t : Fin (cfgM m).N) (d) : (dats m 0 c).before 4 t d = iblk m c 4 t :=
  before_4 m (dats m 0 c) (A_eq m c 4) (after_4 m c) t d
theorem after_5 (c : Dev nD) (t : Fin (cfgM m).N) : (dats m 0 c).after 5 t = iblk m c 5 t := by dsimp only [dats]; try rfl
theorem found_5 (c : Dev nD) (t : Fin (cfgM m).N) (d) : (dats m 0 c).before 5 t d = iblk m c 5 t :=
  before_5 m (dats m 0 c) (A_eq m c 5) (after_5 m c) t d
theorem after_6 (c : Dev nD) (t : Fin (cfgM m).N) : (dats m 0 c).after 6 t = iblk m c 6 t := by dsimp only [dats]; try rfl
theorem found_6 (c : Dev nD) (t : Fin (cfgM m).N) (d) : (dats m 0 c).before 6 t d = iblk m c 6 t :=
  before_6 m (dats m 0 c) (A_eq m c 6) (after_6 m c) t d

/-- The data with the output windows held to `Holds`. -/
abbrev rdat (c : Dev nD) : Pipeline.RDat τ (Elt F) Unit ℕ (UR sig nD τ) ℕ (cfgM m) c := (dats m 0 c).toRRel held (Holds m c)

/-- What a point finds in the gradient window: what the point before left. -/
theorem finds_7 (c : Dev nD) (t : Fin (cfgM m).N) (Y : Vec F S2048x1024 .f32) (h : (rdat m c).Finds 7 t Y) (ht : t.val ≠ 0) :
    Sum5 m c (t.val - 1) Y := by
  have hN : t.val < 16 := lt_of_lt_of_eq t.isLt (N_eq m)
  rcases ((rdat m c).finds_of_pos (w := 7) (t := t) rfl ht Y).mp h with hf | hl
  · have := (flush_7 m _).mp hf
    simp only at this
    omega
  · exact Dat.toRRel_leaves (fgt := held) (Rl := Holds m c) (dats m 0 c) (w := 7) rfl hl
theorem finds_8 (c : Dev nD) (t : Fin (cfgM m).N) (Y : Vec F S1x1024x512 .f32) (h : (rdat m c).Finds 8 t Y) (ht : ¬t.val % 4 = 0) :
    Y = acc6 m c (t.val - 1) := by
  have ht' : t.val ≠ 0 := fun h => ht (by rw [h])
  rcases ((rdat m c).finds_of_pos (w := 8) (t := t) rfl ht' Y).mp h with hf | hl
  · have := (flush_8 m _).mp hf
    simp only at this
    omega
  · exact Dat.toRRel_leaves (fgt := held) (Rl := Holds m c) (dats m 0 c) (w := 8) rfl hl
theorem finds_9 (c : Dev nD) (t : Fin (cfgM m).N) (Y : Vec F S1x512x1024 .f32) (h : (rdat m c).Finds 9 t Y) (ht : ¬t.val % 4 = 0) :
    Y = acc7 m c (t.val - 1) := by
  have ht' : t.val ≠ 0 := fun h => ht (by rw [h])
  rcases ((rdat m c).finds_of_pos (w := 9) (t := t) rfl ht' Y).mp h with hf | hl
  · have := (flush_9 m _).mp hf
    simp only at this
    omega
  · exact Dat.toRRel_leaves (fgt := held) (Rl := Holds m c) (dats m 0 c) (w := 9) rfl hl

/-! ## The body at a point -/

/-- The body at point `t`, on what the pipeline calls it with. -/
abbrev bodyAt (t : Fin (cfgM m).N) : Prog (TpuEff nD τ sig (Elt F) Λ₀ .tc) PUnit :=
  cc0_mlp_bwd_second (grid0.coords t) tbM htbM (ms_0 m t) (hs_0 m t) (ms_1 m t) (hs_1 m t) (ms_2 m t) (hs_2 m t) (ms_3 m t) (hs_3 m t) (ms_4 m t) (hs_4 m t) (ms_5 m t) (hs_5 m t) (ms_6 m t) (hs_6 m t) (ms_7 m t) (hs_7 m t) (ms_8 m t) (hs_8 m t) (ms_9 m t) (hs_9 m t)

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ Y, ⌜(rdat m c).Finds 7 t Y⌝ ∗ owns (c : Thread nD τ) (ms_7 m t) fullShare Y)
    ∗ (∃ Y, ⌜(rdat m c).Finds 8 t Y⌝ ∗ owns (c : Thread nD τ) (ms_8 m t) fullShare Y)
    ∗ (∃ Y, ⌜(rdat m c).Finds 9 t Y⌝ ∗ owns (c : Thread nD τ) (ms_9 m t) fullShare Y))

def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ owns (c : Thread nD τ) (ms_4 m t) fullShare ((dats m 0 c).after 4 t)
    ∗ owns (c : Thread nD τ) (ms_5 m t) fullShare ((dats m 0 c).after 5 t)
    ∗ owns (c : Thread nD τ) (ms_6 m t) fullShare ((dats m 0 c).after 6 t)
    ∗ (∃ X, ⌜Holds m c 7 t X⌝ ∗ owns (c : Thread nD τ) (ms_7 m t) fullShare X)
    ∗ (∃ X, ⌜Holds m c 8 t X⌝ ∗ owns (c : Thread nD τ) (ms_8 m t) fullShare X)
    ∗ (∃ X, ⌜Holds m c 9 t X⌝ ∗ owns (c : Thread nD τ) (ms_9 m t) fullShare X))

set_option maxHeartbeats 3200000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [found_0, found_1, found_2, found_3, found_4, found_5, found_6, after_0, after_1, after_2, after_3, after_4, after_5, after_6]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  have hN : t.val < 16 := lt_of_lt_of_eq t.isLt (N_eq m)
  iintro ⟨⟨HΦ, HT⟩, Ho, ⟨%d0, H0⟩, ⟨%d1, H1⟩, ⟨%d2, H2⟩, ⟨%d3, H3⟩, ⟨%d4, H4⟩, ⟨%da, Ha⟩, ⟨%db, Hb⟩, ⟨%y5, %hy5, H5⟩, ⟨%y6, %hy6, H6⟩, ⟨%y7, %hy7, H7⟩⟩
  by_cases h0 : t.val % 4 = 0
  · by_cases h3 : t.val < 4
    · iapply (run_A c (grid0.coords t) _ _ _ _ _ _ _ _ _ _ _ _ _ _ _ _ _ _ _ _ ((cond_1 t).mpr h0) (fun h => (show ¬1 ≤ t.val % 4 by omega) ((cond_2 t).mp h)) ((cond_3 t).mpr h3) (fun h => (show ¬4 ≤ t.val by omega) ((cond_4 t).mp h)) (iblk m c 0 t) (iblk m c 1 t) (iblk m c 2 t) (iblk m c 3 t) (iblk m c 4 t) (iblk m c 5 t) (iblk m c 6 t) y5 y6 y7 (tbl m 0) Set.univ _)
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]; · iexact H5
      isplitl [H6]; · iexact H6
      isplitl [H7]; · iexact H7
      isplitl [HT]; · iexact HT
      iintro ⟨H0, H1, H2, H3, H4, Ha, Hb, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]
      · iexists _; isplitr; swap; · iexact H5
        ipureintro; exact sum5_first m c t h3 y5 (finds_7 m c t y5 hy5)
      isplitl [H6]
      · iexists _; isplitr; swap; · iexact H6
        ipureintro; exact acc6_first m c t h0
      iexists _; isplitr; swap; · iexact H7
      ipureintro; exact acc7_first m c t h0
    · iapply (run_C c (grid0.coords t) _ _ _ _ _ _ _ _ _ _ _ _ _ _ _ _ _ _ _ _ ((cond_1 t).mpr h0) (fun h => (show ¬1 ≤ t.val % 4 by omega) ((cond_2 t).mp h)) (fun h => h3 ((cond_3 t).mp h)) ((cond_4 t).mpr (by omega)) (iblk m c 0 t) (iblk m c 1 t) (iblk m c 2 t) (iblk m c 3 t) (iblk m c 4 t) (iblk m c 5 t) (iblk m c 6 t) y5 y6 y7 (tbl m 0) Set.univ _)
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]; · iexact H5
      isplitl [H6]; · iexact H6
      isplitl [H7]; · iexact H7
      isplitl [HT]; · iexact HT
      iintro ⟨H0, H1, H2, H3, H4, Ha, Hb, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]
      · iexists _; isplitr; swap; · iexact H5
        ipureintro; exact sum5_later m c t (by omega) y5 (finds_7 m c t y5 hy5)
      isplitl [H6]
      · iexists _; isplitr; swap; · iexact H6
        ipureintro; exact acc6_first m c t h0
      iexists _; isplitr; swap; · iexact H7
      ipureintro; exact acc7_first m c t h0
  · by_cases h3 : t.val < 4
    · iapply (run_B c (grid0.coords t) _ _ _ _ _ _ _ _ _ _ _ _ _ _ _ _ _ _ _ _ (fun h => h0 ((cond_1 t).mp h)) ((cond_2 t).mpr (by omega)) ((cond_3 t).mpr h3) (fun h => (show ¬4 ≤ t.val by omega) ((cond_4 t).mp h)) (iblk m c 0 t) (iblk m c 1 t) (iblk m c 2 t) (iblk m c 3 t) (iblk m c 4 t) (iblk m c 5 t) (iblk m c 6 t) y5 y6 y7 (tbl m 0) Set.univ _)
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]; · iexact H5
      isplitl [H6]; · iexact H6
      isplitl [H7]; · iexact H7
      isplitl [HT]; · iexact HT
      iintro ⟨H0, H1, H2, H3, H4, Ha, Hb, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]
      · iexists _; isplitr; swap; · iexact H5
        ipureintro; exact sum5_first m c t h3 y5 (finds_7 m c t y5 hy5)
      isplitl [H6]
      · iexists _; isplitr; swap; · iexact H6
        ipureintro; show k0_pay12 _ _ _ _ y6 = _; rw [finds_8 m c t y6 hy6 h0]; exact acc6_later m c t h0
      iexists _; isplitr; swap; · iexact H7
      ipureintro; show k0_pay11 _ _ y7 = _; rw [finds_9 m c t y7 hy7 h0]; exact acc7_later m c t h0
    · iapply (run_D c (grid0.coords t) _ _ _ _ _ _ _ _ _ _ _ _ _ _ _ _ _ _ _ _ (fun h => h0 ((cond_1 t).mp h)) ((cond_2 t).mpr (by omega)) (fun h => h3 ((cond_3 t).mp h)) ((cond_4 t).mpr (by omega)) (iblk m c 0 t) (iblk m c 1 t) (iblk m c 2 t) (iblk m c 3 t) (iblk m c 4 t) (iblk m c 5 t) (iblk m c 6 t) y5 y6 y7 (tbl m 0) Set.univ _)
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]; · iexact H5
      isplitl [H6]; · iexact H6
      isplitl [H7]; · iexact H7
      isplitl [HT]; · iexact HT
      iintro ⟨H0, H1, H2, H3, H4, Ha, Hb, H5, H6, H7, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [H5]
      · iexists _; isplitr; swap; · iexact H5
        ipureintro; exact sum5_later m c t (by omega) y5 (finds_7 m c t y5 hy5)
      isplitl [H6]
      · iexists _; isplitr; swap; · iexact H6
        ipureintro; show k0_pay12 _ _ _ _ y6 = _; rw [finds_8 m c t y6 hy6 h0]; exact acc6_later m c t h0
      iexists _; isplitr; swap; · iexact H7
      ipureintro; show k0_pay11 _ _ y7 = _; rw [finds_9 m c t y7 hy7 h0]; exact acc7_later m c t h0

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : Pipeline.BodyObligationRel (dats (F := F) m 0 c) (defs₀ (F := F)) Variants.none () Set.univ held (Holds m c) := fun t => by
  rw [bigSep_W0, bigSep_W0, defs₀_row m]
  exact triple_restated (sound_body m c t) rfl .rfl fun _ => .rfl

/-! ## The run -/

set_option backward.isDefEq.respectTransparency.types false in
/-- The run ends, with every array as the relational data say and every counter at zero. -/
theorem run_main : θ_run defs (onTc (τ := τ) (main (F := F))) (s₀ m ρ) (fun r => Pipeline.RDat.FramePost ((Pipeline.pin pcfgs fun _ => adm m) 0) (rdat m) (V m) r ∧ r.2.sem = fun _ => 0) :=
  Pipeline.RDat.θ_run_frameP_track_shared pcfgs (fun _ => adm m) (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hpf := V_pre m)
    (hin := fun _ => .rfl) (hout := fun c => by
      show iprop(Pipeline.ΦA spec0 c ∗ Pipeline.ΦT pre0 (tbl m) c) ⊢ _
      iintro ⟨H, -⟩; iexact H)
    (Q' := _) (hQ' := fun _ h => h)

/-- The fifth argument is itself an input window's array. -/
theorem arg4_of (r : PUnit × MemSt nD τ sig (Elt F)) (h : Pipeline.RDat.FramePost ((Pipeline.pin pcfgs fun _ => adm m) 0) (rdat m) (V m) r) (c : Dev nD) :
    r.2.mem ((c.tc : Thread nD τ).loc main_arg4) = m ((c.tc : Thread nD τ).loc main_arg4) :=
  ((congrFun (Pipeline.RDat.ArrAt_in (rdat m c) (5 : Fin (cfgM m).W) rfl (cfgM m).N) _).mp ((h c).1 5)).trans (V_main_arg4 m c)

theorem args_of (r : PUnit × MemSt nD τ sig (Elt F)) (h : Pipeline.RDat.FramePost ((Pipeline.pin pcfgs fun _ => adm m) 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    arg4_of m r h c⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m r h.1, h.2⟩) (run_main m ρ)

end Cert.Kernel3Ideal.Mlp

end
-- ==== Proof.Mlp2Arrays.lean ====
/-
  The MLP backward kernel, second half: the three output arrays after the run, in terms of the sums the output windows
  hold.
-/
module

public import proofs.«01_k».proof.Proof.Mlp2Frame
public import Idealize.ShloMosaic.Lib.Pipeline.ValueKit
public import Idealize.ShloMosaic.Lib.Pointwise.Index

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic (ix2 ix3)

/-- The data with the contents `after` that a run leaves. -/
abbrev xdat (c : Dev nD) (after : (w : Fin (cfgM m).W) → Fin (cfgM m).N → ((cfgM m).win w).block.Idx → Elt F ((cfgM m).win w).elt) :
    Dat τ (Elt F) Unit ℕ (UR sig nD τ) ℕ (cfgM m) c := (rdat m c).withAfter after

theorem whole_7 : ((cfgM m).win 7).WholeAt (pt m 15) := by
  refine ⟨(flush_7 m _).mpr rfl, fun t h => ?_, fun a => ?_⟩
  · have := (flush_7 m t).mp h
    have hN : t.val < 16 := lt_of_lt_of_eq t.isLt (N_eq m)
    exact Fin.ext (by show t.val = 15; omega)
  · match a with
    | ⟨0, _⟩ => exact ⟨rfl, rfl⟩
    | ⟨1, _⟩ => exact ⟨rfl, rfl⟩
    | ⟨n + 2, hn⟩ => exact absurd (show n + 2 < 2 from hn) (by omega)

/-- The input's gradient array. -/
theorem arr_7 (c : Dev nD) (after) (h : ∀ (w : Fin (cfgM m).W) (u : Fin (cfgM m).N), ((cfgM m).win w).flush u = true → (rdat m c).Leaves w u (after w u))
    (b : ℕ) (hb : b < 4) (p : Fin 512) (j : Fin 1024) :
    (xdat m c after).arrAt 7 (cfgM m).N (ix2 (n0 := 2048) ⟨512 * b + p.val, by omega⟩ j) = acc5 m c b 3 (ix2 p j) := by
  have hl : Sum5 m c 15 (after 7 (pt m 15)) :=
    Dat.toRRel_leaves (fgt := held) (Rl := Holds m c) (dats m 0 c) (w := 7) rfl (h 7 (pt m 15) ((flush_7 m _).mpr rfl))
  refine ((xdat m c after).arrAt_emb_eq_after_last 7 (pt m 15) (whole_7 m) (ix2 (n0 := 2048) ⟨512 * b + p.val, by omega⟩ j)).trans ?_
  have hs := congrFun (hl b hb (by omega)) (ix2 p j)
  rw [show (15 - b) / 4 = 3 by omega] at hs
  rw [← hs]
  show after 7 (pt m 15) _ = _
  unfold rowsAt
  refine congrArg _ (funext fun a => ?_)
  match a with
  | ⟨0, _⟩ => rfl
  | ⟨1, _⟩ => rfl
  | ⟨n + 2, hn⟩ => exact absurd (show n + 2 < 2 from hn) (by omega)

theorem index_8 (t : Fin (cfgM m).N) : ((cfgM m).win 8).index t = ![(grid0.coords t 0).val, 0, 0] := by
  have h : (grid0.coords t 0).val < 4 := (grid0.coords t 0).isLt
  show cc0_transform_8 (grid0.coords t) = _
  unfold cc0_transform_8
  simp only [ix_small _ h]; rfl

theorem index_9 (t : Fin (cfgM m).N) : ((cfgM m).win 9).index t = ![(grid0.coords t 0).val, 0, 0] := by
  have h : (grid0.coords t 0).val < 4 := (grid0.coords t 0).isLt
  show cc0_transform_9 (grid0.coords t) = _
  unfold cc0_transform_9
  simp only [ix_small _ h]; rfl

theorem disj_8 : ∀ t t' : Fin (cfgM m).N, ((cfgM m).win 8).flush t = true → ((cfgM m).win 8).flush t' = true → t ≠ t' →
    Disjoint (((cfgM m).win 8).blk t).view.set (((cfgM m).win 8).blk t').view.set :=
  Pipeline.Window.hdisj_of_index_inj _ fun t t' hf hf' he => by
    have e := congrFun he (0 : Fin 3)
    rw [index_8, index_8] at e
    have e0 : t.val / 4 % 4 = (grid0.coords t 0).val := (coord_0 t).symm
    have e0' : t'.val / 4 % 4 = (grid0.coords t' 0).val := (coord_0 t').symm
    have e' : (grid0.coords t 0).val = (grid0.coords t' 0).val := e
    have hN : t.val < 16 := lt_of_lt_of_eq t.isLt (N_eq m)
    have hN' : t'.val < 16 := lt_of_lt_of_eq t'.isLt (N_eq m)
    have h1 := (flush_8 m t).mp hf
    have h2 := (flush_8 m t').mp hf'
    exact Fin.ext (by omega)

theorem disj_9 : ∀ t t' : Fin (cfgM m).N, ((cfgM m).win 9).flush t = true → ((cfgM m).win 9).flush t' = true → t ≠ t' →
    Disjoint (((cfgM m).win 9).blk t).view.set (((cfgM m).win 9).blk t').view.set :=
  Pipeline.Window.hdisj_of_index_inj _ fun t t' hf hf' he => by
    have e := congrFun he (0 : Fin 3)
    rw [index_9, index_9] at e
    have e0 : t.val / 4 % 4 = (grid0.coords t 0).val := (coord_0 t).symm
    have e0' : t'.val / 4 % 4 = (grid0.coords t' 0).val := (coord_0 t').symm
    have e' : (grid0.coords t 0).val = (grid0.coords t' 0).val := e
    have hN : t.val < 16 := lt_of_lt_of_eq t.isLt (N_eq m)
    have hN' : t'.val < 16 := lt_of_lt_of_eq t'.isLt (N_eq m)
    have h1 := (flush_9 m t).mp hf
    have h2 := (flush_9 m t').mp hf'
    exact Fin.ext (by omega)

/-- The first weight's gradient array. -/
theorem arr_8 (c : Dev nD) (after) (h : ∀ (w : Fin (cfgM m).W) (u : Fin (cfgM m).N), ((cfgM m).win w).flush u = true → (rdat m c).Leaves w u (after w u))
    (k : Fin 4) (i : Fin 1024) (q : Fin 512) :
    (xdat m c after).arrAt 8 (cfgM m).N (ix3 k i q) = acc6 m c (4 * k.val + 3) (ix3 0 i q) := by
  have hv : (pt m (4 * k.val + 3)).val = 4 * k.val + 3 := by show (4 * k.val + 3) % 16 = _; omega
  have hf : ((cfgM m).win 8).flush (pt m (4 * k.val + 3)) = true := (flush_8 m _).mpr (by rw [hv]; omega)
  have hl : after 8 (pt m (4 * k.val + 3)) = acc6 m c (pt m (4 * k.val + 3)).val :=
    Dat.toRRel_leaves (fgt := held) (Rl := Holds m c) (dats m 0 c) (w := 8) rfl (h 8 _ hf)
  rw [hv] at hl
  have hy : (((cfgM m).win 8).blk (pt m (4 * k.val + 3))).view.emb (ix3 (n0 := 1) (n1 := 1024) (n2 := 512) 0 i q) = ix3 (n0 := 4) (n1 := 1024) (n2 := 512) k i q := by
    funext a
    apply Fin.ext
    refine (Pipeline.Window.rect_emb_val ((cfgM m).win 8) (pt m (4 * k.val + 3)) (ix3 (n0 := 1) (n1 := 1024) (n2 := 512) 0 i q) a rfl).trans ?_
    rw [index_8]
    have e0 : (grid0.coords (pt m (4 * k.val + 3)) 0).val = (pt m (4 * k.val + 3)).val / 4 % 4 := coord_0 _
    rw [hv] at e0
    match a with
    | ⟨0, _⟩ => show (grid0.coords (pt m (4 * k.val + 3)) 0).val * 1 + 0 = k.val; omega
    | ⟨1, _⟩ => show 0 * 1024 + i.val = i.val; omega
    | ⟨2, _⟩ => show 0 * 512 + q.val = q.val; omega
    | ⟨n + 3, hn⟩ => exact absurd (show n + 3 < 3 from hn) (by omega)
  have := (xdat m c after).arrAt_emb_eq_flushed 8 (disj_8 m) (pt m (4 * k.val + 3)) hf (ix3 (n0 := 1) (n1 := 1024) (n2 := 512) 0 i q)
  rw [hy] at this
  refine this.trans ?_
  rw [← hl]
  rfl

/-- The second weight's gradient array. -/
theorem arr_9 (c : Dev nD) (after) (h : ∀ (w : Fin (cfgM m).W) (u : Fin (cfgM m).N), ((cfgM m).win w).flush u = true → (rdat m c).Leaves w u (after w u))
    (k : Fin 4) (q : Fin 512) (j : Fin 1024) :
    (xdat m c after).arrAt 9 (cfgM m).N (ix3 k q j) = acc7 m c (4 * k.val + 3) (ix3 0 q j) := by
  have hv : (pt m (4 * k.val + 3)).val = 4 * k.val + 3 := by show (4 * k.val + 3) % 16 = _; omega
  have hf : ((cfgM m).win 9).flush (pt m (4 * k.val + 3)) = true := (flush_9 m _).mpr (by rw [hv]; omega)
  have hl : after 9 (pt m (4 * k.val + 3)) = acc7 m c (pt m (4 * k.val + 3)).val :=
    Dat.toRRel_leaves (fgt := held) (Rl := Holds m c) (dats m 0 c) (w := 9) rfl (h 9 _ hf)
  rw [hv] at hl
  have hy : (((cfgM m).win 9).blk (pt m (4 * k.val + 3))).view.emb (ix3 (n0 := 1) (n1 := 512) (n2 := 1024) 0 q j) = ix3 (n0 := 4) (n1 := 512) (n2 := 1024) k q j := by
    funext a
    apply Fin.ext
    refine (Pipeline.Window.rect_emb_val ((cfgM m).win 9) (pt m (4 * k.val + 3)) (ix3 (n0 := 1) (n1 := 512) (n2 := 1024) 0 q j) a rfl).trans ?_
    rw [index_9]
    have e0 : (grid0.coords (pt m (4 * k.val + 3)) 0).val = (pt m (4 * k.val + 3)).val / 4 % 4 := coord_0 _
    rw [hv] at e0
    match a with
    | ⟨0, _⟩ => show (grid0.coords (pt m (4 * k.val + 3)) 0).val * 1 + 0 = k.val; omega
    | ⟨1, _⟩ => show 0 * 512 + q.val = q.val; omega
    | ⟨2, _⟩ => show 0 * 1024 + j.val = j.val; omega
    | ⟨n + 3, hn⟩ => exact absurd (show n + 3 < 3 from hn) (by omega)
  have := (xdat m c after).arrAt_emb_eq_flushed 9 (disj_9 m) (pt m (4 * k.val + 3)) hf (ix3 (n0 := 1) (n1 := 512) (n2 := 1024) 0 q j)
  rw [hy] at this
  refine this.trans ?_
  rw [← hl]
  rfl

/-- The three output arrays after the run. -/
theorem outs_of (r : PUnit × MemSt nD τ sig (Elt F)) (h : Pipeline.RDat.FramePost ((Pipeline.pin pcfgs fun _ => adm m) 0) (rdat m) (V m) r) (c : Dev nD) :
    (∀ (b : Fin 4) (p : Fin 512) (j : Fin 1024), r.2.mem ((c.tc : Thread nD τ).loc main_v11_0) (ix2 (n0 := 2048) ⟨512 * b.val + p.val, by omega⟩ j) = acc5 m c b.val 3 (ix2 p j))
      ∧ (∀ (k : Fin 4) (i : Fin 1024) (q : Fin 512), r.2.mem ((c.tc : Thread nD τ).loc main_v11_1) (ix3 k i q) = acc6 m c (4 * k.val + 3) (ix3 0 i q))
      ∧ (∀ (k : Fin 4) (q : Fin 512) (j : Fin 1024), r.2.mem ((c.tc : Thread nD τ).loc main_v11_2) (ix3 k q j) = acc7 m c (4 * k.val + 3) (ix3 0 q j)) := by
  obtain ⟨after, hL, hA⟩ := Pipeline.RDat.FramePost.exists_exact h c
  exact ⟨fun b p j => (congrFun (hA 7) _).trans (arr_7 m c after hL b.val b.isLt p j),
    fun k i q => (congrFun (hA 8) _).trans (arr_8 m c after hL k i q),
    fun k q j => (congrFun (hA 9) _).trans (arr_9 m c after hL k q j)⟩

end Cert.Kernel3Ideal.Mlp

end
-- ==== Proof.Mlp2Spec.lean ====
/-
  The MLP backward's second half, as sums over the extended reals: the gradients that the kernel and the reference are both
  shown to compute, at the even blocks of the hidden columns.
-/
module

public import proofs.«01_k».proof.Proof.MlpSpec

@[expose] public section

noncomputable section

namespace Cert.MlpSpec.Even

/-- Column `q` of the even block `2k` of the hidden columns. -/
def col (k : Fin 4) (q : Fin 512) : Fin 4096 := ⟨2 * k.val * 512 + q.val, by omega⟩

variable (two : EReal) (H Z : Fin 2048 → Fin 1024 → EReal) (W₁ : Fin 1024 → Fin 4096 → EReal) (W₂ : Fin 4096 → Fin 1024 → EReal)

/-- The input's gradient from the even blocks of columns, added to what the odd blocks gave. -/
def dh2 (P : Fin 2048 → Fin 1024 → EReal) (r : Fin 2048) (j : Fin 1024) : EReal := P r j + ∑ k : Fin 4, ∑ q : Fin 512, hid two H Z W₁ W₂ r (col k q) * W₁ j (col k q)

/-- The first weight's gradient, at the even blocks of columns. -/
def dw1 (k : Fin 4) (i : Fin 1024) (q : Fin 512) : EReal :=
  ∑ b : Fin 4, ∑ p : Fin 512, H (row b p) i * hid two H Z W₁ W₂ (row b p) (col k q)

/-- The second weight's gradient, at the even blocks of rows. -/
def dw2 (k : Fin 4) (q : Fin 512) (j : Fin 1024) : EReal :=
  ∑ b : Fin 4, ∑ p : Fin 512, (act H W₁ (row b p) (col k q) * act H W₁ (row b p) (col k q)) * Z (row b p) j

end Cert.MlpSpec.Even

end
-- ==== Proof.Mlp2Blocks.lean ====
/-
  The MLP backward kernel, second half: the blocks that the input windows hold at each grid point, element by element, from
  the arguments.
-/
module

public import proofs.«01_k».proof.Proof.Mlp2Kit
public import proofs.«01_k».proof.Proof.Mlp2Spec
public import Idealize.ShloMosaic.Lib.Pipeline.ValueKit
public import Idealize.ShloMosaic.Lib.Pointwise

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.MlpSpec (row)
open Cert.MlpSpec.Even (col)

/-- The arguments, as functions of their coordinates. -/
abbrev argH (c : Dev nD) : Fin 2048 → Fin 1024 → EReal := fun r d => m ((c.tc : Thread nD τ).loc main_arg0) (ix2 r d)
abbrev argW₁ (c : Dev nD) : Fin 1024 → Fin 4096 → EReal := fun d k => m ((c.tc : Thread nD τ).loc main_arg1) (ix2 d k)
abbrev argW₂ (c : Dev nD) : Fin 4096 → Fin 1024 → EReal := fun k d => m ((c.tc : Thread nD τ).loc main_arg2) (ix2 k d)
abbrev argZ (c : Dev nD) : Fin 2048 → Fin 1024 → EReal := fun r d => m ((c.tc : Thread nD τ).loc main_arg3) (ix2 r d)
abbrev argP (c : Dev nD) : Fin 2048 → Fin 1024 → EReal := fun r d => m ((c.tc : Thread nD τ).loc main_arg4) (ix2 r d)

/-! ## The host's operations -/

theorem V_v7 (c : Dev nD) (d : Fin 1024) (r : Fin 2048) : V m c main_v7 (ix2 d r) = argH m c r d := by
  entry_read
  pointwise

theorem V_v8 (c : Dev nD) (r : Fin 2048) (k : Fin 4096) : V m c main_v8 (ix2 r k) = ∑ d : Fin 1024, argH m c r d * argW₁ m c d k := by
  entry_read
  pointwise

theorem V_v9 (c : Dev nD) (r : Fin 2048) (d : Fin 1024) : V m c main_v9 (ix2 r d) = argZ m c r d := by
  entry_read
  pointwise

theorem V_v4_lo (c : Dev nD) (k : Fin 4) (q : Fin 512) (d : Fin 1024) :
    V m c main_v4 (ix3 (n0 := 8) (n1 := 1024) (n2 := 1024) ⟨2 * k.val, by omega⟩ ⟨q.val, by omega⟩ d) = argW₁ m c d (col k q) := by
  entry_read
  pointwise
  rfl

theorem V_v4_hi (c : Dev nD) (k : Fin 4) (q : Fin 512) (d : Fin 1024) :
    V m c main_v4 (ix3 (n0 := 8) (n1 := 1024) (n2 := 1024) ⟨2 * k.val, by omega⟩ ⟨512 + q.val, by omega⟩ d) = argW₂ m c (col k q) d := by
  entry_read
  pointwise
  rfl

/-! ## The windows' blocks -/

/-- The grid point of block `k` of columns and block `b` of rows. -/
abbrev at_ (k b : Fin 4) : Fin (cfgM m).N := ⟨4 * k.val + b.val, by show _ < 16; omega⟩

theorem at_0 (k b : Fin 4) : (grid0.coords (at_ m k b) 0).val = k.val := by rw [coord_0]; show (4 * k.val + b.val) / 4 % 4 = k.val; omega
theorem at_1 (k b : Fin 4) : (grid0.coords (at_ m k b) 1).val = b.val := by rw [coord_1]; show (4 * k.val + b.val) / 1 % 4 = b.val; omega

theorem index_0 (t : Fin (cfgM m).N) : ((cfgM m).win 0).index t = ![0, (grid0.coords t 1).val] := by
  have h : (grid0.coords t 1).val < 4 := (grid0.coords t 1).isLt
  show cc0_transform_0 (grid0.coords t) = _
  unfold cc0_transform_0
  simp only [ix_small _ h]; rfl
theorem index_1 (t : Fin (cfgM m).N) : ((cfgM m).win 1).index t = ![(grid0.coords t 1).val, 2 * (grid0.coords t 0).val] := ix_1 m (grid0.coords t)
theorem index_2 (t : Fin (cfgM m).N) : ((cfgM m).win 2).index t = ![(grid0.coords t 1).val, 0] := by
  have h : (grid0.coords t 1).val < 4 := (grid0.coords t 1).isLt
  show cc0_transform_2 (grid0.coords t) = _
  unfold cc0_transform_2
  simp only [ix_small _ h]; rfl
theorem index_3 (t : Fin (cfgM m).N) : ((cfgM m).win 3).index t = ![2 * (grid0.coords t 0).val, 0, 0] := ix_3 m (grid0.coords t)
theorem index_4 (t : Fin (cfgM m).N) : ((cfgM m).win 4).index t = ![2 * (grid0.coords t 0).val, 1, 0] := ix_4 m (grid0.coords t)

theorem iblk_0 (c : Dev nD) (k b : Fin 4) (d : Fin 1024) (p : Fin 512) :
    iblk m c 0 (at_ m k b) (ix2 (n0 := 1024) (n1 := 512) d p) = argH m c (row b p) d := by
  rw [← V_v7 m c d (row b p)]
  show V m c main_v7 ((((cfgM m).win 0).blk (at_ m k b)).view.emb (ix2 (n0 := 1024) (n1 := 512) d p)) = _
  refine congrArg _ (funext fun a => Fin.ext ?_)
  refine (Pipeline.Window.rect_emb_val ((cfgM m).win 0) (at_ m k b) (ix2 (n0 := 1024) (n1 := 512) d p) a rfl).trans ?_
  rw [index_0]
  have e0 := at_0 m k b
  have e1 := at_1 m k b
  match a with
  | ⟨0, _⟩ => show 0 * 1024 + d.val = d.val; omega
  | ⟨1, _⟩ => show (grid0.coords (at_ m k b) 1).val * 512 + p.val = b.val * 512 + p.val; omega
  | ⟨n + 2, hn⟩ => exact absurd (show n + 2 < 2 from hn) (by omega)

theorem iblk_1 (c : Dev nD) (k b : Fin 4) (p q : Fin 512) :
    iblk m c 1 (at_ m k b) (ix2 (n0 := 512) (n1 := 512) p q) = ∑ d : Fin 1024, argH m c (row b p) d * argW₁ m c d (col k q) := by
  rw [← V_v8 m c (row b p) (col k q)]
  show V m c main_v8 ((((cfgM m).win 1).blk (at_ m k b)).view.emb (ix2 (n0 := 512) (n1 := 512) p q)) = _
  refine congrArg _ (funext fun a => Fin.ext ?_)
  refine (Pipeline.Window.rect_emb_val ((cfgM m).win 1) (at_ m k b) (ix2 (n0 := 512) (n1 := 512) p q) a rfl).trans ?_
  rw [index_1]
  have e0 := at_0 m k b
  have e1 := at_1 m k b
  match a with
  | ⟨0, _⟩ => show (grid0.coords (at_ m k b) 1).val * 512 + p.val = b.val * 512 + p.val; omega
  | ⟨1, _⟩ => show (2 * (grid0.coords (at_ m k b) 0).val) * 512 + q.val = (2 * k.val) * 512 + q.val; omega
  | ⟨n + 2, hn⟩ => exact absurd (show n + 2 < 2 from hn) (by omega)

theorem iblk_2 (c : Dev nD) (k b : Fin 4) (p : Fin 512) (d : Fin 1024) :
    iblk m c 2 (at_ m k b) (ix2 (n0 := 512) (n1 := 1024) p d) = argZ m c (row b p) d := by
  rw [← V_v9 m c (row b p) d]
  show V m c main_v9 ((((cfgM m).win 2).blk (at_ m k b)).view.emb (ix2 (n0 := 512) (n1 := 1024) p d)) = _
  refine congrArg _ (funext fun a => Fin.ext ?_)
  refine (Pipeline.Window.rect_emb_val ((cfgM m).win 2) (at_ m k b) (ix2 (n0 := 512) (n1 := 1024) p d) a rfl).trans ?_
  rw [index_2]
  have e0 := at_0 m k b
  have e1 := at_1 m k b
  match a with
  | ⟨0, _⟩ => show (grid0.coords (at_ m k b) 1).val * 512 + p.val = b.val * 512 + p.val; omega
  | ⟨1, _⟩ => show 0 * 1024 + d.val = d.val; omega
  | ⟨n + 2, hn⟩ => exact absurd (show n + 2 < 2 from hn) (by omega)

theorem iblk_3 (c : Dev nD) (k b : Fin 4) (q : Fin 512) (d : Fin 1024) :
    iblk m c 3 (at_ m k b) (ix3 (n0 := 1) (n1 := 512) (n2 := 1024) 0 q d) = argW₁ m c d (col k q) := by
  rw [← V_v4_lo m c k q d]
  show V m c main_v4 ((((cfgM m).win 3).blk (at_ m k b)).view.emb (ix3 (n0 := 1) (n1 := 512) (n2 := 1024) 0 q d)) = _
  refine congrArg _ (funext fun a => Fin.ext ?_)
  refine (Pipeline.Window.rect_emb_val ((cfgM m).win 3) (at_ m k b) (ix3 (n0 := 1) (n1 := 512) (n2 := 1024) 0 q d) a rfl).trans ?_
  rw [index_3]
  have e0 := at_0 m k b
  have e1 := at_1 m k b
  match a with
  | ⟨0, _⟩ => show 2 * (grid0.coords (at_ m k b) 0).val * 1 + 0 = 2 * k.val; omega
  | ⟨1, _⟩ => show 0 * 512 + q.val = q.val; omega
  | ⟨2, _⟩ => show 0 * 1024 + d.val = d.val; omega
  | ⟨n + 3, hn⟩ => exact absurd (show n + 3 < 3 from hn) (by omega)

theorem iblk_4 (c : Dev nD) (k b : Fin 4) (q : Fin 512) (d : Fin 1024) :
    iblk m c 4 (at_ m k b) (ix3 (n0 := 1) (n1 := 512) (n2 := 1024) 0 q d) = argW₂ m c (col k q) d := by
  rw [← V_v4_hi m c k q d]
  show V m c main_v4 ((((cfgM m).win 4).blk (at_ m k b)).view.emb (ix3 (n0 := 1) (n1 := 512) (n2 := 1024) 0 q d)) = _
  refine congrArg _ (funext fun a => Fin.ext ?_)
  refine (Pipeline.Window.rect_emb_val ((cfgM m).win 4) (at_ m k b) (ix3 (n0 := 1) (n1 := 512) (n2 := 1024) 0 q d) a rfl).trans ?_
  rw [index_4]
  have e0 := at_0 m k b
  have e1 := at_1 m k b
  match a with
  | ⟨0, _⟩ => show 2 * (grid0.coords (at_ m k b) 0).val * 1 + 0 = 2 * k.val; omega
  | ⟨1, _⟩ => show 1 * 512 + q.val = 512 + q.val; omega
  | ⟨2, _⟩ => show 0 * 1024 + d.val = d.val; omega
  | ⟨n + 3, hn⟩ => exact absurd (show n + 3 < 3 from hn) (by omega)

/-- The gradient window's rows that the first half gave. At later blocks of columns the window is not read. -/
theorem index_5 (b : Fin 4) : ((cfgM m).win 5).index (at_ m 0 b) = ![b.val, 0] := by
  show cc0_transform_5 (grid0.coords (at_ m 0 b)) = _
  have e0 := at_0 m 0 b
  have e1 := at_1 m 0 b
  unfold cc0_transform_5
  simp only [e0, e1]
  clear e0 e1; revert b; decide

theorem iblk_5 (c : Dev nD) (b : Fin 4) (p : Fin 512) (d : Fin 1024) :
    iblk m c 5 (at_ m 0 b) (ix2 (n0 := 512) (n1 := 1024) p d) = argP m c (row b p) d := by
  rw [show argP m c (row b p) d = V m c main_arg4 (ix2 (row b p) d) from (congrFun (V_main_arg4 m c) _).symm]
  show V m c main_arg4 ((((cfgM m).win 5).blk (at_ m 0 b)).view.emb (ix2 (n0 := 512) (n1 := 1024) p d)) = _
  refine congrArg _ (funext fun a => Fin.ext ?_)
  refine (Pipeline.Window.rect_emb_val ((cfgM m).win 5) (at_ m 0 b) (ix2 (n0 := 512) (n1 := 1024) p d) a rfl).trans ?_
  rw [index_5]
  match a with
  | ⟨0, _⟩ => show b.val * 512 + p.val = b.val * 512 + p.val; omega
  | ⟨1, _⟩ => show 0 * 1024 + d.val = d.val; omega
  | ⟨n + 2, hn⟩ => exact absurd (show n + 2 < 2 from hn) (by omega)

end Cert.Kernel3Ideal.Mlp

end
-- ==== Proof.Mlp2Pay.lean ====
/-
  The MLP backward kernel, second half: what its body computes from the blocks it reads, element by element.
-/
module

public import proofs.«01_k».proof.Proof.Mlp2Kit
public import Idealize.ShloMosaic.Lib.Pointwise

@[expose] public section

set_option maxRecDepth 16384

noncomputable section

namespace Cert.Kernel3Ideal.Mlp

open Cert.Kernel3Ideal.Gen
open Idealize.ShloMosaic

/-- The literal two of the body. -/
abbrev two : EReal := Ideal.ofBits .f32 0x40000000#32

variable (w1 : Vec Ideal S1x512x1024 .bf16) (w2 : Vec Ideal S1x512x1024 .bf16) (dz : Vec Ideal S512x1024 .bf16) (f : Vec Ideal S512x512 .f32)
  (h : Vec Ideal S1024x512 .bf16)

theorem pay5_apply (p q : Fin 512) :
    k0_pay5 w2 dz f (ix2 p q) = (∑ d : Fin 1024, dz (ix2 p d) * w2 (ix3 0 q d)) * (two * max (f (ix2 p q)) 0) := by
  pointwise [k0_pay5, k0_pay3, k0_pay4]

theorem pay6_apply (p : Fin 512) (j : Fin 1024) :
    k0_pay6 w1 w2 dz f (ix2 p j) = ∑ q : Fin 512, k0_pay5 w2 dz f (ix2 p q) * w1 (ix3 0 q j) := by
  unfold k0_pay6; generalize k0_pay5 w2 dz f = g; pointwise

theorem pay1_apply (x y : Vec Ideal S512x1024 .f32) (p : Fin 512) (j : Fin 1024) :
    k0_pay1 x y (ix2 p j) = y (ix2 p j) + x (ix2 p j) := by
  pointwise [k0_pay1]

theorem pay2_apply (x y : Vec Ideal S512x1024 .f32) (p : Fin 512) (j : Fin 1024) :
    k0_pay2 x y (ix2 p j) = y (ix2 p j) + x (ix2 p j) := by
  pointwise [k0_pay2]

theorem pay10_apply (i : Fin 1024) (q : Fin 512) :
    k0_pay10 w2 dz f h (ix3 0 i q) = ∑ p : Fin 512, h (ix2 i p) * k0_pay5 w2 dz f (ix2 p q) := by
  unfold k0_pay10 k0_pay7; generalize k0_pay5 w2 dz f = g; pointwise

theorem pay12_apply (y : Vec Ideal S1x1024x512 .f32) (i : Fin 1024) (q : Fin 512) :
    k0_pay12 w2 dz f h y (ix3 0 i q) = y (ix3 0 i q) + ∑ p : Fin 512, h (ix2 i p) * k0_pay5 w2 dz f (ix2 p q) := by
  unfold k0_pay12 k0_pay7; generalize k0_pay5 w2 dz f = g; pointwise

theorem pay9_apply (q : Fin 512) (j : Fin 1024) :
    k0_pay9 dz f (ix3 0 q j) = ∑ p : Fin 512, (max (f (ix2 p q)) 0 * max (f (ix2 p q)) 0) * dz (ix2 p j) := by
  pointwise [k0_pay9, k0_pay8, k0_pay3, k0_pay4]

theorem pay11_apply (y : Vec Ideal S1x512x1024 .f32) (q : Fin 512) (j : Fin 1024) :
    k0_pay11 dz f y (ix3 0 q j) = y (ix3 0 q j) + ∑ p : Fin 512, (max (f (ix2 p q)) 0 * max (f (ix2 p q)) 0) * dz (ix2 p j) := by
  pointwise [k0_pay11, k0_pay8, k0_pay3, k0_pay4]

end Cert.Kernel3Ideal.Mlp

end
-- ==== Proof.Mlp2Value.lean ====
/-
  The MLP backward kernel, second half, over the extended reals: its three output arrays are the gradients of MlpSpec.Even.
-/
module

public import proofs.«01_k».proof.Proof.Mlp2Arrays
public import proofs.«01_k».proof.Proof.Mlp2Blocks
public import proofs.«01_k».proof.Proof.Mlp2Pay

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.MlpSpec (row act hid)
open Cert.MlpSpec.Even (col)

/-- The blocks of the input windows at a point. -/
def x0 (c : Dev nD) (t : Fin (cfgM m).N) : Vec Ideal S1024x512 .bf16 := iblk m c 0 t
def x1 (c : Dev nD) (t : Fin (cfgM m).N) : Vec Ideal S512x512 .f32 := iblk m c 1 t
def x2 (c : Dev nD) (t : Fin (cfgM m).N) : Vec Ideal S512x1024 .bf16 := iblk m c 2 t
def x3 (c : Dev nD) (t : Fin (cfgM m).N) : Vec Ideal S1x512x1024 .bf16 := iblk m c 3 t
def x4 (c : Dev nD) (t : Fin (cfgM m).N) : Vec Ideal S1x512x1024 .bf16 := iblk m c 4 t
def x5 (c : Dev nD) (t : Fin (cfgM m).N) : Vec Ideal S512x1024 .f32 := iblk m c 5 t

/-- The block's clipped hidden values. -/
theorem act_point (c : Dev nD) (k b : Fin 4) (p q : Fin 512) :
    max (x1 m c (at_ m k b) (ix2 p q)) 0 = act (argH m c) (argW₁ m c) (row b p) (col k q) := by
  exact congrArg (fun x : EReal => max x 0) (iblk_1 m c k b p q)

/-- The gradient at the hidden layer that a point computes. -/
theorem hid_point (c : Dev nD) (k b : Fin 4) (p q : Fin 512) :
    k0_pay5 (x4 m c (at_ m k b)) (x2 m c (at_ m k b)) (x1 m c (at_ m k b)) (ix2 p q)
      = hid two (argH m c) (argZ m c) (argW₁ m c) (argW₂ m c) (row b p) (col k q) := by
  refine (pay5_apply _ _ _ p q).trans ?_
  unfold hid
  refine congr (congrArg _ (Finset.sum_congr rfl fun d _ => ?_)) (congrArg _ (act_point m c k b p q))
  exact congr (congrArg _ (iblk_2 m c k b p d)) (iblk_4 m c k b q d)

/-- A point's part of the input's gradient. -/
def part5 (c : Dev nD) (k b : Fin 4) (p : Fin 512) (j : Fin 1024) : EReal :=
  ∑ q : Fin 512, hid two (argH m c) (argZ m c) (argW₁ m c) (argW₂ m c) (row b p) (col k q) * argW₁ m c j (col k q)

/-- A point's part of the first weight's gradient. -/
def part6 (c : Dev nD) (k b : Fin 4) (i : Fin 1024) (q : Fin 512) : EReal :=
  ∑ p : Fin 512, argH m c (row b p) i * hid two (argH m c) (argZ m c) (argW₁ m c) (argW₂ m c) (row b p) (col k q)

/-- A point's part of the second weight's gradient. -/
def part7 (c : Dev nD) (k b : Fin 4) (q : Fin 512) (j : Fin 1024) : EReal :=
  ∑ p : Fin 512, (act (argH m c) (argW₁ m c) (row b p) (col k q) * act (argH m c) (argW₁ m c) (row b p) (col k q)) * argZ m c (row b p) j

theorem dh_point (c : Dev nD) (k b : Fin 4) (p : Fin 512) (j : Fin 1024) : dh m c (at_ m k b) (ix2 p j) = part5 m c k b p j := by
  refine (pay6_apply _ _ _ _ p j).trans ?_
  unfold part5
  exact Finset.sum_congr rfl fun q _ => congr (congrArg _ (hid_point m c k b p q)) (iblk_3 m c k b q j)

theorem sum6_point (c : Dev nD) (k b : Fin 4) (i : Fin 1024) (q : Fin 512) :
    (∑ p : Fin 512, x0 m c (at_ m k b) (ix2 i p) * k0_pay5 (x4 m c (at_ m k b)) (x2 m c (at_ m k b)) (x1 m c (at_ m k b)) (ix2 p q) : EReal)
      = part6 m c k b i q := by
  unfold part6
  exact Finset.sum_congr rfl fun p _ => congr (congrArg _ (iblk_0 m c k b i p)) (hid_point m c k b p q)

theorem sum7_point (c : Dev nD) (k b : Fin 4) (q : Fin 512) (j : Fin 1024) :
    (∑ p : Fin 512, (max (x1 m c (at_ m k b) (ix2 p q)) 0 * max (x1 m c (at_ m k b) (ix2 p q)) 0) * x2 m c (at_ m k b) (ix2 p j) : EReal)
      = part7 m c k b q j := by
  unfold part7
  exact Finset.sum_congr rfl fun p _ => congr (congrArg _ (congr (congrArg _ (act_point m c k b p q)) (act_point m c k b p q))) (iblk_2 m c k b p j)

theorem pt_at (k b : Fin 4) (n : ℕ) (h : n = 4 * k.val + b.val) : pt m n = at_ m k b := by
  subst h; exact Fin.ext (Nat.mod_eq_of_lt (by omega))

/-- The input's gradient. -/
theorem acc5_value (c : Dev nD) (b : Fin 4) (p : Fin 512) (j : Fin 1024) :
    acc5 m c b.val 3 (ix2 p j) = argP m c (row b p) j + ∑ k : Fin 4, part5 m c k b p j := by
  have h0 : pt m b.val = at_ m 0 b := pt_at m 0 b _ (by show b.val = 4 * 0 + b.val; omega)
  have h1 : pt m (4 * (0 + 1) + b.val) = at_ m 1 b := pt_at m 1 b _ (by show _ = 4 * 1 + b.val; omega)
  have h2 : pt m (4 * (1 + 1) + b.val) = at_ m 2 b := pt_at m 2 b _ (by show _ = 4 * 2 + b.val; omega)
  have h3 : pt m (4 * (2 + 1) + b.val) = at_ m 3 b := pt_at m 3 b _ (by show _ = 4 * 3 + b.val; omega)
  have e0 : acc5 m c b.val 0 (ix2 p j) = argP m c (row b p) j + part5 m c 0 b p j := by
    show k0_pay1 (dh m c (pt m b.val)) (x5 m c (pt m b.val)) (ix2 p j) = _
    rw [pay1_apply, h0, dh_point]
    exact congrArg (· + part5 m c 0 b p j) (iblk_5 m c b p j)
  have e1 : acc5 m c b.val 1 (ix2 p j) = argP m c (row b p) j + part5 m c 0 b p j + part5 m c 1 b p j := by
    show k0_pay2 (dh m c (pt m (4 * (0 + 1) + b.val))) (acc5 m c b.val 0) (ix2 p j) = _
    rw [pay2_apply, e0, h1, dh_point]
  have e2 : acc5 m c b.val 2 (ix2 p j) = argP m c (row b p) j + part5 m c 0 b p j + part5 m c 1 b p j + part5 m c 2 b p j := by
    show k0_pay2 (dh m c (pt m (4 * (1 + 1) + b.val))) (acc5 m c b.val 1) (ix2 p j) = _
    rw [pay2_apply, e1, h2, dh_point]
  show k0_pay2 (dh m c (pt m (4 * (2 + 1) + b.val))) (acc5 m c b.val 2) (ix2 p j) = _
  rw [pay2_apply, e2, h3, dh_point, Fin.sum_univ_four]
  simp only [add_assoc]

/-- The first weight's gradient: a block of columns' first point, and a later one. -/
theorem acc6_start (c : Dev nD) (k : Fin 4) (i : Fin 1024) (q : Fin 512) (n : ℕ) (hn : n = 4 * k.val) :
    acc6 m c n (ix3 0 i q) = part6 m c k 0 i q := by
  have e : acc6 m c n = k0_pay10 (x4 m c (at_ m k 0)) (x2 m c (at_ m k 0)) (x1 m c (at_ m k 0)) (x0 m c (at_ m k 0)) := by
    have h := acc6_first m c (at_ m k 0) (by show (4 * k.val + 0) % 4 = 0; omega)
    rw [show (at_ m k 0).val = n from hn.symm] at h
    exact h.symm
  rw [e, pay10_apply]
  exact sum6_point m c k 0 i q

theorem acc6_step (c : Dev nD) (k b : Fin 4) (i : Fin 1024) (q : Fin 512) (n : ℕ) (hn : n + 1 = 4 * k.val + b.val) (hb : b.val ≠ 0) :
    acc6 m c (n + 1) (ix3 0 i q) = acc6 m c n (ix3 0 i q) + part6 m c k b i q := by
  have e : acc6 m c (n + 1) = k0_pay12 (x4 m c (at_ m k b)) (x2 m c (at_ m k b)) (x1 m c (at_ m k b)) (x0 m c (at_ m k b)) (acc6 m c n) := by
    have h := acc6_later m c (at_ m k b) (by show ¬(4 * k.val + b.val) % 4 = 0; omega)
    rw [show (at_ m k b).val = n + 1 from hn.symm] at h
    exact h.symm
  rw [e, pay12_apply]
  exact congrArg _ (sum6_point m c k b i q)

theorem acc6_value (c : Dev nD) (k : Fin 4) (i : Fin 1024) (q : Fin 512) :
    acc6 m c (4 * k.val + 3) (ix3 0 i q) = ∑ b : Fin 4, part6 m c k b i q := by
  rw [Fin.sum_univ_four, acc6_step m c k 3 i q (4 * k.val + 2) rfl (by decide), acc6_step m c k 2 i q (4 * k.val + 1) rfl (by decide),
    acc6_step m c k 1 i q (4 * k.val) rfl (by decide), acc6_start m c k i q (4 * k.val) rfl]

/-- The second weight's gradient: a block of columns' first point, and a later one. -/
theorem acc7_start (c : Dev nD) (k : Fin 4) (q : Fin 512) (j : Fin 1024) (n : ℕ) (hn : n = 4 * k.val) :
    acc7 m c n (ix3 0 q j) = part7 m c k 0 q j := by
  have e : acc7 m c n = k0_pay9 (x2 m c (at_ m k 0)) (x1 m c (at_ m k 0)) := by
    have h := acc7_first m c (at_ m k 0) (by show (4 * k.val + 0) % 4 = 0; omega)
    rw [show (at_ m k 0).val = n from hn.symm] at h
    exact h.symm
  rw [e, pay9_apply]
  exact sum7_point m c k 0 q j

theorem acc7_step (c : Dev nD) (k b : Fin 4) (q : Fin 512) (j : Fin 1024) (n : ℕ) (hn : n + 1 = 4 * k.val + b.val) (hb : b.val ≠ 0) :
    acc7 m c (n + 1) (ix3 0 q j) = acc7 m c n (ix3 0 q j) + part7 m c k b q j := by
  have e : acc7 m c (n + 1) = k0_pay11 (x2 m c (at_ m k b)) (x1 m c (at_ m k b)) (acc7 m c n) := by
    have h := acc7_later m c (at_ m k b) (by show ¬(4 * k.val + b.val) % 4 = 0; omega)
    rw [show (at_ m k b).val = n + 1 from hn.symm] at h
    exact h.symm
  rw [e, pay11_apply]
  exact congrArg _ (sum7_point m c k b q j)

theorem acc7_value (c : Dev nD) (k : Fin 4) (q : Fin 512) (j : Fin 1024) :
    acc7 m c (4 * k.val + 3) (ix3 0 q j) = ∑ b : Fin 4, part7 m c k b q j := by
  rw [Fin.sum_univ_four, acc7_step m c k 3 q j (4 * k.val + 2) rfl (by decide), acc7_step m c k 2 q j (4 * k.val + 1) rfl (by decide),
    acc7_step m c k 1 q j (4 * k.val) rfl (by decide), acc7_start m c k q j (4 * k.val) rfl]

/-- The output arrays hold the gradients. -/
theorem values_of (r : PUnit × MemSt nD τ sig (Elt Ideal)) (h : Pipeline.RDat.FramePost ((Pipeline.pin pcfgs fun _ => adm m) 0) (rdat m) (V m) r) (c : Dev nD) :
    (∀ (b : Fin 4) (p : Fin 512) (j : Fin 1024), r.2.mem ((c.tc : Thread nD τ).loc main_v11_0) (ix2 (row b p) j)
        = MlpSpec.Even.dh2 two (argH m c) (argZ m c) (argW₁ m c) (argW₂ m c) (argP m c) (row b p) j)
      ∧ (∀ (k : Fin 4) (i : Fin 1024) (q : Fin 512), r.2.mem ((c.tc : Thread nD τ).loc main_v11_1) (ix3 k i q)
        = MlpSpec.Even.dw1 two (argH m c) (argZ m c) (argW₁ m c) (argW₂ m c) k i q)
      ∧ (∀ (k : Fin 4) (q : Fin 512) (j : Fin 1024), r.2.mem ((c.tc : Thread nD τ).loc main_v11_2) (ix3 k q j)
        = MlpSpec.Even.dw2 (argH m c) (argZ m c) (argW₁ m c) k q j) := by
  obtain ⟨h5, h6, h7⟩ := outs_of m r h c
  refine ⟨fun b p j => ?_, fun k i q => (h6 k i q).trans (acc6_value m c k i q), fun k q j => (h7 k q j).trans (acc7_value m c k q j)⟩
  rw [show row b p = ⟨512 * b.val + p.val, by omega⟩ from Fin.ext (by show b.val * 512 + p.val = 512 * b.val + p.val; omega)]
  refine (h5 b p j).trans ((acc5_value m c b p j).trans ?_)
  unfold MlpSpec.Even.dh2 part5
  rw [show (⟨512 * b.val + p.val, by omega⟩ : Fin 2048) = row b p from Fin.ext (by show 512 * b.val + p.val = b.val * 512 + p.val; omega)]

end Cert.Kernel3Ideal.Mlp

end
-- ==== Proof.Mlp2Ref.lean ====
/-
  The MLP backward's second half: the reference's results are the gradients of MlpSpec.Even.
-/
module

public import proofs.«01_k».proof.Proof.Mlp2Spec
public import proofs.«01_k».proof.Proof.Gen.Reference3Ideal.Read
public import Idealize.ShloMosaic.Lib.Pointwise

@[expose] public section

set_option maxRecDepth 16384

noncomputable section

namespace Cert.Reference3Ideal.Mlp

open Cert.Reference3Ideal Cert.Reference3Ideal.Gen Cert.Reference3Ideal.Read
open Idealize.ShloMosaic
open Cert.MlpSpec (row)
open Cert.MlpSpec.Even (col)

abbrev two : EReal := Ideal.ofBits .f32 0x40000000#32

variable (x0 : (⟨S2048x1024, .f32⟩ : BufTy).Contents (Elt Ideal)) (x1 : (⟨S1024x4096, .f32⟩ : BufTy).Contents (Elt Ideal))
  (x2 : (⟨S4096x1024, .f32⟩ : BufTy).Contents (Elt Ideal)) (x3 x4 : (⟨S2048x1024, .f32⟩ : BufTy).Contents (Elt Ideal))

abbrev H : Fin 2048 → Fin 1024 → EReal := fun r d => x0 (ix2 r d)
abbrev W₁ : Fin 1024 → Fin 4096 → EReal := fun d c => x1 (ix2 d c)
abbrev W₂ : Fin 4096 → Fin 1024 → EReal := fun c d => x2 (ix2 c d)

/-- The even block's column that the reference keeps as column `k`. -/
def even (k : Fin 2048) : Fin 4096 := ⟨2 * (k.val / 512) * 512 + k.val % 512, by omega⟩

theorem even_col (k : Fin 4) (q : Fin 512) (h : k.val * 512 + q.val < 2048) : even ⟨k.val * 512 + q.val, h⟩ = col k q := by
  apply Fin.ext; show 2 * ((k.val * 512 + q.val) / 512) * 512 + (k.val * 512 + q.val) % 512 = 2 * k.val * 512 + q.val; omega

theorem v3_apply (d : Fin 1024) (k : Fin 2048) : val_main_v3 (F := Ideal) x1 (ix2 d k) = x1 (ix2 d (even k)) := by
  rw [val_main_v3_apply, val_main_v2_apply, val_main_v1_apply, val_main_v0_apply]
  refine congrArg x1 (funext fun a => Fin.ext ?_)
  have hd := d.isLt
  have hk := k.isLt
  match a with
  | ⟨0, _⟩ => simp only [ix2_0, ix2_1]; show _ = d.val; omega
  | ⟨1, _⟩ => simp only [ix2_0, ix2_1]; show _ = 2 * (k.val / 512) * 512 + k.val % 512; omega

theorem v9_apply (k : Fin 2048) (d : Fin 1024) : val_main_v9 (F := Ideal) x2 (ix2 k d) = x2 (ix2 (even k) d) := by
  rw [val_main_v9_apply, val_main_v8_apply, val_main_v7_apply, val_main_v6_apply, val_main_v5_apply, val_main_v4_apply]
  refine congrArg x2 (funext fun a => Fin.ext ?_)
  have hd := d.isLt
  have hk := k.isLt
  match a with
  | ⟨0, _⟩ => simp only [ix2_0, ix2_1]; show _ = 2 * (k.val / 512) * 512 + k.val % 512; omega
  | ⟨1, _⟩ => simp only [ix2_0, ix2_1]; show _ = d.val; omega

theorem v10_apply (r k : Fin 2048) : val_main_v10 (F := Ideal) x0 x1 (ix2 r k) = ∑ d : Fin 1024, H x0 r d * W₁ x1 d (even k) := by
  have e : ∀ d, val_main_v3 (F := Ideal) x1 (ix2 d k) = x1 (ix2 d (even k)) := fun d => v3_apply x1 d k
  simp only [← e]
  unfold val_main_v10; generalize val_main_v3 (F := Ideal) x1 = g; pointwise

theorem v11_apply (r k : Fin 2048) : val_main_v11 (F := Ideal) x0 x1 (ix2 r k) = MlpSpec.act (H x0) (W₁ x1) r (even k) := by
  unfold MlpSpec.act
  rw [← v10_apply]
  unfold val_main_v11 val_main_call0_v0 val_main_call0_cst; generalize val_main_v10 (F := Ideal) x0 x1 = g; pointwise

theorem v24_apply (r k : Fin 2048) : val_main_v24 (F := Ideal) x0 x1 x2 x3 (ix2 r k) = MlpSpec.hid two (H x0) (H x3) (W₁ x1) (W₂ x2) r (even k) := by
  have e21 : val_main_v21 (F := Ideal) x2 x3 (ix2 r k) = ∑ d : Fin 1024, x3 (ix2 r d) * x2 (ix2 (even k) d) := by
    have e : ∀ d, val_main_v9 (F := Ideal) x2 (ix2 k d) = x2 (ix2 (even k) d) := fun d => v9_apply x2 k d
    simp only [← e]
    unfold val_main_v21; generalize val_main_v9 (F := Ideal) x2 = g; pointwise
  unfold MlpSpec.hid
  rw [← v11_apply, ← e21]
  unfold val_main_v24 val_main_v13 val_main_v22 val_main_v17 val_main_v11 val_main_call0_v0 val_main_call0_cst val_main_v12 val_main_v16 val_main_v23 val_main_cst val_main_cst_1 val_main_cst_2
  generalize val_main_v10 (F := Ideal) x0 x1 = g
  generalize val_main_v21 (F := Ideal) x2 x3 = g'
  pointwise
  by_cases h : 0 < g (ix2 r k)
  · rw [if_pos h]
  · rw [if_neg h, max_eq_right (not_lt.mp h), mul_zero, mul_zero]

theorem v28_apply (r : Fin 2048) (j : Fin 1024) : val_main_v28 (F := Ideal) x0 x1 x2 x3 x4 (ix2 r j) = MlpSpec.Even.dh2 two (H x0) (H x3) (W₁ x1) (W₂ x2) (H x4) r j := by
  have e : val_main_v27 (F := Ideal) x0 x1 x2 x3 (ix2 r j) = ∑ k : Fin 2048, val_main_v24 (F := Ideal) x0 x1 x2 x3 (ix2 r k) * val_main_v3 (F := Ideal) x1 (ix2 j k) := by
    unfold val_main_v27; generalize val_main_v24 (F := Ideal) x0 x1 x2 x3 = g; generalize val_main_v3 (F := Ideal) x1 = g'; pointwise
  rw [val_main_v28_apply, e, Fin.sum_univ_tiles 4 512 rfl]
  unfold MlpSpec.Even.dh2
  refine congrArg (fun x : EReal => H x4 r j + x) (Finset.sum_congr rfl fun k _ => Finset.sum_congr rfl fun q _ => ?_)
  rw [v24_apply, v3_apply, even_col]

theorem v30_apply (k : Fin 4) (i : Fin 1024) (q : Fin 512) : val_main_v30 (F := Ideal) x0 x1 x2 x3 (ix3 k i q) = MlpSpec.Even.dw1 two (H x0) (H x3) (W₁ x1) (W₂ x2) k i q := by
  have hkq : k.val * 512 + q.val < 2048 := by omega
  have e1 : val_main_v30 (F := Ideal) x0 x1 x2 x3 (ix3 k i q) = val_main_v25 (F := Ideal) x0 x1 x2 x3 (ix2 ⟨k.val * 512 + q.val, hkq⟩ i) := by
    rw [val_main_v30_apply, val_main_v29_apply, val_main_v26_apply]
    refine congrArg _ (funext fun a => Fin.ext ?_)
    have hi := i.isLt
    have hk := k.isLt
    have hq := q.isLt
    match a with
    | ⟨0, _⟩ => show ((i.val * 4 + k.val) * 512 + q.val) % 2048 = k.val * 512 + q.val; omega
    | ⟨1, _⟩ => show ((i.val * 4 + k.val) * 512 + q.val) / 2048 = i.val; omega
  have e2 : ∀ c, val_main_v25 (F := Ideal) x0 x1 x2 x3 (ix2 c i) = ∑ r : Fin 2048, val_main_v24 (F := Ideal) x0 x1 x2 x3 (ix2 r c) * x0 (ix2 r i) := by
    intro c; unfold val_main_v25; generalize val_main_v24 (F := Ideal) x0 x1 x2 x3 = g; pointwise
  rw [e1, e2, Fin.sum_univ_tiles 4 512 rfl]
  unfold MlpSpec.Even.dw1
  refine Finset.sum_congr rfl fun b _ => Finset.sum_congr rfl fun p _ => ?_
  rw [v24_apply, even_col, mul_comm]; rfl

theorem v31_apply (k : Fin 4) (q : Fin 512) (j : Fin 1024) : val_main_v31 (F := Ideal) x0 x1 x3 (ix3 k q j) = MlpSpec.Even.dw2 (H x0) (H x3) (W₁ x1) k q j := by
  have hkq : k.val * 512 + q.val < 2048 := by omega
  have e1 : val_main_v31 (F := Ideal) x0 x1 x3 (ix3 k q j) = val_main_v19 (F := Ideal) x0 x1 x3 (ix2 j ⟨k.val * 512 + q.val, hkq⟩) := by
    rw [val_main_v31_apply, val_main_v20_apply]
    refine congrArg _ (funext fun a => Fin.ext ?_)
    have hj := j.isLt
    have hk := k.isLt
    have hq := q.isLt
    match a with
    | ⟨0, _⟩ => show ((k.val * 512 + q.val) * 1024 + j.val) % 1024 = j.val; omega
    | ⟨1, _⟩ => show ((k.val * 512 + q.val) * 1024 + j.val) / 1024 = k.val * 512 + q.val; omega
  have e2 : ∀ c, val_main_v19 (F := Ideal) x0 x1 x3 (ix2 j c) = ∑ r : Fin 2048, x3 (ix2 r j) * (val_main_v11 (F := Ideal) x0 x1 (ix2 r c) * val_main_v11 (F := Ideal) x0 x1 (ix2 r c)) := by
    intro c; unfold val_main_v19 val_main_v15; generalize val_main_v11 (F := Ideal) x0 x1 = g; pointwise
  rw [e1, e2, Fin.sum_univ_tiles 4 512 rfl]
  unfold MlpSpec.Even.dw2
  refine Finset.sum_congr rfl fun b _ => Finset.sum_congr rfl fun p _ => ?_
  rw [v11_apply, even_col, mul_comm]; rfl

end Cert.Reference3Ideal.Mlp

end
-- ==== Proof.Mlp2Claim.lean ====
/-
  The MLP backward's second half: the kernel's frames, the reference's frame, and the equality of their results over the
  extended reals.
-/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Mlp2Same
public import proofs.«01_k».proof.Proof.Mlp2Value
public import proofs.«01_k».proof.Proof.Mlp2Ref
public import Idealize.ShloMosaic.Lib.Quiescent

@[expose] public section

noncomputable section

namespace Cert.Mlp2Claim

open Idealize.ShloMosaic Idealize.ShloMosaic.TcCoe Idealize.SL.Sem

set_option maxHeartbeats 8000000 in
set_option maxRecDepth 65536 in
/-- The kernel's frame: the ideal program's run, read at the TPU's own bits. -/
theorem frame_kernel3 : Cert.quiescent_Kernel3 (hKernel3 := Cert.Kernel3.Gen.facts) := fun m ρ _ => by
  rw [Cert.Same3.defs_eq, Cert.Same3.main_eq]
  exact Cert.Kernel3Ideal.Mlp.frame (F := Bits) m ρ

theorem frame_kernel3Ideal : Cert.quiescent_Kernel3Ideal (hKernel3Ideal := Cert.Kernel3Ideal.Gen.facts) := fun m ρ _ =>
  Cert.Kernel3Ideal.Mlp.frame (F := Ideal) m ρ

theorem frame_reference3Ideal : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

open Cert.Reference3Ideal.Read Cert.Reference3Ideal.Gen in
/-- Over the extended reals the kernel's three results are the reference's. -/
theorem algebraic : Cert.algebraic_Kernel3Ideal_Reference3Ideal (hKernel3Ideal := Cert.Kernel3Ideal.Gen.facts) (hReference3Ideal := Cert.Reference3Ideal.Gen.facts) := by
  intro m ρ m' ρ' _ hm
  have hd : ∀ c : Dev Cert.Kernel3Ideal.nD, c = 0 := fun c => Subsingleton.elim _ _
  refine ⟨fun c => val_main_v28 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => val_main_v30 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => val_main_v31 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)),
    ?_, ?_⟩
  · refine (θ_run Cert.Kernel3Ideal.defs _ _).mono (fun r h c => ?_) (Cert.Kernel3Ideal.Mlp.run_main (F := Ideal) m ρ)
    obtain ⟨h5, h6, h7⟩ := Cert.Kernel3Ideal.Mlp.values_of m r h.1 c
    refine ⟨funext fun i => ?_, funext fun i => ?_, funext fun i => ?_, Cert.Kernel3Ideal.Mlp.args_of m r h.1 c⟩
    · have hr : (i 0).val < 2048 := (i 0).isLt
      have e : i = ix2 (n0 := 2048) (n1 := 1024) (Cert.MlpSpec.row ⟨(i 0).val / 512, by omega⟩ ⟨(i 0).val % 512, by omega⟩) (i 1) := by
        funext a
        match a with
        | ⟨0, _⟩ => exact Fin.ext (by show (i 0).val = (i 0).val / 512 * 512 + (i 0).val % 512; omega)
        | ⟨1, _⟩ => rfl
        | ⟨n + 2, hn⟩ => exact absurd (show n + 2 < 2 from hn) (by omega)
      rw [e]
      exact (h5 _ _ _).trans (Cert.Reference3Ideal.Mlp.v28_apply _ _ _ _ _ _ _).symm
    · have e : i = ix3 (n0 := 4) (n1 := 1024) (n2 := 512) (i 0) (i 1) (i 2) := by
        funext a
        match a with
        | ⟨0, _⟩ => rfl
        | ⟨1, _⟩ => rfl
        | ⟨2, _⟩ => rfl
        | ⟨n + 3, hn⟩ => exact absurd (show n + 3 < 3 from hn) (by omega)
      rw [e]
      exact (h6 _ _ _).trans (Cert.Reference3Ideal.Mlp.v30_apply _ _ _ _ _ _ _).symm
    · have e : i = ix3 (n0 := 4) (n1 := 512) (n2 := 1024) (i 0) (i 1) (i 2) := by
        funext a
        match a with
        | ⟨0, _⟩ => rfl
        | ⟨1, _⟩ => rfl
        | ⟨2, _⟩ => rfl
        | ⟨n + 3, hn⟩ => exact absurd (show n + 3 < 3 from hn) (by omega)
      rw [e]
      exact (h7 _ _ _).trans (Cert.Reference3Ideal.Mlp.v31_apply _ _ _ _ _ _).symm
  · refine (θ_run Cert.Reference3Ideal.defs _ _).mono (fun r h c => ?_) (Cert.Reference3Ideal.Value.run (F := Ideal) m' ρ')
    obtain ⟨a0, a1, a2, a3, a4⟩ := hm c
    obtain ⟨h0, h1, h2, h3⟩ := h c
    refine ⟨?_, ?_, ?_, h3⟩
    · show _ = val_main_v28 (F := Ideal) _ _ _ _ _
      exact (h0.trans (val_main_v28_eq _ _ _ _ _)).trans (by rw [a0, a1, a2, a3, a4])
    · show _ = val_main_v30 (F := Ideal) _ _ _ _
      exact (h1.trans (val_main_v30_eq _ _ _ _)).trans (by rw [a0, a1, a2, a3])
    · show _ = val_main_v31 (F := Ideal) _ _ _
      exact (h2.trans (val_main_v31_eq _ _ _)).trans (by rw [a0, a1, a3])

end Cert.Mlp2Claim

end
-- ==== Proof.WgradIn.lean ====
/-
  The gradient of the input projection's weight: the kernel's frames, the reference's frame, and the equality of their results over the extended
  reals. The kernel multiplies the left array, a block of 512 rows at a time, with the whole right array.
-/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.Pointwise
public import Idealize.ShloMosaic.Lib.Quiescent

@[expose] public section

noncomputable section

namespace Cert.WgradIn

open Idealize.ShloMosaic Idealize.ShloMosaic.TcCoe Idealize.SL.Sem
open Cert.Kernel4Ideal Cert.Kernel4Ideal.Gen

/-- One block's product, element by element. -/
theorem pay_apply (x : Vec Ideal S512x2048 .bf16) (y : Vec Ideal S2048x1024 .bf16) (p : Fin 512) (j : Fin 1024) :
    k0_pay1 x y (ix2 p j) = (∑ k : Fin 2048, x (ix2 p k) * y (ix2 k j) : EReal) := by
  pointwise [k0_pay1]

variable (m : (ℓ : Loc nD τ sig) → Buf (Elt Ideal) ℓ)

/-- The left argument and the right one. -/
abbrev argA (c : Dev nD) : Fin 2560 → Fin 2048 → EReal := fun r k => m ((c.tc : Thread nD τ).loc main_arg0) (ix2 r k)
abbrev argB (c : Dev nD) : Fin 2048 → Fin 1024 → EReal := fun k j => m ((c.tc : Thread nD τ).loc main_arg1) (ix2 k j)

theorem iblk_0 (c : Dev nD) (t : Fin cfg0.N) (p : Fin 512) (k : Fin 2048) (hr : t.val * 512 + p.val < 2560) :
    iblk m c 0 t (ix2 (n0 := 512) (n1 := 2048) p k) = argA m c ⟨t.val * 512 + p.val, hr⟩ k := by
  rw [show argA m c ⟨t.val * 512 + p.val, hr⟩ k = V m c main_arg0 (ix2 ⟨t.val * 512 + p.val, hr⟩ k) from (congrFun (V_main_arg0 m c) _).symm]
  show V m c main_arg0 (((cfg0.win 0).blk t).view.emb (ix2 (n0 := 512) (n1 := 2048) p k)) = _
  refine congrArg _ (funext fun a => Fin.ext ?_)
  refine (Pipeline.Window.rect_emb_val (cfg0.win 0) t (ix2 (n0 := 512) (n1 := 2048) p k) a rfl).trans ?_
  rw [show (cfg0.win 0).index t = ![t.val, 0] from (by decide +kernel : ∀ t : Fin grid0.N, win0_0.index t = ![t.val, 0]) t]
  match a with
  | ⟨0, _⟩ => rfl
  | ⟨1, _⟩ => show 0 * 2048 + k.val = k.val; omega
  | ⟨n + 2, hn⟩ => exact absurd (show n + 2 < 2 from hn) (by omega)

theorem iblk_1 (c : Dev nD) (t : Fin cfg0.N) (k : Fin 2048) (j : Fin 1024) :
    iblk m c 1 t (ix2 (n0 := 2048) (n1 := 1024) k j) = argB m c k j := by
  rw [show argB m c k j = V m c main_arg1 (ix2 k j) from (congrFun (V_main_arg1 m c) _).symm]
  show V m c main_arg1 (((cfg0.win 1).blk t).view.emb (ix2 (n0 := 2048) (n1 := 1024) k j)) = _
  refine congrArg _ (funext fun a => Fin.ext ?_)
  refine (Pipeline.Window.rect_emb_val (cfg0.win 1) t (ix2 (n0 := 2048) (n1 := 1024) k j) a rfl).trans ?_
  rw [show (cfg0.win 1).index t = ![0, 0] from (by decide +kernel : ∀ t : Fin grid0.N, win0_1.index t = ![0, 0]) t]
  match a with
  | ⟨0, _⟩ => show 0 * 2048 + k.val = k.val; omega
  | ⟨1, _⟩ => show 0 * 1024 + j.val = j.val; omega
  | ⟨n + 2, hn⟩ => exact absurd (show n + 2 < 2 from hn) (by omega)

/-- A block's store leaves the product of the blocks. -/
theorem out_eq (x0 : Vec Ideal S512x2048 .bf16) (x1 : Vec Ideal S2048x1024 .bf16) : out0_2 x0 x1 = k0_pay1 x0 x1 := by
  have z : (![0, 0] : Fin 2 → Nat) = fun _ => 0 := by decide
  have e0 : View.ld x0 r0_0 = x0 := View.ld_unit_zero z _ x0
  have e1 : View.ld x1 r0_1 = x1 := View.ld_unit_zero z _ x1
  unfold out0_2
  rw [e0, e1]
  exact View.canon_unit_zero z _ _

/-- The array after the run is the product of the arguments. -/
theorem arr_2 (c : Dev nD) (t : Fin cfg0.N) (p : Fin 512) (j : Fin 1024) (hr : t.val * 512 + p.val < 2560) :
    (dats m 0 c).arrAt 2 cfg0.N (ix2 (n0 := 2560) ⟨t.val * 512 + p.val, hr⟩ j) = (∑ k : Fin 2048, argA m c ⟨t.val * 512 + p.val, hr⟩ k * argB m c k j : EReal) := by
  have hf : (cfg0.win 2).flush t = true := (by decide +kernel : ∀ t : Fin grid0.N, win0_2.flush t = true) t
  have hy : ((cfg0.win 2).blk t).view.emb (ix2 (n0 := 512) (n1 := 1024) p j) = ix2 (n0 := 2560) (n1 := 1024) ⟨t.val * 512 + p.val, hr⟩ j := by
    funext a
    apply Fin.ext
    refine (Pipeline.Window.rect_emb_val (cfg0.win 2) t (ix2 (n0 := 512) (n1 := 1024) p j) a rfl).trans ?_
    rw [show (cfg0.win 2).index t = ![t.val, 0] from (by decide +kernel : ∀ t : Fin grid0.N, win0_2.index t = ![t.val, 0]) t]
    match a with
    | ⟨0, _⟩ => rfl
    | ⟨1, _⟩ => show 0 * 1024 + j.val = j.val; omega
    | ⟨n + 2, hn⟩ => exact absurd (show n + 2 < 2 from hn) (by omega)
  have h := (dats m 0 c).arrAt_emb_eq_flushed 2 Value.disjoint2 t hf (ix2 (n0 := 512) (n1 := 1024) p j)
  rw [hy] at h
  refine h.trans ?_
  rw [Value.flushed2, out_eq]
  refine (pay_apply _ _ p j).trans (Finset.sum_congr rfl fun k _ => ?_)
  exact congr (congrArg _ (iblk_0 m c t p k hr)) (iblk_1 m c t k j)

open Cert.Reference4Ideal.Read Cert.Reference4Ideal.Gen in
/-- The reference's result, element by element. -/
theorem ref_apply (x0 : (⟨S2560x2048, .bf16⟩ : BufTy).Contents (Elt Ideal)) (x1 : (⟨S2048x1024, .bf16⟩ : BufTy).Contents (Elt Ideal)) (r : Fin 2560) (j : Fin 1024) :
    val_main_v7 (F := Ideal) x0 x1 (ix2 r j) = (∑ k : Fin 2048, x0 (ix2 r k) * x1 (ix2 k j) : EReal) := by
  rw [val_main_v7_apply, val_main_v6_apply, val_main_v5_apply]
  refine Finset.sum_congr rfl fun k _ => ?_
  rw [val_main_v4_apply, val_main_v3_apply, val_main_v1_apply]
  refine congr (congrArg (fun u v : EReal => u * v) (congrArg x0 (funext fun a => ?_))) (congrArg x1 (funext fun a => ?_))
  · match a with
    | ⟨0, _⟩ => rfl
    | ⟨1, _⟩ => rfl
    | ⟨n + 2, hn⟩ => exact absurd (show n + 2 < 2 from hn) (by omega)
  · match a with
    | ⟨0, _⟩ => rfl
    | ⟨1, _⟩ => rfl
    | ⟨n + 2, hn⟩ => exact absurd (show n + 2 < 2 from hn) (by omega)

theorem frame_kernel4 : Cert.quiescent_Kernel4 (hKernel4 := Cert.Kernel4.Gen.facts) := fun m ρ _ => Cert.Kernel4.Gen.frame m ρ

theorem frame_kernel4Ideal : Cert.quiescent_Kernel4Ideal (hKernel4Ideal := Cert.Kernel4Ideal.Gen.facts) := fun m ρ _ => Cert.Kernel4Ideal.Gen.frame m ρ

theorem frame_reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal.Read Cert.Reference4Ideal.Gen in
/-- Over the extended reals the kernel's result is the reference's. -/
theorem algebraic : Cert.algebraic_Kernel4Ideal_Reference4Ideal (hKernel4Ideal := Cert.Kernel4Ideal.Gen.facts) (hReference4Ideal := Cert.Reference4Ideal.Gen.facts) := by
  intro m ρ m' ρ' _ hm
  refine ⟨fun c => val_main_v7 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m ρ)
    refine ⟨funext fun i => ?_, (h c).2⟩
    rw [(h c).1]
    have hr : (i 0).val < 2560 := (i 0).isLt
    have e : i = ix2 (n0 := 2560) (n1 := 1024) ⟨(i 0).val / 512 * 512 + (i 0).val % 512, by omega⟩ (i 1) := by
      funext a
      match a with
      | ⟨0, _⟩ => exact Fin.ext (by show (i 0).val = (i 0).val / 512 * 512 + (i 0).val % 512; omega)
      | ⟨1, _⟩ => rfl
      | ⟨n + 2, hn⟩ => exact absurd (show n + 2 < 2 from hn) (by omega)
    rw [e]
    exact (arr_2 m c ⟨(i 0).val / 512, lt_of_lt_of_eq (by omega : (i 0).val / 512 < 5) (by decide)⟩ ⟨(i 0).val % 512, by omega⟩ (i 1) (by show (i 0).val / 512 * 512 + (i 0).val % 512 < 2560; omega)).trans (ref_apply _ _ _ _).symm
  · refine (θ_run Cert.Reference4Ideal.defs _ _).mono (fun r h c => ?_) (Cert.Reference4Ideal.Value.run (F := Ideal) m' ρ')
    obtain ⟨a0, a1⟩ := hm c
    obtain ⟨h0, h1⟩ := h c
    refine ⟨?_, h1⟩
    show _ = val_main_v7 (F := Ideal) _ _
    exact (h0.trans (val_main_v7_eq _ _)).trans (by rw [a0, a1])

end Cert.WgradIn

end
-- ==== Proof.WgradOut.lean ====
/-
  The gradient of the output projection's weight: the kernel's frames, the reference's frame, and the equality of their results over the extended
  reals. The kernel multiplies the left array, a block of 512 rows at a time, with the whole right array.
-/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pointwise
public import Idealize.ShloMosaic.Lib.Quiescent

@[expose] public section

noncomputable section

namespace Cert.WgradOut

open Idealize.ShloMosaic Idealize.ShloMosaic.TcCoe Idealize.SL.Sem
open Cert.Kernel5Ideal Cert.Kernel5Ideal.Gen

/-- One block's product, element by element. -/
theorem pay_apply (x : Vec Ideal S512x2048 .bf16) (y : Vec Ideal S2048x1024 .bf16) (p : Fin 512) (j : Fin 1024) :
    k0_pay1 x y (ix2 p j) = (∑ k : Fin 2048, x (ix2 p k) * y (ix2 k j) : EReal) := by
  pointwise [k0_pay1]

variable (m : (ℓ : Loc nD τ sig) → Buf (Elt Ideal) ℓ)

/-- The left argument and the right one. -/
abbrev argA (c : Dev nD) : Fin 1024 → Fin 2048 → EReal := fun r k => m ((c.tc : Thread nD τ).loc main_arg0) (ix2 r k)
abbrev argB (c : Dev nD) : Fin 2048 → Fin 1024 → EReal := fun k j => m ((c.tc : Thread nD τ).loc main_arg1) (ix2 k j)

theorem iblk_0 (c : Dev nD) (t : Fin cfg0.N) (p : Fin 512) (k : Fin 2048) (hr : t.val * 512 + p.val < 1024) :
    iblk m c 0 t (ix2 (n0 := 512) (n1 := 2048) p k) = argA m c ⟨t.val * 512 + p.val, hr⟩ k := by
  rw [show argA m c ⟨t.val * 512 + p.val, hr⟩ k = V m c main_arg0 (ix2 ⟨t.val * 512 + p.val, hr⟩ k) from (congrFun (V_main_arg0 m c) _).symm]
  show V m c main_arg0 (((cfg0.win 0).blk t).view.emb (ix2 (n0 := 512) (n1 := 2048) p k)) = _
  refine congrArg _ (funext fun a => Fin.ext ?_)
  refine (Pipeline.Window.rect_emb_val (cfg0.win 0) t (ix2 (n0 := 512) (n1 := 2048) p k) a rfl).trans ?_
  rw [show (cfg0.win 0).index t = ![t.val, 0] from (by decide +kernel : ∀ t : Fin grid0.N, win0_0.index t = ![t.val, 0]) t]
  match a with
  | ⟨0, _⟩ => rfl
  | ⟨1, _⟩ => show 0 * 2048 + k.val = k.val; omega
  | ⟨n + 2, hn⟩ => exact absurd (show n + 2 < 2 from hn) (by omega)

theorem iblk_1 (c : Dev nD) (t : Fin cfg0.N) (k : Fin 2048) (j : Fin 1024) :
    iblk m c 1 t (ix2 (n0 := 2048) (n1 := 1024) k j) = argB m c k j := by
  rw [show argB m c k j = V m c main_arg1 (ix2 k j) from (congrFun (V_main_arg1 m c) _).symm]
  show V m c main_arg1 (((cfg0.win 1).blk t).view.emb (ix2 (n0 := 2048) (n1 := 1024) k j)) = _
  refine congrArg _ (funext fun a => Fin.ext ?_)
  refine (Pipeline.Window.rect_emb_val (cfg0.win 1) t (ix2 (n0 := 2048) (n1 := 1024) k j) a rfl).trans ?_
  rw [show (cfg0.win 1).index t = ![0, 0] from (by decide +kernel : ∀ t : Fin grid0.N, win0_1.index t = ![0, 0]) t]
  match a with
  | ⟨0, _⟩ => show 0 * 2048 + k.val = k.val; omega
  | ⟨1, _⟩ => show 0 * 1024 + j.val = j.val; omega
  | ⟨n + 2, hn⟩ => exact absurd (show n + 2 < 2 from hn) (by omega)

/-- A block's store leaves the product of the blocks. -/
theorem out_eq (x0 : Vec Ideal S512x2048 .bf16) (x1 : Vec Ideal S2048x1024 .bf16) : out0_2 x0 x1 = k0_pay1 x0 x1 := by
  have z : (![0, 0] : Fin 2 → Nat) = fun _ => 0 := by decide
  have e0 : View.ld x0 r0_0 = x0 := View.ld_unit_zero z _ x0
  have e1 : View.ld x1 r0_1 = x1 := View.ld_unit_zero z _ x1
  unfold out0_2
  rw [e0, e1]
  exact View.canon_unit_zero z _ _

/-- The array after the run is the product of the arguments. -/
theorem arr_2 (c : Dev nD) (t : Fin cfg0.N) (p : Fin 512) (j : Fin 1024) (hr : t.val * 512 + p.val < 1024) :
    (dats m 0 c).arrAt 2 cfg0.N (ix2 (n0 := 1024) ⟨t.val * 512 + p.val, hr⟩ j) = (∑ k : Fin 2048, argA m c ⟨t.val * 512 + p.val, hr⟩ k * argB m c k j : EReal) := by
  have hf : (cfg0.win 2).flush t = true := (by decide +kernel : ∀ t : Fin grid0.N, win0_2.flush t = true) t
  have hy : ((cfg0.win 2).blk t).view.emb (ix2 (n0 := 512) (n1 := 1024) p j) = ix2 (n0 := 1024) (n1 := 1024) ⟨t.val * 512 + p.val, hr⟩ j := by
    funext a
    apply Fin.ext
    refine (Pipeline.Window.rect_emb_val (cfg0.win 2) t (ix2 (n0 := 512) (n1 := 1024) p j) a rfl).trans ?_
    rw [show (cfg0.win 2).index t = ![t.val, 0] from (by decide +kernel : ∀ t : Fin grid0.N, win0_2.index t = ![t.val, 0]) t]
    match a with
    | ⟨0, _⟩ => rfl
    | ⟨1, _⟩ => show 0 * 1024 + j.val = j.val; omega
    | ⟨n + 2, hn⟩ => exact absurd (show n + 2 < 2 from hn) (by omega)
  have h := (dats m 0 c).arrAt_emb_eq_flushed 2 Value.disjoint2 t hf (ix2 (n0 := 512) (n1 := 1024) p j)
  rw [hy] at h
  refine h.trans ?_
  rw [Value.flushed2, out_eq]
  refine (pay_apply _ _ p j).trans (Finset.sum_congr rfl fun k _ => ?_)
  exact congr (congrArg _ (iblk_0 m c t p k hr)) (iblk_1 m c t k j)

open Cert.Reference5Ideal.Read Cert.Reference5Ideal.Gen in
/-- The reference's result, element by element. -/
theorem ref_apply (x0 : (⟨S1024x2048, .bf16⟩ : BufTy).Contents (Elt Ideal)) (x1 : (⟨S2048x1024, .bf16⟩ : BufTy).Contents (Elt Ideal)) (r : Fin 1024) (j : Fin 1024) :
    val_main_v6 (F := Ideal) x0 x1 (ix2 r j) = (∑ k : Fin 2048, x0 (ix2 r k) * x1 (ix2 k j) : EReal) := by
  rw [val_main_v6_apply, val_main_v5_apply]
  refine Finset.sum_congr rfl fun k _ => ?_
  rw [val_main_v2_apply, val_main_v4_apply, val_main_v1_apply]
  refine (mul_comm (G := EReal) _ _).trans (congr (congrArg (fun u v : EReal => u * v) (congrArg x0 (funext fun a => ?_))) (congrArg x1 (funext fun a => ?_)))
  · match a with
    | ⟨0, _⟩ => rfl
    | ⟨1, _⟩ => rfl
    | ⟨n + 2, hn⟩ => exact absurd (show n + 2 < 2 from hn) (by omega)
  · match a with
    | ⟨0, _⟩ => rfl
    | ⟨1, _⟩ => rfl
    | ⟨n + 2, hn⟩ => exact absurd (show n + 2 < 2 from hn) (by omega)

theorem frame_kernel5 : Cert.quiescent_Kernel5 (hKernel5 := Cert.Kernel5.Gen.facts) := fun m ρ _ => Cert.Kernel5.Gen.frame m ρ

theorem frame_kernel5Ideal : Cert.quiescent_Kernel5Ideal (hKernel5Ideal := Cert.Kernel5Ideal.Gen.facts) := fun m ρ _ => Cert.Kernel5Ideal.Gen.frame m ρ

theorem frame_reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Reference5Ideal.Read Cert.Reference5Ideal.Gen in
/-- Over the extended reals the kernel's result is the reference's. -/
theorem algebraic : Cert.algebraic_Kernel5Ideal_Reference5Ideal (hKernel5Ideal := Cert.Kernel5Ideal.Gen.facts) (hReference5Ideal := Cert.Reference5Ideal.Gen.facts) := by
  intro m ρ m' ρ' _ hm
  refine ⟨fun c => val_main_v6 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m ρ)
    refine ⟨funext fun i => ?_, (h c).2⟩
    rw [(h c).1]
    have hr : (i 0).val < 1024 := (i 0).isLt
    have e : i = ix2 (n0 := 1024) (n1 := 1024) ⟨(i 0).val / 512 * 512 + (i 0).val % 512, by omega⟩ (i 1) := by
      funext a
      match a with
      | ⟨0, _⟩ => exact Fin.ext (by show (i 0).val = (i 0).val / 512 * 512 + (i 0).val % 512; omega)
      | ⟨1, _⟩ => rfl
      | ⟨n + 2, hn⟩ => exact absurd (show n + 2 < 2 from hn) (by omega)
    rw [e]
    exact (arr_2 m c ⟨(i 0).val / 512, lt_of_lt_of_eq (by omega : (i 0).val / 512 < 2) (by decide)⟩ ⟨(i 0).val % 512, by omega⟩ (i 1) (by show (i 0).val / 512 * 512 + (i 0).val % 512 < 1024; omega)).trans (ref_apply _ _ _ _).symm
  · refine (θ_run Cert.Reference5Ideal.defs _ _).mono (fun r h c => ?_) (Cert.Reference5Ideal.Value.run (F := Ideal) m' ρ')
    obtain ⟨a0, a1⟩ := hm c
    obtain ⟨h0, h1⟩ := h c
    refine ⟨?_, h1⟩
    show _ = val_main_v6 (F := Ideal) _ _
    exact (h0.trans (val_main_v6_eq _ _)).trans (by rw [a0, a1])

end Cert.WgradOut

end
-- ==== Proof.FwdKit.lean ====
/-
  The forward MLP kernel: what its proof is stated over. The memory the pipeline is entered with, each window's block at a
  grid point, the body's own two counters and the array its copies read.
-/
module

public import proofs.«01_k».proof.Proof.Gen.Kernel6Ideal.Launch
public import proofs.«01_k».proof.Proof.Gen.Kernel6Ideal.Points
public import proofs.«01_k».proof.Proof.Gen.Kernel6Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.Claim
public import Idealize.ShloMosaic.Lib.WordCmp

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory the pipeline is entered with -/

/-- The buffers of device `c` once the host's operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function runs the host's operations and enters the pipeline. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host's operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host's operations leave argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

abbrev ms_0 (t : Fin cfg0.N) : Memref sig .tc .vmem S256x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x1024 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8x1024 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1024 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1024 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1024x256 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x4096 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S256x1024 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S256x1024 .bf16 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S8x1024 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S8x128 .f32 := win0_12.stage (cfg0.slots t 12)
abbrev hs_12 (t : Fin cfg0.N) : (ms_12 t).IsWhole := hstage0_12 ((cfg0.slots t 12).cast nbuf0_12)

/-- The body's two counters: one for the copies of each weight matrix. -/
abbrev osem0 : Fin 2 → SemLoc sig := fun j => (![SemLoc.dma 20, SemLoc.dma 21] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl

/-- The array the body's copies read. -/
def H0 : Finset (Ref sig .tc) := {main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_v4) ↦{fullShare} V m c main_v4) := by
  rw [BI.bigSep_eq_bigSepL_of_eq [main_v4] (by decide) (by decide)]; rfl

/-- A whole buffer held over its view's elements is the buffer held whole. -/
theorem whole_in (c : Dev nD) (b : Ref sig .tc) (q : PosShare TreeShare) (f : Buf (Elt F) ((c : Thread nD τ).loc b)) :
    (((c : Thread nD τ).loc b) ↦{q} f : sProp 𝕄)
      ⊢ ((Memref.whole b).view.loc (c : Thread nD τ) ↦[(Memref.whole b).view.set]{q} f : sProp 𝕄) :=
  Entails.of_eq (by rw [show (Memref.whole b).view.set = Finset.univ from View.set_whole b])
theorem whole_out (c : Dev nD) (b : Ref sig .tc) (q : PosShare TreeShare) (f : Buf (Elt F) ((c : Thread nD τ).loc b)) :
    ((Memref.whole b).view.loc (c : Thread nD τ) ↦[(Memref.whole b).view.set]{q} f : sProp 𝕄)
      ⊢ (((c : Thread nD τ).loc b) ↦{q} f : sProp 𝕄) :=
  Entails.of_eq (by rw [show (Memref.whole b).view.set = Finset.univ from View.set_whole b])

/-- What is left of the array the copies read when the two counters' read shares are taken out. -/
def wRest (c : Dev nD) (f : Buf (Elt F) ((c : Thread nD τ).loc main_v4)) : sProp 𝕄 :=
  iprop((((c : Thread nD τ).loc main_v4) ↦{Transfers.shareDrop fullShare 22} f)
    ∗ bigSep (Finset.range 20) (fun k => ((c : Thread nD τ).loc main_v4) ↦{Transfers.shareTokN fullShare k} f))
theorem w_toks (c : Dev nD) (f : Buf (Elt F) ((c : Thread nD τ).loc main_v4)) :
    (((c : Thread nD τ).loc main_v4) ↦{fullShare} f : sProp 𝕄)
      ⊣⊢ iprop((((c : Thread nD τ).loc main_v4) ↦{Transfers.shareTokN fullShare 20} f)
          ∗ (((c : Thread nD τ).loc main_v4) ↦{Transfers.shareTokN fullShare 21} f) ∗ wRest c f) := by
  refine (Transfers.pointsTo_toks_range (Ix := Unit) (Name := ℕ) (U := Pipeline.UD sig nD τ) (Lvl := ℕ) fullShare 22).trans ?_
  have e (Φ : ℕ → sProp 𝕄) : bigSep (Finset.range 22) Φ = iprop(Φ 21 ∗ Φ 20 ∗ bigSep (Finset.range 20) Φ) := by
    rw [show Finset.range 22 = insert 21 (insert 20 (Finset.range 20)) from by decide, BI.bigSep_insert (by decide), BI.bigSep_insert (by decide)]
    rfl
  rw [e]
  unfold wRest
  constructor
  · iintro ⟨Hd, Hb, Ha, Hr⟩
    isplitl [Ha]; · iexact Ha
    isplitl [Hb]; · iexact Hb
    isplitl [Hd]; · iexact Hd
    iexact Hr
  · iintro ⟨Ha, Hb, Hd, Hr⟩
    isplitl [Hd]; · iexact Hd
    isplitl [Hb]; · iexact Hb
    isplitl [Ha]; · iexact Ha
    iexact Hr

/-! ## The branch condition over the points -/

/-- The condition of the body's branch: the first point. -/
abbrev cond (i : grid0.Coords) : BitVec 1 := Scalar.cmpi .ne (Scalar.extui (Scalar.cmpi .eq (BitVec.ofNat 32 (i 0).val) 0#32) : BitVec 32) 0#32
theorem cond_word : ∀ n < 8, (Scalar.cmpi .ne (Scalar.extui (Scalar.cmpi .eq (BitVec.ofNat 32 n) 0#32) : BitVec 32) 0#32 = 1#1) ↔ n = 0 := by decide
theorem coord_0 : ∀ t : Fin cfg0.N, (grid0.coords t 0).val = t.val := by decide
theorem cond_1 (t : Fin cfg0.N) : cond (grid0.coords t) = 1#1 ↔ t.val = 0 := by
  rw [← coord_0 t]; exact cond_word _ (grid0.coords t 0).isLt

end Cert.Kernel6Ideal.Fwd

end
-- ==== Proof.FwdRun.lean ====
/-
  The forward MLP kernel's body at a grid point, run at the first point and at a later one: what it leaves in the output
  windows and in the two weights' buffers, in terms of the input blocks.
-/
module

public import proofs.«01_k».proof.Proof.FwdKit
public import Idealize.ShloMosaic.Lib.WritesUnit
public import Idealize.ShloMosaic.Lib.VecWindow

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body computes, from its blocks -/

/-- Block `j` of 512 rows of a weight matrix. -/
def rowsW (j : Fin 8) (W : Vec F S4096x1024 .bf16) : Vec F S512x1024 .bf16 :=
  fun x => W (Fin.cons (⟨512 * j.val + (x 0).val, by
    have h : j.val < 8 := j.isLt
    have h' : (x 0).val < 512 := (x 0).isLt
    show _ < 4096; omega⟩) (Fin.cons (x 1) finZeroElim))

/-- The two matrices in the packed array: every slab's upper 512 rows, and every slab's lower 512. -/
def wTop (P : Vec F S8x1024x1024 .bf16) : Vec F S4096x1024 .bf16 :=
  fun y => P (Fin.cons (⟨(y 0).val / 512, by have h : (y 0).val < 4096 := (y 0).isLt; show _ < 8; omega⟩)
    (Fin.cons (⟨(y 0).val % 512, by show _ < 1024; omega⟩) (Fin.cons (y 1) finZeroElim)))
def wBot (P : Vec F S8x1024x1024 .bf16) : Vec F S4096x1024 .bf16 :=
  fun y => P (Fin.cons (⟨(y 0).val / 512, by have h : (y 0).val < 4096 := (y 0).isLt; show _ < 8; omega⟩)
    (Fin.cons (⟨512 + (y 0).val % 512, by show _ < 1024; omega⟩) (Fin.cons (y 1) finZeroElim)))

/-- The hidden layer before its gate, a block of 512 columns from each block of rows of the first matrix. -/
def fOf (h : FVec F S256x1024 .bf16) (W1 : Vec F S4096x1024 .bf16) : Vec F S256x4096 .f32 :=
  fun y => k0_pay11 h (rowsW ⟨(y 1).val / 512, by have h : (y 1).val < 4096 := (y 1).isLt; omega⟩ W1)
    (Fin.cons (y 0) (Fin.cons (⟨(y 1).val % 512, by show _ < 512; omega⟩) finZeroElim))

section
variable (h : FVec F S256x1024 .bf16) (W1 W2 : Vec F S4096x1024 .bf16)
/-- The sum over the hidden layer up to the second block, the fifth, and its terms. -/
def p58 : FVec F S256x1024 .f32 := k0_pay13 h (Scalar.ofBits .f32 0x00000000#32) (rowsW 0 W1) (rowsW 0 W2) (rowsW 1 W1) (rowsW 1 W2)
def p67 : FVec F S256x1024 .f32 := k0_pay15 h (rowsW 2 W1) (rowsW 2 W2)
def p88 : FVec F S256x1024 .f32 := k0_pay18 h (p58 h W1 W2) (p67 h W1 W2) (rowsW 3 W1) (rowsW 3 W2) (rowsW 4 W1) (rowsW 4 W2)
def p97 : FVec F S256x1024 .f32 := k0_pay20 h (rowsW 5 W1) (rowsW 5 W2)
/-- The MLP's output. -/
def zOf : FVec F S256x1024 .f32 := k0_pay23 h (p88 h W1 W2) (p97 h W1 W2) (rowsW 6 W1) (rowsW 6 W2) (rowsW 7 W1) (rowsW 7 W2)
end

section
variable (x0 x1 : Vec F S256x1024 .f32) (x3 x4 : Vec F S8x1024 .f32) (x5 : Vec F S1x1024 .f32) (x2 : Vec F S256x1024 .f32) (x6 : Vec F S1x1024 .f32)
  (W1 W2 : Vec F S4096x1024 .bf16)
/-- The last norm's inverse length and normed rows. -/
def rOf : FVec F S256x1 .f32 := k0_pay25 (k0_pay6 x3 x4) (k0_pay7 x3 x4 x0 x1) (k0_pay9 x3 x4 x0 x1 x5) (p88 (k0_pay9 x3 x4 x0 x1 x5) W1 W2) (p97 (k0_pay9 x3 x4 x0 x1 x5) W1 W2) (rowsW 6 W1) (rowsW 6 W2) (rowsW 7 W1) (rowsW 7 W2)
def xnOf : FVec F S256x1024 .f32 := k0_pay26 (k0_pay6 x3 x4) (k0_pay7 x3 x4 x0 x1) (k0_pay9 x3 x4 x0 x1 x5) (p88 (k0_pay9 x3 x4 x0 x1 x5) W1 W2) (p97 (k0_pay9 x3 x4 x0 x1 x5) W1 W2) (rowsW 6 W1) (rowsW 6 W2) (rowsW 7 W1) (rowsW 7 W2)
/-- The gradient behind the last norm, and the output's. -/
def dxOf : FVec F S256x1024 .f32 := k0_pay30 (rOf x0 x1 x3 x4 x5 W1 W2) (xnOf x0 x1 x3 x4 x5 W1 W2) x6 x2 x6
def dzOf : FVec F S256x1024 .bf16 := k0_pay31 (k0_pay6 x3 x4) (rOf x0 x1 x3 x4 x5 W1 W2) (xnOf x0 x1 x3 x4 x5 W1 W2) x6 x2 x6
/-- The loss so far. -/
def lossOf (y : Vec F S8x128 .f32) : FVec F S8x128 .f32 := k0_pay28 (xnOf x0 x1 x3 x4 x5 W1 W2) x6 x2 y
/-- A row of the sums' window. -/
def row (k : Fin 8) (y : Vec F S8x1024 .f32) : Vec F S1x1024 .f32 := fun x => y (Fin.cons k (Fin.cons (x 1) finZeroElim))
/-- The gate's and the last norm's gradients so far, in the window's first two rows. -/
def vecOf (y : Vec F S8x1024 .f32) : Vec F S8x1024 .f32 :=
  fun p => if (p 0).val = 0 then k0_pay1 (zOf (k0_pay9 x3 x4 x0 x1 x5) W1 W2) (dxOf x0 x1 x3 x4 x5 x2 x6 W1 W2) (row 0 y) (Fin.cons (0 : Fin 1) (Fin.cons (p 1) finZeroElim))
    else if (p 0).val = 1 then k0_pay2 (xnOf x0 x1 x3 x4 x5 W1 W2) (k0_pay29 (xnOf x0 x1 x3 x4 x5 W1 W2) x6 x2) (row 1 y) (Fin.cons (0 : Fin 1) (Fin.cons (p 1) finZeroElim))
    else y p
end

/-! ## Loads and stores of a part of a buffer -/

theorem load_w (M : Memref sig .tc .vmem S4096x1024 .bf16) (hM : M.IsWhole) (W : Vec F S4096x1024 .bf16) (j : Fin 8)
    (inb : ∀ a, (![512 * j.val, 0] : Fin 2 → ℕ) a + S512x1024.size a ≤ S4096x1024.size a) :
    M.view.readAt (Elt F) (Rect.unit (s := S4096x1024) ![512 * j.val, 0] S512x1024.size inb).toLoadRect (hM.unread W) = rowsW j W := by
  funext x
  refine (congrFun (hM.read_unread W) _).trans (congrArg W (funext fun a => Fin.ext ?_))
  match a with
  | 0 => show 512 * j.val + 1 * (x 0).val = 512 * j.val + (x 0).val; omega
  | 1 => show 0 + 1 * (x 1).val = (x 1).val; omega

/-- One more block of rows on top of those below it. -/
theorem stack_step (M : Memref sig .tc .vmem S4096x1024 .bf16) (f : M.view.ty.Contents (Elt F)) (W : Vec F S4096x1024 .bf16) (k : Fin 8)
    (inb : ∀ a, (![512 * k.val, 0] : Fin 2 → ℕ) a + S512x1024.size a ≤ S4096x1024.size a) (p : Vec F S512x1024 .bf16) (hp : p = rowsW k W)
    (L : List (View.Piece (Elt F) S4096x1024 .bf16)) (y : S4096x1024.Idx) (hy : (y 0).val < 512 * k.val + 512)
    (h : (y 0).val < 512 * k.val → M.view.read (Elt F) (M.view.writes (Elt F) f L) y = W y) :
    M.view.read (Elt F) (M.view.writes (Elt F) f (⟨Rect.unit (s := S4096x1024) ![512 * k.val, 0] S512x1024.size inb, p⟩ :: L)) y = W y := by
  by_cases hk : (y 0).val < 512 * k.val
  · exact (View.read_writes_cons_unit_of_not_mem M.view f inb p L y rfl (0 : Fin 2) (Or.inl hk)).trans (h hk)
  · refine (View.read_writes_cons_unit_of_mem M.view f inb p L y
      (Fin.cons (⟨(y 0).val - 512 * k.val, by show _ < 512; omega⟩) (Fin.cons (y 1) finZeroElim)) rfl (fun a => ?_)).trans ?_
    · match a with
      | 0 => show (y 0).val = 512 * k.val + ((y 0).val - 512 * k.val); omega
      | 1 => show (y 1).val = 0 + (y 1).val; omega
    · subst hp
      refine congrArg W (funext fun a => Fin.ext ?_)
      match a with
      | 0 => show 512 * k.val + ((y 0).val - 512 * k.val) = (y 0).val; omega
      | 1 => rfl

/-- Eight blocks of rows are the matrix they are the blocks of. -/
theorem stack_read (M : Memref sig .tc .vmem S4096x1024 .bf16) (f : M.view.ty.Contents (Elt F)) (W : Vec F S4096x1024 .bf16)
    (p0 p1 p2 p3 p4 p5 p6 p7 : Vec F S512x1024 .bf16) (h0 : p0 = rowsW 0 W) (h1 : p1 = rowsW 1 W) (h2 : p2 = rowsW 2 W) (h3 : p3 = rowsW 3 W) (h4 : p4 = rowsW 4 W) (h5 : p5 = rowsW 5 W) (h6 : p6 = rowsW 6 W) (h7 : p7 = rowsW 7 W)
    (i0 : ∀ a, (![0, 0] : Fin 2 → ℕ) a + S512x1024.size a ≤ S4096x1024.size a) (i1 : ∀ a, (![512, 0] : Fin 2 → ℕ) a + S512x1024.size a ≤ S4096x1024.size a) (i2 : ∀ a, (![1024, 0] : Fin 2 → ℕ) a + S512x1024.size a ≤ S4096x1024.size a) (i3 : ∀ a, (![1536, 0] : Fin 2 → ℕ) a + S512x1024.size a ≤ S4096x1024.size a) (i4 : ∀ a, (![2048, 0] : Fin 2 → ℕ) a + S512x1024.size a ≤ S4096x1024.size a) (i5 : ∀ a, (![2560, 0] : Fin 2 → ℕ) a + S512x1024.size a ≤ S4096x1024.size a) (i6 : ∀ a, (![3072, 0] : Fin 2 → ℕ) a + S512x1024.size a ≤ S4096x1024.size a) (i7 : ∀ a, (![3584, 0] : Fin 2 → ℕ) a + S512x1024.size a ≤ S4096x1024.size a) :
    M.view.read (Elt F) (M.view.writes (Elt F) f [⟨Rect.unit (s := S4096x1024) ![3584, 0] S512x1024.size i7, p7⟩, ⟨Rect.unit (s := S4096x1024) ![3072, 0] S512x1024.size i6, p6⟩, ⟨Rect.unit (s := S4096x1024) ![2560, 0] S512x1024.size i5, p5⟩, ⟨Rect.unit (s := S4096x1024) ![2048, 0] S512x1024.size i4, p4⟩, ⟨Rect.unit (s := S4096x1024) ![1536, 0] S512x1024.size i3, p3⟩, ⟨Rect.unit (s := S4096x1024) ![1024, 0] S512x1024.size i2, p2⟩, ⟨Rect.unit (s := S4096x1024) ![512, 0] S512x1024.size i1, p1⟩, ⟨Rect.unit (s := S4096x1024) ![0, 0] S512x1024.size i0, p0⟩]) = W := by
  funext y
  have h : (y 0).val < 4096 := (y 0).isLt
  exact stack_step M f W 7 i7 p7 h7 _ y (by first | exact h | omega) fun h => stack_step M f W 6 i6 p6 h6 _ y (by first | exact h | omega) fun h => stack_step M f W 5 i5 p5 h5 _ y (by first | exact h | omega) fun h => stack_step M f W 4 i4 p4 h4 _ y (by first | exact h | omega) fun h => stack_step M f W 3 i3 p3 h3 _ y (by first | exact h | omega) fun h => stack_step M f W 2 i2 p2 h2 _ y (by first | exact h | omega) fun h => stack_step M f W 1 i1 p1 h1 _ y (by first | exact h | omega) fun h => stack_step M f W 0 i0 p0 h0 _ y (by first | exact h | omega) fun h => by exact absurd h (by show ¬ _ < 512 * 0; omega)

theorem stack_load (M : Memref sig .tc .vmem S4096x1024 .bf16) (W : Vec F S4096x1024 .bf16)
    (p0 p1 p2 p3 p4 p5 p6 p7 : Vec F S512x1024 .bf16) (h0 : p0 = rowsW 0 W) (h1 : p1 = rowsW 1 W) (h2 : p2 = rowsW 2 W) (h3 : p3 = rowsW 3 W) (h4 : p4 = rowsW 4 W) (h5 : p5 = rowsW 5 W) (h6 : p6 = rowsW 6 W) (h7 : p7 = rowsW 7 W)
    (i0 : ∀ a, (![0, 0] : Fin 2 → ℕ) a + S512x1024.size a ≤ S4096x1024.size a) (i1 : ∀ a, (![512, 0] : Fin 2 → ℕ) a + S512x1024.size a ≤ S4096x1024.size a) (i2 : ∀ a, (![1024, 0] : Fin 2 → ℕ) a + S512x1024.size a ≤ S4096x1024.size a) (i3 : ∀ a, (![1536, 0] : Fin 2 → ℕ) a + S512x1024.size a ≤ S4096x1024.size a) (i4 : ∀ a, (![2048, 0] : Fin 2 → ℕ) a + S512x1024.size a ≤ S4096x1024.size a) (i5 : ∀ a, (![2560, 0] : Fin 2 → ℕ) a + S512x1024.size a ≤ S4096x1024.size a) (i6 : ∀ a, (![3072, 0] : Fin 2 → ℕ) a + S512x1024.size a ≤ S4096x1024.size a) (i7 : ∀ a, (![3584, 0] : Fin 2 → ℕ) a + S512x1024.size a ≤ S4096x1024.size a) (j : Fin 8)
    (inb : ∀ a, (![512 * j.val, 0] : Fin 2 → ℕ) a + S512x1024.size a ≤ S4096x1024.size a) :
    M.view.readCov [⟨Rect.unit (s := S4096x1024) ![3584, 0] S512x1024.size i7, p7⟩, ⟨Rect.unit (s := S4096x1024) ![3072, 0] S512x1024.size i6, p6⟩, ⟨Rect.unit (s := S4096x1024) ![2560, 0] S512x1024.size i5, p5⟩, ⟨Rect.unit (s := S4096x1024) ![2048, 0] S512x1024.size i4, p4⟩, ⟨Rect.unit (s := S4096x1024) ![1536, 0] S512x1024.size i3, p3⟩, ⟨Rect.unit (s := S4096x1024) ![1024, 0] S512x1024.size i2, p2⟩, ⟨Rect.unit (s := S4096x1024) ![512, 0] S512x1024.size i1, p1⟩, ⟨Rect.unit (s := S4096x1024) ![0, 0] S512x1024.size i0, p0⟩] (Rect.unit (s := S4096x1024) ![512 * j.val, 0] S512x1024.size inb).toLoadRect = rowsW j W := by
  funext x
  refine (congrFun (stack_read M M.view.junk W p0 p1 p2 p3 p4 p5 p6 p7 h0 h1 h2 h3 h4 h5 h6 h7 i0 i1 i2 i3 i4 i5 i6 i7) _).trans (congrArg W (funext fun a => Fin.ext ?_))
  match a with
  | 0 => show 512 * j.val + 1 * (x 0).val = 512 * j.val + (x 0).val; omega
  | 1 => show 0 + 1 * (x 1).val = (x 1).val; omega

/-- A slab's rows, as a copy reads them. -/
theorem slab_top (M : Memref sig .tc .hbm S8x1024x1024 .bf16) (f : M.view.ty.Contents (Elt F)) (k : Fin 8)
    (inb : ∀ a, (![k.val, 0, 0] : Fin 3 → ℕ) a + S1x512x1024.size a ≤ S8x1024x1024.size a) (hr) (hq : S1x512x1024.Squeezes S512x1024) :
    ((M.slice (Rect.unit (s := S8x1024x1024) ![k.val, 0, 0] S1x512x1024.size inb) hr).squeeze S512x1024 hq).view.read (Elt F) f
      = rowsW k (wTop (M.view.read (Elt F) f)) := by
  funext x
  have h1 : ((M.slice (Rect.unit (s := S8x1024x1024) ![k.val, 0, 0] S1x512x1024.size inb) hr).squeeze S512x1024 hq).view.read (Elt F) f x
      = M.view.read (Elt F) f ((Rect.unit (s := S8x1024x1024) ![k.val, 0, 0] S1x512x1024.size inb).emb (Shape.reshapeEquiv hq.numel_eq x)) := rfl
  rw [h1, Shape.reshapeEquiv_cons_one]
  have h' : (x 0).val < 512 := (x 0).isLt
  refine congrArg (M.view.read (Elt F) f) (funext fun a => Fin.ext ?_)
  match a with
  | 0 => show k.val + 1 * 0 = (512 * k.val + (x 0).val) / 512; omega
  | 1 => show 0 + 1 * (x 0).val = (512 * k.val + (x 0).val) % 512; omega
  | 2 => show 0 + 1 * (x 1).val = (x 1).val; omega
theorem slab_bot (M : Memref sig .tc .hbm S8x1024x1024 .bf16) (f : M.view.ty.Contents (Elt F)) (k : Fin 8)
    (inb : ∀ a, (![k.val, 512, 0] : Fin 3 → ℕ) a + S1x512x1024.size a ≤ S8x1024x1024.size a) (hr) (hq : S1x512x1024.Squeezes S512x1024) :
    ((M.slice (Rect.unit (s := S8x1024x1024) ![k.val, 512, 0] S1x512x1024.size inb) hr).squeeze S512x1024 hq).view.read (Elt F) f
      = rowsW k (wBot (M.view.read (Elt F) f)) := by
  funext x
  have h1 : ((M.slice (Rect.unit (s := S8x1024x1024) ![k.val, 512, 0] S1x512x1024.size inb) hr).squeeze S512x1024 hq).view.read (Elt F) f x
      = M.view.read (Elt F) f ((Rect.unit (s := S8x1024x1024) ![k.val, 512, 0] S1x512x1024.size inb).emb (Shape.reshapeEquiv hq.numel_eq x)) := rfl
  rw [h1, Shape.reshapeEquiv_cons_one]
  have h' : (x 0).val < 512 := (x 0).isLt
  refine congrArg (M.view.read (Elt F) f) (funext fun a => Fin.ext ?_)
  match a with
  | 0 => show k.val + 1 * 0 = (512 * k.val + (x 0).val) / 512; omega
  | 1 => show 512 + 1 * (x 0).val = 512 + (512 * k.val + (x 0).val) % 512; omega
  | 2 => show 0 + 1 * (x 1).val = (x 1).val; omega

/-- One more block of columns of the hidden layer on top of those before it. -/
theorem cols_step (M : Memref sig .tc .vmem S256x4096 .f32) (f : M.view.ty.Contents (Elt F)) (h : FVec F S256x1024 .bf16) (W : Vec F S4096x1024 .bf16) (k : Fin 8)
    (inb : ∀ a, (![0, 512 * k.val] : Fin 2 → ℕ) a + S256x512.size a ≤ S256x4096.size a) (p : Vec F S256x512 .f32) (hp : p = k0_pay11 h (rowsW k W))
    (L : List (View.Piece (Elt F) S256x4096 .f32)) (y : S256x4096.Idx) (hy : (y 1).val < 512 * k.val + 512)
    (hl : (y 1).val < 512 * k.val → M.view.read (Elt F) (M.view.writes (Elt F) f L) y = fOf h W y) :
    M.view.read (Elt F) (M.view.writes (Elt F) f (⟨Rect.unit (s := S256x4096) ![0, 512 * k.val] S256x512.size inb, p⟩ :: L)) y = fOf h W y := by
  by_cases hk : (y 1).val < 512 * k.val
  · exact (View.read_writes_cons_unit_of_not_mem M.view f inb p L y rfl (1 : Fin 2) (Or.inl hk)).trans (hl hk)
  · refine (View.read_writes_cons_unit_of_mem M.view f inb p L y
      (Fin.cons (y 0) (Fin.cons (⟨(y 1).val - 512 * k.val, by show _ < 512; omega⟩) finZeroElim)) rfl (fun a => ?_)).trans ?_
    · match a with
      | 0 => show (y 0).val = 0 + (y 0).val; omega
      | 1 => show (y 1).val = 512 * k.val + ((y 1).val - 512 * k.val); omega
    · subst hp
      have e : (⟨(y 1).val / 512, by have h : (y 1).val < 4096 := (y 1).isLt; omega⟩ : Fin 8) = k := Fin.ext (by show (y 1).val / 512 = k.val; omega)
      unfold fOf
      rw [e]
      refine congrArg (k0_pay11 h (rowsW k W)) (funext fun a => Fin.ext ?_)
      match a with
      | 0 => rfl
      | 1 => show (y 1).val - 512 * k.val = (y 1).val % 512; omega

theorem cols_read (M : Memref sig .tc .vmem S256x4096 .f32) (f : M.view.ty.Contents (Elt F)) (h : FVec F S256x1024 .bf16) (W : Vec F S4096x1024 .bf16)
    (p0 p1 p2 p3 p4 p5 p6 p7 : Vec F S256x512 .f32) (h0 : p0 = k0_pay11 h (rowsW 0 W)) (h1 : p1 = k0_pay11 h (rowsW 1 W)) (h2 : p2 = k0_pay11 h (rowsW 2 W)) (h3 : p3 = k0_pay11 h (rowsW 3 W)) (h4 : p4 = k0_pay11 h (rowsW 4 W)) (h5 : p5 = k0_pay11 h (rowsW 5 W)) (h6 : p6 = k0_pay11 h (rowsW 6 W)) (h7 : p7 = k0_pay11 h (rowsW 7 W))
    (i0 : ∀ a, (![0, 0] : Fin 2 → ℕ) a + S256x512.size a ≤ S256x4096.size a) (i1 : ∀ a, (![0, 512] : Fin 2 → ℕ) a + S256x512.size a ≤ S256x4096.size a) (i2 : ∀ a, (![0, 1024] : Fin 2 → ℕ) a + S256x512.size a ≤ S256x4096.size a) (i3 : ∀ a, (![0, 1536] : Fin 2 → ℕ) a + S256x512.size a ≤ S256x4096.size a) (i4 : ∀ a, (![0, 2048] : Fin 2 → ℕ) a + S256x512.size a ≤ S256x4096.size a) (i5 : ∀ a, (![0, 2560] : Fin 2 → ℕ) a + S256x512.size a ≤ S256x4096.size a) (i6 : ∀ a, (![0, 3072] : Fin 2 → ℕ) a + S256x512.size a ≤ S256x4096.size a) (i7 : ∀ a, (![0, 3584] : Fin 2 → ℕ) a + S256x512.size a ≤ S256x4096.size a) :
    M.view.read (Elt F) (M.view.writes (Elt F) f [⟨Rect.unit (s := S256x4096) ![0, 3584] S256x512.size i7, p7⟩, ⟨Rect.unit (s := S256x4096) ![0, 3072] S256x512.size i6, p6⟩, ⟨Rect.unit (s := S256x4096) ![0, 2560] S256x512.size i5, p5⟩, ⟨Rect.unit (s := S256x4096) ![0, 2048] S256x512.size i4, p4⟩, ⟨Rect.unit (s := S256x4096) ![0, 1536] S256x512.size i3, p3⟩, ⟨Rect.unit (s := S256x4096) ![0, 1024] S256x512.size i2, p2⟩, ⟨Rect.unit (s := S256x4096) ![0, 512] S256x512.size i1, p1⟩, ⟨Rect.unit (s := S256x4096) ![0, 0] S256x512.size i0, p0⟩]) = fOf h W := by
  funext y
  have hy : (y 1).val < 4096 := (y 1).isLt
  exact cols_step M f h W 7 i7 p7 h7 _ y (by first | exact hy | omega) fun hy => cols_step M f h W 6 i6 p6 h6 _ y (by first | exact hy | omega) fun hy => cols_step M f h W 5 i5 p5 h5 _ y (by first | exact hy | omega) fun hy => cols_step M f h W 4 i4 p4 h4 _ y (by first | exact hy | omega) fun hy => cols_step M f h W 3 i3 p3 h3 _ y (by first | exact hy | omega) fun hy => cols_step M f h W 2 i2 p2 h2 _ y (by first | exact hy | omega) fun hy => cols_step M f h W 1 i1 p1 h1 _ y (by first | exact hy | omega) fun hy => cols_step M f h W 0 i0 p0 h0 _ y (by first | exact hy | omega) fun hy => by exact absurd hy (by show ¬ _ < 512 * 0; omega)

/-- The two rows the gradients are in, stored over what the window held. -/
theorem vec_read (M : Memref sig .tc .vmem S8x1024 .f32) (f : M.view.ty.Contents (Elt F)) (L : List (View.Piece (Elt F) S8x1024 .f32))
    (i0 : ∀ a, (![0, 0] : Fin 2 → ℕ) a + (![1, 1024] : Fin 2 → ℕ) a ≤ S8x1024.size a) (i1 : ∀ a, (![1, 0] : Fin 2 → ℕ) a + (![1, 1024] : Fin 2 → ℕ) a ≤ S8x1024.size a)
    (a b : Vec F S1x1024 .f32) :
    M.view.read (Elt F) (M.view.writes (Elt F) f (⟨Rect.unit (s := S8x1024) ![1, 0] ![1, 1024] i1, b⟩ :: ⟨Rect.unit (s := S8x1024) ![0, 0] ![1, 1024] i0, a⟩ :: L))
      = fun p => if (p 0).val = 0 then a (Fin.cons (0 : Fin 1) (Fin.cons (p 1) finZeroElim))
          else if (p 0).val = 1 then b (Fin.cons (0 : Fin 1) (Fin.cons (p 1) finZeroElim)) else M.view.read (Elt F) (M.view.writes (Elt F) f L) p := by
  funext y
  by_cases h0 : (y 0).val = 0
  · simp only [h0, if_true]
    refine (View.read_writes_cons_unit_of_not_mem M.view f i1 b _ y rfl (0 : Fin 2) (Or.inl (by show (y 0).val < 1; omega))).trans ?_
    refine View.read_writes_cons_unit_of_mem M.view f i0 a L y (Fin.cons (0 : Fin 1) (Fin.cons (y 1) finZeroElim)) rfl (fun a => ?_)
    match a with
    | 0 => show (y 0).val = 0 + 0; omega
    | 1 => show (y 1).val = 0 + (y 1).val; omega
  · by_cases h1 : (y 0).val = 1
    · rw [if_neg h0, if_pos h1]
      refine View.read_writes_cons_unit_of_mem M.view f i1 b _ y (Fin.cons (0 : Fin 1) (Fin.cons (y 1) finZeroElim)) rfl (fun a => ?_)
      match a with
      | 0 => show (y 0).val = 1 + 0; omega
      | 1 => show (y 1).val = 0 + (y 1).val; omega
    · rw [if_neg h0, if_neg h1]
      refine (View.read_writes_cons_unit_of_not_mem M.view f i1 b _ y rfl (0 : Fin 2) (Or.inr (by show 1 + 1 ≤ (y 0).val; omega))).trans ?_
      exact View.read_writes_cons_unit_of_not_mem M.view f i0 a L y rfl (0 : Fin 2) (Or.inr (by show 0 + 1 ≤ (y 0).val; omega))

/-- Loading such a row; row 1 where row 0 has just been stored. -/
theorem row_load (M : Memref sig .tc .vmem S8x1024 .f32) (f : M.view.ty.Contents (Elt F)) (k : Fin 8)
    (i : ∀ a, (![k.val, 0] : Fin 2 → ℕ) a + (![1, 1024] : Fin 2 → ℕ) a ≤ S8x1024.size a) :
    M.view.readAt (Elt F) (Rect.unit (s := S8x1024) ![k.val, 0] ![1, 1024] i).toLoadRect f = row k (M.view.read (Elt F) f) := by
  funext x
  refine congrArg (M.view.read (Elt F) f) (funext fun a => Fin.ext ?_)
  have h : (x 0).val < 1 := (x 0).isLt
  match a with
  | 0 => show k.val + 1 * (x 0).val = k.val; omega
  | 1 => show 0 + 1 * (x 1).val = (x 1).val; omega
theorem row_load_1 (M : Memref sig .tc .vmem S8x1024 .f32) (f : M.view.ty.Contents (Elt F)) (L : List (View.Piece (Elt F) S8x1024 .f32))
    (i0 : ∀ a, (![0, 0] : Fin 2 → ℕ) a + (![1, 1024] : Fin 2 → ℕ) a ≤ S8x1024.size a) (i1 : ∀ a, (![1, 0] : Fin 2 → ℕ) a + (![1, 1024] : Fin 2 → ℕ) a ≤ S8x1024.size a)
    (a : Vec F S1x1024 .f32) :
    M.view.readAt (Elt F) (Rect.unit (s := S8x1024) ![1, 0] ![1, 1024] i1).toLoadRect (M.view.writes (Elt F) f (⟨Rect.unit (s := S8x1024) ![0, 0] ![1, 1024] i0, a⟩ :: L))
      = row 1 (M.view.read (Elt F) (M.view.writes (Elt F) f L)) := by
  refine (row_load M _ 1 i1).trans (funext fun x => ?_)
  exact View.read_writes_cons_unit_of_not_mem M.view f i0 a L _ rfl (0 : Fin 2) (Or.inr (by show 0 + 1 ≤ 1; omega))

set_option maxHeartbeats 40000000 in
set_option sl_exec.stepHeartbeats 2000000 in
set_option sl_exec.dmaWindow true in
set_option sl_exec.dmaWindowSet true in
/-- The first point: the weights are copied in and the two sums start from zero. -/
theorem run_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S8x1024x1024 .bf16) (harg8 : arg8.IsWhole) (arg9 : Memref sig .tc .vmem S1024x256 .bf16) (harg9 : arg9.IsWhole) (arg10 : Memref sig .tc .vmem S256x4096 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S4096x1024 .bf16) (harg15 : arg15.IsWhole) (arg16 : Memref sig .tc .vmem S4096x1024 .bf16) (harg16 : arg16.IsWhole) (hc : cond i = 1#1)
    (x0 : Vec F S256x1024 .f32) (x1 : Vec F S256x1024 .f32) (x2 : Vec F S256x1024 .f32) (x3 : Vec F S8x1024 .f32) (x4 : Vec F S8x1024 .f32) (x5 : Vec F S1x1024 .f32) (x6 : Vec F S1x1024 .f32)
    (y7 : Vec F S1024x256 .bf16) (y8 : Vec F S256x4096 .f32) (y9 : Vec F S256x1024 .f32) (y10 : Vec F S256x1024 .bf16) (y11 : Vec F S8x1024 .f32) (y12 : Vec F S8x128 .f32) (f8 : BufTy.Contents (Elt F) arg8.view.ty) (s0 : BufTy.Contents (Elt F) arg15.view.ty) (s1 : BufTy.Contents (Elt F) arg16.view.ty)
    (plan0 : Transfers.BatchOf (c : Thread nD τ) (SemLoc.dma (sig := sig) 20) 8 (windows := true)) (plan1 : Transfers.BatchOf (c : Thread nD τ) (SemLoc.dma (sig := sig) 21) 8 (windows := true))
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ (arg15.view.loc (c : Thread nD τ) ↦[Finset.univ]{fullShare} s0) ∗ (arg16.view.loc (c : Thread nD τ) ↦[Finset.univ]{fullShare} s1) ∗ (arg8.view.loc (c : Thread nD τ) ↦[arg8.view.set]{Transfers.shareTokN fullShare 20} f8) ∗ (arg8.view.loc (c : Thread nD τ) ↦[arg8.view.set]{Transfers.shareTokN fullShare 21} f8) ∗ semVal ((c : Thread nD τ), SemLoc.dma 20) 0 ∗ semVal ((c : Thread nD τ), SemLoc.dma 21) 0 ∗ (owes (c : Thread nD τ) 0 W)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (k0_pay10 x3 x4 x0 x1 x5) ∗ owns (c : Thread nD τ) arg10 fullShare (fOf (k0_pay9 x3 x4 x0 x1 x5) (wTop (arg8.view.read (Elt F) f8))) ∗ owns (c : Thread nD τ) arg11 fullShare (dxOf x0 x1 x3 x4 x5 x2 x6 (wTop (arg8.view.read (Elt F) f8)) (wBot (arg8.view.read (Elt F) f8))) ∗ owns (c : Thread nD τ) arg12 fullShare (dzOf x0 x1 x3 x4 x5 x2 x6 (wTop (arg8.view.read (Elt F) f8)) (wBot (arg8.view.read (Elt F) f8))) ∗ owns (c : Thread nD τ) arg13 fullShare (vecOf x0 x1 x3 x4 x5 x2 x6 (wTop (arg8.view.read (Elt F) f8)) (wBot (arg8.view.read (Elt F) f8)) (fun _ => Scalar.ofBits .f32 0x00000000#32)) ∗ owns (c : Thread nD τ) arg14 fullShare (lossOf x0 x1 x3 x4 x5 x2 x6 (wTop (arg8.view.read (Elt F) f8)) (wBot (arg8.view.read (Elt F) f8)) (fun _ => Scalar.ofBits .f32 0x00000000#32)) ∗ owns (c : Thread nD τ) arg15 fullShare (wTop (arg8.view.read (Elt F) f8)) ∗ owns (c : Thread nD τ) arg16 fullShare (wBot (arg8.view.read (Elt F) f8)) ∗ (arg8.view.loc (c : Thread nD τ) ↦[arg8.view.set]{Transfers.shareTokN fullShare 20} f8) ∗ (arg8.view.loc (c : Thread nD τ) ↦[arg8.view.set]{Transfers.shareTokN fullShare 21} f8) ∗ semVal ((c : Thread nD τ), SemLoc.dma 20) 0 ∗ semVal ((c : Thread nD τ), SemLoc.dma 21) 0 ∗ (∃ W', owes (c : Thread nD τ) 0 W')) -∗ K ⟨⟩))
      ⊢ wp frame (wpE (defs₀ (F := F)) Variants.none c none) Set.univ (cc0_mlp_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cc0_scratch2) K := by
  simp only [cc0_mlp_fwd_eq_skeleton]; unfold cc0_mlp_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  have e1 : arg1.view.readAt (Elt F) (Rect.unit (s := S256x1024) ![0, 0] S256x1024.size inb_S256x1024_S256x1024_0_0).toLoadRect (harg1.unread x0) = x0 := (View.readAt_full ..).trans (harg1.read_unread x0)
  have e2 : arg2.view.readAt (Elt F) (Rect.unit (s := S256x1024) ![0, 0] S256x1024.size inb_S256x1024_S256x1024_0_0).toLoadRect (harg2.unread x1) = x1 := (View.readAt_full ..).trans (harg2.read_unread x1)
  have e3 : arg3.view.readAt (Elt F) (Rect.unit (s := S256x1024) ![0, 0] S256x1024.size inb_S256x1024_S256x1024_0_0).toLoadRect (harg3.unread x2) = x2 := (View.readAt_full ..).trans (harg3.read_unread x2)
  have e4 : arg4.view.readAt (Elt F) (Rect.unit (s := S8x1024) ![0, 0] S8x1024.size inb_S8x1024_S8x1024_0_0).toLoadRect (harg4.unread x3) = x3 := (View.readAt_full ..).trans (harg4.read_unread x3)
  have e5 : arg5.view.readAt (Elt F) (Rect.unit (s := S8x1024) ![0, 0] S8x1024.size inb_S8x1024_S8x1024_0_0).toLoadRect (harg5.unread x4) = x4 := (View.readAt_full ..).trans (harg5.read_unread x4)
  have e6 : arg6.view.readAt (Elt F) (Rect.unit (s := S1x1024) ![0, 0] S1x1024.size inb_S1x1024_S1x1024_0_0).toLoadRect (harg6.unread x5) = x5 := (View.readAt_full ..).trans (harg6.read_unread x5)
  have e7 : arg7.view.readAt (Elt F) (Rect.unit (s := S1x1024) ![0, 0] S1x1024.size inb_S1x1024_S1x1024_0_0).toLoadRect (harg7.unread x6) = x6 := (View.readAt_full ..).trans (harg7.read_unread x6)
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, ⟨%f12, %hf12, H12⟩, ⟨%f13, %hf13, H13⟩, ⟨%f14, %hf14, H14⟩, H15, H16, H8a, H8b, Hq0, Hq1, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := sl_exact hc)
  sl_step
  have d0 : run_A.sl.dma0 arg8 f8 = rowsW 0 (wTop (arg8.view.read (Elt F) f8)) := slab_top arg8 f8 0 _ _ _
  have d1 : run_A.sl.dma1 arg8 f8 = rowsW 1 (wTop (arg8.view.read (Elt F) f8)) := slab_top arg8 f8 1 _ _ _
  have d2 : run_A.sl.dma2 arg8 f8 = rowsW 2 (wTop (arg8.view.read (Elt F) f8)) := slab_top arg8 f8 2 _ _ _
  have d3 : run_A.sl.dma3 arg8 f8 = rowsW 3 (wTop (arg8.view.read (Elt F) f8)) := slab_top arg8 f8 3 _ _ _
  have d4 : run_A.sl.dma4 arg8 f8 = rowsW 4 (wTop (arg8.view.read (Elt F) f8)) := slab_top arg8 f8 4 _ _ _
  have d5 : run_A.sl.dma5 arg8 f8 = rowsW 5 (wTop (arg8.view.read (Elt F) f8)) := slab_top arg8 f8 5 _ _ _
  have d6 : run_A.sl.dma6 arg8 f8 = rowsW 6 (wTop (arg8.view.read (Elt F) f8)) := slab_top arg8 f8 6 _ _ _
  have d7 : run_A.sl.dma7 arg8 f8 = rowsW 7 (wTop (arg8.view.read (Elt F) f8)) := slab_top arg8 f8 7 _ _ _
  have d8 : run_A.sl.dma8 arg8 f8 = rowsW 0 (wBot (arg8.view.read (Elt F) f8)) := slab_bot arg8 f8 0 _ _ _
  have d9 : run_A.sl.dma9 arg8 f8 = rowsW 1 (wBot (arg8.view.read (Elt F) f8)) := slab_bot arg8 f8 1 _ _ _
  have d10 : run_A.sl.dma10 arg8 f8 = rowsW 2 (wBot (arg8.view.read (Elt F) f8)) := slab_bot arg8 f8 2 _ _ _
  have d11 : run_A.sl.dma11 arg8 f8 = rowsW 3 (wBot (arg8.view.read (Elt F) f8)) := slab_bot arg8 f8 3 _ _ _
  have d12 : run_A.sl.dma12 arg8 f8 = rowsW 4 (wBot (arg8.view.read (Elt F) f8)) := slab_bot arg8 f8 4 _ _ _
  have d13 : run_A.sl.dma13 arg8 f8 = rowsW 5 (wBot (arg8.view.read (Elt F) f8)) := slab_bot arg8 f8 5 _ _ _
  have d14 : run_A.sl.dma14 arg8 f8 = rowsW 6 (wBot (arg8.view.read (Elt F) f8)) := slab_bot arg8 f8 6 _ _ _
  have d15 : run_A.sl.dma15 arg8 f8 = rowsW 7 (wBot (arg8.view.read (Elt F) f8)) := slab_bot arg8 f8 7 _ _ _
  have l0 : run_A.sl.v39 arg8 arg15 f8 = rowsW 0 (wTop (arg8.view.read (Elt F) f8)) := stack_load arg15 (wTop (arg8.view.read (Elt F) f8)) _ _ _ _ _ _ _ _ d0 d1 d2 d3 d4 d5 d6 d7 _ _ _ _ _ _ _ _ 0 _
  have l1 : run_A.sl.v49 arg8 arg15 f8 = rowsW 1 (wTop (arg8.view.read (Elt F) f8)) := stack_load arg15 (wTop (arg8.view.read (Elt F) f8)) _ _ _ _ _ _ _ _ d0 d1 d2 d3 d4 d5 d6 d7 _ _ _ _ _ _ _ _ 1 _
  have l2 : run_A.sl.v59 arg8 arg15 f8 = rowsW 2 (wTop (arg8.view.read (Elt F) f8)) := stack_load arg15 (wTop (arg8.view.read (Elt F) f8)) _ _ _ _ _ _ _ _ d0 d1 d2 d3 d4 d5 d6 d7 _ _ _ _ _ _ _ _ 2 _
  have l3 : run_A.sl.v69 arg8 arg15 f8 = rowsW 3 (wTop (arg8.view.read (Elt F) f8)) := stack_load arg15 (wTop (arg8.view.read (Elt F) f8)) _ _ _ _ _ _ _ _ d0 d1 d2 d3 d4 d5 d6 d7 _ _ _ _ _ _ _ _ 3 _
  have l4 : run_A.sl.v79 arg8 arg15 f8 = rowsW 4 (wTop (arg8.view.read (Elt F) f8)) := stack_load arg15 (wTop (arg8.view.read (Elt F) f8)) _ _ _ _ _ _ _ _ d0 d1 d2 d3 d4 d5 d6 d7 _ _ _ _ _ _ _ _ 4 _
  have l5 : run_A.sl.v89 arg8 arg15 f8 = rowsW 5 (wTop (arg8.view.read (Elt F) f8)) := stack_load arg15 (wTop (arg8.view.read (Elt F) f8)) _ _ _ _ _ _ _ _ d0 d1 d2 d3 d4 d5 d6 d7 _ _ _ _ _ _ _ _ 5 _
  have l6 : run_A.sl.v99 arg8 arg15 f8 = rowsW 6 (wTop (arg8.view.read (Elt F) f8)) := stack_load arg15 (wTop (arg8.view.read (Elt F) f8)) _ _ _ _ _ _ _ _ d0 d1 d2 d3 d4 d5 d6 d7 _ _ _ _ _ _ _ _ 6 _
  have l7 : run_A.sl.v109 arg8 arg15 f8 = rowsW 7 (wTop (arg8.view.read (Elt F) f8)) := stack_load arg15 (wTop (arg8.view.read (Elt F) f8)) _ _ _ _ _ _ _ _ d0 d1 d2 d3 d4 d5 d6 d7 _ _ _ _ _ _ _ _ 7 _
  have m0 : run_A.sl.v46 arg8 arg16 f8 = rowsW 0 (wBot (arg8.view.read (Elt F) f8)) := stack_load arg16 (wBot (arg8.view.read (Elt F) f8)) _ _ _ _ _ _ _ _ d8 d9 d10 d11 d12 d13 d14 d15 _ _ _ _ _ _ _ _ 0 _
  have m1 : run_A.sl.v56 arg8 arg16 f8 = rowsW 1 (wBot (arg8.view.read (Elt F) f8)) := stack_load arg16 (wBot (arg8.view.read (Elt F) f8)) _ _ _ _ _ _ _ _ d8 d9 d10 d11 d12 d13 d14 d15 _ _ _ _ _ _ _ _ 1 _
  have m2 : run_A.sl.v66 arg8 arg16 f8 = rowsW 2 (wBot (arg8.view.read (Elt F) f8)) := stack_load arg16 (wBot (arg8.view.read (Elt F) f8)) _ _ _ _ _ _ _ _ d8 d9 d10 d11 d12 d13 d14 d15 _ _ _ _ _ _ _ _ 2 _
  have m3 : run_A.sl.v76 arg8 arg16 f8 = rowsW 3 (wBot (arg8.view.read (Elt F) f8)) := stack_load arg16 (wBot (arg8.view.read (Elt F) f8)) _ _ _ _ _ _ _ _ d8 d9 d10 d11 d12 d13 d14 d15 _ _ _ _ _ _ _ _ 3 _
  have m4 : run_A.sl.v86 arg8 arg16 f8 = rowsW 4 (wBot (arg8.view.read (Elt F) f8)) := stack_load arg16 (wBot (arg8.view.read (Elt F) f8)) _ _ _ _ _ _ _ _ d8 d9 d10 d11 d12 d13 d14 d15 _ _ _ _ _ _ _ _ 4 _
  have m5 : run_A.sl.v96 arg8 arg16 f8 = rowsW 5 (wBot (arg8.view.read (Elt F) f8)) := stack_load arg16 (wBot (arg8.view.read (Elt F) f8)) _ _ _ _ _ _ _ _ d8 d9 d10 d11 d12 d13 d14 d15 _ _ _ _ _ _ _ _ 5 _
  have m6 : run_A.sl.v106 arg8 arg16 f8 = rowsW 6 (wBot (arg8.view.read (Elt F) f8)) := stack_load arg16 (wBot (arg8.view.read (Elt F) f8)) _ _ _ _ _ _ _ _ d8 d9 d10 d11 d12 d13 d14 d15 _ _ _ _ _ _ _ _ 6 _
  have m7 : run_A.sl.v116 arg8 arg16 f8 = rowsW 7 (wBot (arg8.view.read (Elt F) f8)) := stack_load arg16 (wBot (arg8.view.read (Elt F) f8)) _ _ _ _ _ _ _ _ d8 d9 d10 d11 d12 d13 d14 d15 _ _ _ _ _ _ _ _ 7 _
  have r_2 : run_A.sl.r_2 arg8 arg15 arg16 x0 x1 x3 x4 x5 f8 = p88 (k0_pay9 x3 x4 x0 x1 x5) (wTop (arg8.view.read (Elt F) f8)) (wBot (arg8.view.read (Elt F) f8)) := by
    unfold run_A.sl.r_2
    unfold run_A.sl.r run_A.sl.r_1
    simp only [l0, m0, l1, m1, l2, m2, l3, m3, l4, m4, l5, m5, l6, m6, l7, m7] <;> rfl
  have r_3 : run_A.sl.r_3 arg8 arg15 arg16 x0 x1 x3 x4 x5 f8 = p97 (k0_pay9 x3 x4 x0 x1 x5) (wTop (arg8.view.read (Elt F) f8)) (wBot (arg8.view.read (Elt F) f8)) := by
    unfold run_A.sl.r_3
    simp only [l0, m0, l1, m1, l2, m2, l3, m3, l4, m4, l5, m5, l6, m6, l7, m7, r_2] <;> rfl
  have r_4 : run_A.sl.r_4 arg8 arg15 arg16 x0 x1 x3 x4 x5 f8 = zOf (k0_pay9 x3 x4 x0 x1 x5) (wTop (arg8.view.read (Elt F) f8)) (wBot (arg8.view.read (Elt F) f8)) := by
    unfold run_A.sl.r_4
    simp only [l0, m0, l1, m1, l2, m2, l3, m3, l4, m4, l5, m5, l6, m6, l7, m7, r_2, r_3] <;> rfl
  have r_5 : run_A.sl.r_5 arg8 arg15 arg16 x0 x1 x3 x4 x5 f8 = rOf x0 x1 x3 x4 x5 (wTop (arg8.view.read (Elt F) f8)) (wBot (arg8.view.read (Elt F) f8)) := by
    unfold run_A.sl.r_5
    simp only [l0, m0, l1, m1, l2, m2, l3, m3, l4, m4, l5, m5, l6, m6, l7, m7, r_2, r_3] <;> rfl
  have r_6 : run_A.sl.r_6 arg8 arg15 arg16 x0 x1 x3 x4 x5 f8 = xnOf x0 x1 x3 x4 x5 (wTop (arg8.view.read (Elt F) f8)) (wBot (arg8.view.read (Elt F) f8)) := by
    unfold run_A.sl.r_6
    simp only [l0, m0, l1, m1, l2, m2, l3, m3, l4, m4, l5, m5, l6, m6, l7, m7, r_2, r_3] <;> rfl
  have r_7 : run_A.sl.r_7 arg8 arg15 arg16 x0 x1 x2 x3 x4 x5 x6 f8 = k0_pay29 (xnOf x0 x1 x3 x4 x5 (wTop (arg8.view.read (Elt F) f8)) (wBot (arg8.view.read (Elt F) f8))) x6 x2 := by
    unfold run_A.sl.r_7
    simp only [l0, m0, l1, m1, l2, m2, l3, m3, l4, m4, l5, m5, l6, m6, l7, m7, r_6] <;> rfl
  have r_8 : run_A.sl.r_8 arg8 arg15 arg16 x0 x1 x2 x3 x4 x5 x6 f8 = dxOf x0 x1 x3 x4 x5 x2 x6 (wTop (arg8.view.read (Elt F) f8)) (wBot (arg8.view.read (Elt F) f8)) := by
    unfold run_A.sl.r_8
    simp only [l0, m0, l1, m1, l2, m2, l3, m3, l4, m4, l5, m5, l6, m6, l7, m7, r_5, r_6] <;> rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    rw [View.read_writes_full]
  isplitl [H10]
  · iexists _; isplitr; swap; · iexact H10
    ipureintro
    exact cols_read arg10 _ (k0_pay9 x3 x4 x0 x1 x5) (wTop (arg8.view.read (Elt F) f8)) _ _ _ _ _ _ _ _ (congrArg (k0_pay11 (k0_pay9 x3 x4 x0 x1 x5)) l0) (congrArg (k0_pay11 (k0_pay9 x3 x4 x0 x1 x5)) l1) (congrArg (k0_pay11 (k0_pay9 x3 x4 x0 x1 x5)) l2) (congrArg (k0_pay11 (k0_pay9 x3 x4 x0 x1 x5)) l3) (congrArg (k0_pay11 (k0_pay9 x3 x4 x0 x1 x5)) l4) (congrArg (k0_pay11 (k0_pay9 x3 x4 x0 x1 x5)) l5) (congrArg (k0_pay11 (k0_pay9 x3 x4 x0 x1 x5)) l6) (congrArg (k0_pay11 (k0_pay9 x3 x4 x0 x1 x5)) l7) _ _ _ _ _ _ _ _
  isplitl [H11]
  · iexists _; isplitr; swap; · iexact H11
    ipureintro
    refine (View.read_writes_full ..).trans ?_
    rw [r_5, r_6]; rfl
  isplitl [H12]
  · iexists _; isplitr; swap; · iexact H12
    ipureintro
    refine (View.read_writes_full ..).trans ?_
    rw [r_5, r_6]; rfl
  isplitl [H13]
  · iexists _; isplitr; swap; · iexact H13
    ipureintro
    refine (vec_read arg13 _ _ _ _ _ _).trans ?_
    rw [r_4, r_6, r_7, r_8, show run_A.sl.v170 c arg13 = row 0 (fun _ => Scalar.ofBits .f32 0x00000000#32) from (row_load arg13 _ 0 _).trans (congrArg (row 0) (View.read_writes_full ..)),
      show run_A.sl.v177 c arg8 arg13 arg15 arg16 x0 x1 x2 x3 x4 x5 x6 f8 = row 1 (fun _ => Scalar.ofBits .f32 0x00000000#32) from (row_load_1 arg13 _ _ _ _ _).trans (congrArg (row 1) (View.read_writes_full ..))]
    rw [show arg13.view.read (Elt F) (arg13.view.writes (Elt F) (harg13.unread y11) run_A.sl.H13_1) = (fun _ => Scalar.ofBits .f32 0x00000000#32) from View.read_writes_full ..]
    rfl
  isplitl [H14]
  · iexists _; isplitr; swap; · iexact H14
    ipureintro
    refine (View.read_writes_full ..).trans ?_
    rw [r_6, show run_A.sl.v140 c arg14 = (fun _ => Scalar.ofBits .f32 0x00000000#32) from View.readCov_full ..]
    rfl
  isplitl [H15]
  · iexists _; isplitr; swap
    · rw [harg15.set_eq_univ]; iexact H15
    ipureintro
    exact stack_read arg15 _ _ _ _ _ _ _ _ _ _ d0 d1 d2 d3 d4 d5 d6 d7 _ _ _ _ _ _ _ _
  isplitl [H16]
  · iexists _; isplitr; swap
    · rw [harg16.set_eq_univ]; iexact H16
    ipureintro
    exact stack_read arg16 _ _ _ _ _ _ _ _ _ _ d8 d9 d10 d11 d12 d13 d14 d15 _ _ _ _ _ _ _ _
  isplitl [H8a]; · iexact H8a
  isplitl [H8b]; · iexact H8b
  isplitl [Hq0]; · iexact Hq0
  isplitl [Hq1]; · iexact Hq1
  iexists _; iexact HW

set_option maxHeartbeats 40000000 in
/-- A later point. -/
theorem run_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S8x1024x1024 .bf16) (harg8 : arg8.IsWhole) (arg9 : Memref sig .tc .vmem S1024x256 .bf16) (harg9 : arg9.IsWhole) (arg10 : Memref sig .tc .vmem S256x4096 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x128 .f32) (harg14 : arg14.IsWhole) (arg15 : Memref sig .tc .vmem S4096x1024 .bf16) (harg15 : arg15.IsWhole) (arg16 : Memref sig .tc .vmem S4096x1024 .bf16) (harg16 : arg16.IsWhole) (hc : ¬cond i = 1#1)
    (x0 : Vec F S256x1024 .f32) (x1 : Vec F S256x1024 .f32) (x2 : Vec F S256x1024 .f32) (x3 : Vec F S8x1024 .f32) (x4 : Vec F S8x1024 .f32) (x5 : Vec F S1x1024 .f32) (x6 : Vec F S1x1024 .f32)
    (y7 : Vec F S1024x256 .bf16) (y8 : Vec F S256x4096 .f32) (y9 : Vec F S256x1024 .f32) (y10 : Vec F S256x1024 .bf16) (y11 : Vec F S8x1024 .f32) (y12 : Vec F S8x128 .f32) (W1 W2 : Vec F S4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare W1 ∗ owns (c : Thread nD τ) arg16 fullShare W2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (k0_pay10 x3 x4 x0 x1 x5) ∗ owns (c : Thread nD τ) arg10 fullShare (fOf (k0_pay9 x3 x4 x0 x1 x5) W1) ∗ owns (c : Thread nD τ) arg11 fullShare (dxOf x0 x1 x3 x4 x5 x2 x6 W1 W2) ∗ owns (c : Thread nD τ) arg12 fullShare (dzOf x0 x1 x3 x4 x5 x2 x6 W1 W2) ∗ owns (c : Thread nD τ) arg13 fullShare (vecOf x0 x1 x3 x4 x5 x2 x6 W1 W2 y11) ∗ owns (c : Thread nD τ) arg14 fullShare (lossOf x0 x1 x3 x4 x5 x2 x6 W1 W2 y12) ∗ owns (c : Thread nD τ) arg15 fullShare W1 ∗ owns (c : Thread nD τ) arg16 fullShare W2) -∗ K ⟨⟩))
      ⊢ wp frame (wpE (defs₀ (F := F)) Variants.none c none) E (cc0_mlp_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cc0_scratch2) K := by
  simp only [cc0_mlp_fwd_eq_skeleton]; unfold cc0_mlp_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  have e1 : arg1.view.readAt (Elt F) (Rect.unit (s := S256x1024) ![0, 0] S256x1024.size inb_S256x1024_S256x1024_0_0).toLoadRect (harg1.unread x0) = x0 := (View.readAt_full ..).trans (harg1.read_unread x0)
  have e2 : arg2.view.readAt (Elt F) (Rect.unit (s := S256x1024) ![0, 0] S256x1024.size inb_S256x1024_S256x1024_0_0).toLoadRect (harg2.unread x1) = x1 := (View.readAt_full ..).trans (harg2.read_unread x1)
  have e3 : arg3.view.readAt (Elt F) (Rect.unit (s := S256x1024) ![0, 0] S256x1024.size inb_S256x1024_S256x1024_0_0).toLoadRect (harg3.unread x2) = x2 := (View.readAt_full ..).trans (harg3.read_unread x2)
  have e4 : arg4.view.readAt (Elt F) (Rect.unit (s := S8x1024) ![0, 0] S8x1024.size inb_S8x1024_S8x1024_0_0).toLoadRect (harg4.unread x3) = x3 := (View.readAt_full ..).trans (harg4.read_unread x3)
  have e5 : arg5.view.readAt (Elt F) (Rect.unit (s := S8x1024) ![0, 0] S8x1024.size inb_S8x1024_S8x1024_0_0).toLoadRect (harg5.unread x4) = x4 := (View.readAt_full ..).trans (harg5.read_unread x4)
  have e6 : arg6.view.readAt (Elt F) (Rect.unit (s := S1x1024) ![0, 0] S1x1024.size inb_S1x1024_S1x1024_0_0).toLoadRect (harg6.unread x5) = x5 := (View.readAt_full ..).trans (harg6.read_unread x5)
  have e7 : arg7.view.readAt (Elt F) (Rect.unit (s := S1x1024) ![0, 0] S1x1024.size inb_S1x1024_S1x1024_0_0).toLoadRect (harg7.unread x6) = x6 := (View.readAt_full ..).trans (harg7.read_unread x6)
  have e14 : arg14.view.readAt (Elt F) (Rect.unit (s := S8x128) ![0, 0] S8x128.size inb_S8x128_S8x128_0_0).toLoadRect (harg14.unread y12) = y12 := (View.readAt_full ..).trans (harg14.read_unread y12)
  have e15_0 := load_w arg15 harg15 W1 0 inb_S4096x1024_S512x1024_0_0
  have e15_1 := load_w arg15 harg15 W1 1 inb_S4096x1024_S512x1024_512_0
  have e15_2 := load_w arg15 harg15 W1 2 inb_S4096x1024_S512x1024_1024_0
  have e15_3 := load_w arg15 harg15 W1 3 inb_S4096x1024_S512x1024_1536_0
  have e15_4 := load_w arg15 harg15 W1 4 inb_S4096x1024_S512x1024_2048_0
  have e15_5 := load_w arg15 harg15 W1 5 inb_S4096x1024_S512x1024_2560_0
  have e15_6 := load_w arg15 harg15 W1 6 inb_S4096x1024_S512x1024_3072_0
  have e15_7 := load_w arg15 harg15 W1 7 inb_S4096x1024_S512x1024_3584_0
  have e16_0 := load_w arg16 harg16 W2 0 inb_S4096x1024_S512x1024_0_0
  have e16_1 := load_w arg16 harg16 W2 1 inb_S4096x1024_S512x1024_512_0
  have e16_2 := load_w arg16 harg16 W2 2 inb_S4096x1024_S512x1024_1024_0
  have e16_3 := load_w arg16 harg16 W2 3 inb_S4096x1024_S512x1024_1536_0
  have e16_4 := load_w arg16 harg16 W2 4 inb_S4096x1024_S512x1024_2048_0
  have e16_5 := load_w arg16 harg16 W2 5 inb_S4096x1024_S512x1024_2560_0
  have e16_6 := load_w arg16 harg16 W2 6 inb_S4096x1024_S512x1024_3072_0
  have e16_7 := load_w arg16 harg16 W2 7 inb_S4096x1024_S512x1024_3584_0
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  sl_exec (disch := sl_exact hc)
  sl_step
  have r_4 : run_B.sl.r_4 x0 x1 x3 x4 x5 W1 W2 = zOf (k0_pay9 x3 x4 x0 x1 x5) W1 W2 := rfl
  have r_5 : run_B.sl.r_5 x0 x1 x3 x4 x5 W1 W2 = rOf x0 x1 x3 x4 x5 W1 W2 := rfl
  have r_6 : run_B.sl.r_6 x0 x1 x3 x4 x5 W1 W2 = xnOf x0 x1 x3 x4 x5 W1 W2 := rfl
  have r_7 : run_B.sl.r_7 x0 x1 x2 x3 x4 x5 x6 W1 W2 = k0_pay29 (xnOf x0 x1 x3 x4 x5 W1 W2) x6 x2 := rfl
  have r_8 : run_B.sl.r_8 x0 x1 x2 x3 x4 x5 x6 W1 W2 = dxOf x0 x1 x3 x4 x5 x2 x6 W1 W2 := rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    rw [View.read_writes_full]
  isplitl [H10]
  · iexists _; isplitr; swap; · iexact H10
    ipureintro
    exact cols_read arg10 _ (k0_pay9 x3 x4 x0 x1 x5) W1 _ _ _ _ _ _ _ _ rfl rfl rfl rfl rfl rfl rfl rfl _ _ _ _ _ _ _ _
  isplitl [H11]
  · iexists _; isplitr; swap; · iexact H11
    ipureintro
    refine (View.read_writes_full ..).trans ?_
    rw [r_5, r_6]; rfl
  isplitl [H12]
  · iexists _; isplitr; swap; · iexact H12
    ipureintro
    refine (View.read_writes_full ..).trans ?_
    rw [r_5, r_6]; rfl
  isplitl [H13]
  · iexists _; isplitr; swap; · iexact H13
    ipureintro
    refine (vec_read arg13 _ [] _ _ _ _).trans ?_
    rw [r_4, r_6, r_7, r_8, show run_B.sl.v177 c arg13 harg13 y11 = row 1 y11 from (row_load arg13 _ 1 _).trans (congrArg (row 1) (harg13.read_unread y11)),
      show arg13.view.readAt (Elt F) (Rect.unit (s := S8x1024) ![0, 0] ![1, 1024] inb_S8x1024_S1x1024_0_0).toLoadRect (harg13.unread y11) = row 0 y11 from (row_load arg13 _ 0 _).trans (congrArg (row 0) (harg13.read_unread y11)),
      show arg13.view.read (Elt F) (arg13.view.writes (Elt F) (harg13.unread y11) []) = y11 from harg13.read_unread y11]
    rfl
  isplitl [H14]
  · iexists _; isplitr; swap; · iexact H14
    ipureintro
    refine (View.read_writes_full ..).trans ?_
    rw [r_6]; rfl
  isplitl [H15]
  · iexists _; isplitr; · ipureintro; exact harg15.read_unread _
    iexact H15
  iexists _; isplitr; · ipureintro; exact harg16.read_unread _
  iexact H16

end Cert.Kernel6Ideal.Fwd

end
-- ==== Proof.FwdFrame.lean ====
/-
  The forward MLP kernel: what its output windows hold after each grid point, the body's obligation at every point, and
  the run: it ends, leaves the arguments, and every output array holds what the points' bodies left in its window.
-/
module

public import proofs.«01_k».proof.Proof.FwdRun

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output windows hold -/

theorem N_eq : cfg0.N = 8 := N_0

/-- Grid point `n`. -/
def pt (n : ℕ) : Fin cfg0.N := ⟨n % 8, by rw [N_eq]; omega⟩

theorem pt_val (t : Fin cfg0.N) : pt t.val = t :=
  Fin.ext (Nat.mod_eq_of_lt (lt_of_lt_of_eq t.isLt N_eq))

/-- The two weight matrices in the packed array. -/
def W1 (c : Dev nD) : Vec F S4096x1024 .bf16 := wTop ((Memref.whole main_v4).view.read (Elt F) (V m c main_v4))
def W2 (c : Dev nD) : Vec F S4096x1024 .bf16 := wBot ((Memref.whole main_v4).view.read (Elt F) (V m c main_v4))

/-- The two accumulating windows after point `n`. -/
def acc11 (c : Dev nD) : ℕ → Vec F S8x1024 .f32
  | 0 => vecOf (iblk m c 0 (pt 0)) (iblk m c 1 (pt 0)) (iblk m c 3 (pt 0)) (iblk m c 4 (pt 0)) (iblk m c 5 (pt 0)) (iblk m c 2 (pt 0)) (iblk m c 6 (pt 0)) (W1 m c) (W2 m c) (fun _ => Scalar.ofBits .f32 0x00000000#32)
  | n + 1 => vecOf (iblk m c 0 (pt (n + 1))) (iblk m c 1 (pt (n + 1))) (iblk m c 3 (pt (n + 1))) (iblk m c 4 (pt (n + 1))) (iblk m c 5 (pt (n + 1))) (iblk m c 2 (pt (n + 1))) (iblk m c 6 (pt (n + 1))) (W1 m c) (W2 m c) (acc11 c n)
def acc12 (c : Dev nD) : ℕ → Vec F S8x128 .f32
  | 0 => lossOf (iblk m c 0 (pt 0)) (iblk m c 1 (pt 0)) (iblk m c 3 (pt 0)) (iblk m c 4 (pt 0)) (iblk m c 5 (pt 0)) (iblk m c 2 (pt 0)) (iblk m c 6 (pt 0)) (W1 m c) (W2 m c) (fun _ => Scalar.ofBits .f32 0x00000000#32)
  | n + 1 => lossOf (iblk m c 0 (pt (n + 1))) (iblk m c 1 (pt (n + 1))) (iblk m c 3 (pt (n + 1))) (iblk m c 4 (pt (n + 1))) (iblk m c 5 (pt (n + 1))) (iblk m c 2 (pt (n + 1))) (iblk m c 6 (pt (n + 1))) (W1 m c) (W2 m c) (acc12 c n)

theorem acc11_first (c : Dev nD) (t : Fin cfg0.N) (h : t.val = 0) :
    vecOf (iblk m c 0 t) (iblk m c 1 t) (iblk m c 3 t) (iblk m c 4 t) (iblk m c 5 t) (iblk m c 2 t) (iblk m c 6 t) (W1 m c) (W2 m c) (fun _ => Scalar.ofBits .f32 0x00000000#32) = acc11 m c t.val := by
  generalize hn : t.val = n at *
  have hp : pt n = t := hn ▸ pt_val t
  subst h
  show _ = vecOf (iblk m c 0 (pt 0)) (iblk m c 1 (pt 0)) (iblk m c 3 (pt 0)) (iblk m c 4 (pt 0)) (iblk m c 5 (pt 0)) (iblk m c 2 (pt 0)) (iblk m c 6 (pt 0)) (W1 m c) (W2 m c) _
  rw [hp]
theorem acc11_later (c : Dev nD) (t : Fin cfg0.N) (h : ¬t.val = 0) :
    vecOf (iblk m c 0 t) (iblk m c 1 t) (iblk m c 3 t) (iblk m c 4 t) (iblk m c 5 t) (iblk m c 2 t) (iblk m c 6 t) (W1 m c) (W2 m c) (acc11 m c (t.val - 1)) = acc11 m c t.val := by
  generalize hn : t.val = n at *
  have hp : pt n = t := hn ▸ pt_val t
  cases n with
  | zero => exact absurd rfl h
  | succ n => rw [acc11, hp]; rfl

theorem acc12_first (c : Dev nD) (t : Fin cfg0.N) (h : t.val = 0) :
    lossOf (iblk m c 0 t) (iblk m c 1 t) (iblk m c 3 t) (iblk m c 4 t) (iblk m c 5 t) (iblk m c 2 t) (iblk m c 6 t) (W1 m c) (W2 m c) (fun _ => Scalar.ofBits .f32 0x00000000#32) = acc12 m c t.val := by
  generalize hn : t.val = n at *
  have hp : pt n = t := hn ▸ pt_val t
  subst h
  show _ = lossOf (iblk m c 0 (pt 0)) (iblk m c 1 (pt 0)) (iblk m c 3 (pt 0)) (iblk m c 4 (pt 0)) (iblk m c 5 (pt 0)) (iblk m c 2 (pt 0)) (iblk m c 6 (pt 0)) (W1 m c) (W2 m c) _
  rw [hp]
theorem acc12_later (c : Dev nD) (t : Fin cfg0.N) (h : ¬t.val = 0) :
    lossOf (iblk m c 0 t) (iblk m c 1 t) (iblk m c 3 t) (iblk m c 4 t) (iblk m c 5 t) (iblk m c 2 t) (iblk m c 6 t) (W1 m c) (W2 m c) (acc12 m c (t.val - 1)) = acc12 m c t.val := by
  generalize hn : t.val = n at *
  have hp : pt n = t := hn ▸ pt_val t
  cases n with
  | zero => exact absurd rfl h
  | succ n => rw [acc12, hp]; rfl

/-! ## The proof data -/

/-- Between the points, once the weights are copied: the two matrices in their buffers, and the rest untouched. -/
def Kept (c : Dev nD) : sProp 𝕄 :=
  iprop((owns (c : Thread nD τ) (Memref.whole cc0_scratch0) fullShare (W1 m c) ∗ owns (c : Thread nD τ) (Memref.whole cc0_scratch1) fullShare (W2 m c))
    ∗ (∃ r, prngReg c r) ∗ Pipeline.ownSems0 (Ix := Unit) (Name := ℕ) (U := Pipeline.UD sig nD τ) (Lvl := ℕ) (Val := Elt F) (τ := τ) osem0 c
    ∗ (bigSep H0 (fun b => ((c : Thread nD τ).loc b) ↦{fullShare} V m c b)))

/-- Each window's contents after each point, and what is kept between the points. -/
def dats (_ : Fin 1) (c : Dev nD) : Dat τ (Elt F) Unit ℕ (Pipeline.UD sig nD τ) ℕ cfg0 c where
  A w := V m c (Pipeline.arrRef spec0 w)
  after w t := match w with
    | (0 : Fin 13) => iblk m c 0 t
    | (1 : Fin 13) => iblk m c 1 t
    | (2 : Fin 13) => iblk m c 2 t
    | (3 : Fin 13) => iblk m c 3 t
    | (4 : Fin 13) => iblk m c 4 t
    | (5 : Fin 13) => iblk m c 5 t
    | (6 : Fin 13) => iblk m c 6 t
    | (7 : Fin 13) => k0_pay10 (iblk m c 3 t) (iblk m c 4 t) (iblk m c 0 t) (iblk m c 1 t) (iblk m c 5 t)
    | (8 : Fin 13) => fOf (k0_pay9 (iblk m c 3 t) (iblk m c 4 t) (iblk m c 0 t) (iblk m c 1 t) (iblk m c 5 t)) (W1 m c)
    | (9 : Fin 13) => dxOf (iblk m c 0 t) (iblk m c 1 t) (iblk m c 3 t) (iblk m c 4 t) (iblk m c 5 t) (iblk m c 2 t) (iblk m c 6 t) (W1 m c) (W2 m c)
    | (10 : Fin 13) => dzOf (iblk m c 0 t) (iblk m c 1 t) (iblk m c 3 t) (iblk m c 4 t) (iblk m c 5 t) (iblk m c 2 t) (iblk m c 6 t) (W1 m c) (W2 m c)
    | (11 : Fin 13) => acc11 m c t.val
    | (12 : Fin 13) => acc12 m c t.val
  q w := Pipeline.shareOf spec0 w
  Φ t := if t.val = 0 then Pipeline.ΦD osem0 spec0 H0 (V m) c else Kept m c
  owed _ := 0

theorem phi_first (c : Dev nD) (t : Fin (cfg0.N + 1)) (h : t.val = 0) : (dats m 0 c).Φ t = Pipeline.ΦD osem0 spec0 H0 (V m) c :=
  (if_pos h : (if t.val = 0 then Pipeline.ΦD osem0 spec0 H0 (V m) c else Kept m c) = _)
theorem phi_later (c : Dev nD) (t : Fin (cfg0.N + 1)) (h : ¬t.val = 0) : (dats m 0 c).Φ t = Kept m c :=
  (if_neg h : (if t.val = 0 then Pipeline.ΦD osem0 spec0 H0 (V m) c else Kept m c) = _)

theorem A_eq (c : Dev nD) (w : Fin cfg0.W) : (dats m 0 c).A w = V m c (Pipeline.arrRef spec0 w) := rfl
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = k0_pay10 (iblk m c 3 t) (iblk m c 4 t) (iblk m c 0 t) (iblk m c 1 t) (iblk m c 5 t) := rfl
theorem after_8 (c : Dev nD) (t : Fin cfg0.N) : (dats m 0 c).after 8 t = fOf (k0_pay9 (iblk m c 3 t) (iblk m c 4 t) (iblk m c 0 t) (iblk m c 1 t) (iblk m c 5 t)) (W1 m c) := rfl
theorem after_9 (c : Dev nD) (t : Fin cfg0.N) : (dats m 0 c).after 9 t = dxOf (iblk m c 0 t) (iblk m c 1 t) (iblk m c 3 t) (iblk m c 4 t) (iblk m c 5 t) (iblk m c 2 t) (iblk m c 6 t) (W1 m c) (W2 m c) := rfl
theorem after_10 (c : Dev nD) (t : Fin cfg0.N) : (dats m 0 c).after 10 t = dzOf (iblk m c 0 t) (iblk m c 1 t) (iblk m c 3 t) (iblk m c 4 t) (iblk m c 5 t) (iblk m c 2 t) (iblk m c 6 t) (W1 m c) (W2 m c) := rfl
theorem after_11 (c : Dev nD) (t : Fin cfg0.N) : (dats m 0 c).after 11 t = acc11 m c t.val := rfl
theorem after_12 (c : Dev nD) (t : Fin cfg0.N) : (dats m 0 c).after 12 t = acc12 m c t.val := rfl
theorem found_0 (c : Dev nD) (t : Fin cfg0.N) (d) : (dats m 0 c).before 0 t d = iblk m c 0 t :=
  before_0 m (dats m 0 c) (A_eq m c 0) (after_0 m c) t d
theorem found_1 (c : Dev nD) (t : Fin cfg0.N) (d) : (dats m 0 c).before 1 t d = iblk m c 1 t :=
  before_1 m (dats m 0 c) (A_eq m c 1) (after_1 m c) t d
theorem found_2 (c : Dev nD) (t : Fin cfg0.N) (d) : (dats m 0 c).before 2 t d = iblk m c 2 t :=
  before_2 m (dats m 0 c) (A_eq m c 2) (after_2 m c) t d
theorem found_3 (c : Dev nD) (t : Fin cfg0.N) (d) : (dats m 0 c).before 3 t d = iblk m c 3 t :=
  before_3 m (dats m 0 c) (A_eq m c 3) (after_3 m c) t d
theorem found_4 (c : Dev nD) (t : Fin cfg0.N) (d) : (dats m 0 c).before 4 t d = iblk m c 4 t :=
  before_4 m (dats m 0 c) (A_eq m c 4) (after_4 m c) t d
theorem found_5 (c : Dev nD) (t : Fin cfg0.N) (d) : (dats m 0 c).before 5 t d = iblk m c 5 t :=
  before_5 m (dats m 0 c) (A_eq m c 5) (after_5 m c) t d
theorem found_6 (c : Dev nD) (t : Fin cfg0.N) (d) : (dats m 0 c).before 6 t d = iblk m c 6 t :=
  before_6 m (dats m 0 c) (A_eq m c 6) (after_6 m c) t d
theorem found_11 (c : Dev nD) (t : Fin cfg0.N) (h : ¬t.val = 0) (d) : (dats m 0 c).before 11 t d = acc11 m c (t.val - 1) :=
  (dats m 0 c).before_out_kept 11 rfl t h (Bool.eq_false_iff.mpr fun hf => by
    have := (flush0_11 _).mp hf
    have := lt_of_lt_of_eq t.isLt N_eq
    have e : (⟨t.val - 1, Nat.lt_of_le_of_lt (Nat.sub_le _ _) t.isLt⟩ : Fin cfg0.N).val = t.val - 1 := rfl
    omega) (fun _ => rfl) (fun _ _ => rfl) d
theorem found_12 (c : Dev nD) (t : Fin cfg0.N) (h : ¬t.val = 0) (d) : (dats m 0 c).before 12 t d = acc12 m c (t.val - 1) :=
  (dats m 0 c).before_out_kept 12 rfl t h (Bool.eq_false_iff.mpr fun hf => by
    have := (flush0_12 _).mp hf
    have := lt_of_lt_of_eq t.isLt N_eq
    have e : (⟨t.val - 1, Nat.lt_of_le_of_lt (Nat.sub_le _ _) t.isLt⟩ : Fin cfg0.N).val = t.val - 1 := rfl
    omega) (fun _ => rfl) (fun _ _ => rfl) d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t))

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6]
  rw [after_0, after_1, after_2, after_3, after_4, after_5, after_6, after_7, after_8, after_9, after_10, after_11, after_12]
  rw [phi_later m c t.succ (Nat.succ_ne_zero t.val)]
  unfold Dat.owesAt Pipeline.owesWithin
  rw [show (dats m 0 c).owed t.castSucc = 0 from rfl, show (dats m 0 c).owed t.succ = 0 from rfl]
  unfold Kept
  rw [ownSems00_eq, hbmPts0_eq]
  by_cases h0 : t.val = 0
  · rw [phi_first m c t.castSucc h0, Pipeline.ΦD_eq, scopedRest0_eq, ownSems00_eq, hbmPts0_eq]
    iintro ⟨⟨⟨⟨%s0, HS0⟩, ⟨%s1, HS1⟩⟩, Hg, ⟨Hq0, Hq1⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave Hh' := (w_toks c (V m c main_v4)).1 $$ Hh
    icases Hh' with ⟨Hha, Hhb, Hhr⟩
    iapply (run_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (Memref.whole main_v4) (Memref.isWhole_whole _) (ms_7 t) (hs_7 t) (ms_8 t) (hs_8 t) (ms_9 t) (hs_9 t) (ms_10 t) (hs_10 t) (ms_11 t) (hs_11 t) (ms_12 t) (hs_12 t) (Memref.whole cc0_scratch0) (Memref.isWhole_whole _) (Memref.whole cc0_scratch1) (Memref.isWhole_whole _) ((cond_1 t).mpr h0)
      (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) ((dats m 0 c).before 12 t d12) (V m c main_v4) s0 s1 trivial trivial W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [Hha]; · iapply (whole_in c main_v4 _ _); iexact Hha
    isplitl [Hhb]; · iapply (whole_in c main_v4 _ _); iexact Hhb
    isplitl [Hq0]; · iexact Hq0
    isplitl [Hq1]; · iexact Hq1
    isplitl [HW]; · iexact HW
    iintro ⟨H0, H1, H2, H3, H4, H5, H6, H7, H8, H9, H10, H11, H12, HS0, HS1, Hha, Hhb, Hq0, Hq1, ⟨%W', HW'⟩⟩
    isplitl [HS0 HS1 Hg Hq0 Hq1 Hha Hhb Hhr]
    · isplitl [HS0 HS1]
      · isplitl [HS0]; · iexact HS0
        iexact HS1
      isplitl [Hg]; · iexact Hg
      isplitl [Hq0 Hq1]
      · isplitl [Hq0]; · iexact Hq0
        iexact Hq1
      iapply (w_toks c (V m c main_v4)).2
      isplitl [Hha]; · iapply (whole_out c main_v4 _ _); iexact Hha
      isplitl [Hhb]; · iapply (whole_out c main_v4 _ _); iexact Hhb
      iexact Hhr
    isplitl [HW']
    · iexists W'; isplitr; · ipureintro; exact fun _ _ => Or.inl trivial
      iexact HW'
    rw [← acc11_first m c t h0, ← acc12_first m c t h0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [phi_later m c t.castSucc h0]
    unfold Kept
    rw [ownSems00_eq, hbmPts0_eq]
    simp only [found_11 m c t h0, found_12 m c t h0]
    iintro ⟨⟨⟨HS0, HS1⟩, Hg, ⟨Hq0, Hq1⟩, Hh⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (Memref.whole main_v4) (Memref.isWhole_whole _) (ms_7 t) (hs_7 t) (ms_8 t) (hs_8 t) (ms_9 t) (hs_9 t) (ms_10 t) (hs_10 t) (ms_11 t) (hs_11 t) (ms_12 t) (hs_12 t) (Memref.whole cc0_scratch0) (Memref.isWhole_whole _) (Memref.whole cc0_scratch1) (Memref.isWhole_whole _) (fun h => h0 ((cond_1 t).mp h))
      (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) (acc11 m c (t.val - 1)) (acc12 m c (t.val - 1)) (W1 m c) (W2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 Hg Hq0 Hq1 Hh]
    · isplitl [HS0 HS1]
      · isplitl [HS0]; · iexact HS0
        iexact HS1
      isplitl [Hg]; · iexact Hg
      isplitl [Hq0 Hq1]
      · isplitl [Hq0]; · iexact Hq0
        iexact Hq1
      iexact Hh
    isplitl [HW]; · iexact HW
    rw [← acc11_later m c t h0, ← acc12_later m c t h0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem kept_out (c : Dev nD) : Kept m c ⊢ Pipeline.ΦD osem0 spec0 H0 (V m) c := by
  rw [Pipeline.ΦD_eq, scopedRest0_eq]
  unfold Kept owns
  iintro ⟨⟨⟨%f, -, HS0⟩, ⟨%g, -, HS1⟩⟩, Hg, Hq, Hh⟩
  isplitl [HS0 HS1]
  · isplitl [HS0]
    · iexists f; iapply (whole_out c cc0_scratch0 _ _); iexact HS0
    iexists g; iapply (whole_out c cc0_scratch1 _ _); iexact HS1
  isplitl [Hg]; · iexact Hg
  isplitl [Hq]; · iexact Hq
  iexact Hh

/-! ## The run -/

set_option backward.isDefEq.respectTransparency.types false in
/-- The run ends, with every array as the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch0.to₀ osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := fun c => Entails.of_eq (phi_first m c 0 rfl).symm)
    (hout := fun c => (Entails.of_eq (phi_later m c (Fin.last _) (by show ¬cfg0.N = 0; rw [N_eq]; decide))).trans (kept_out m c))

theorem args_of (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (by decide : main_arg7 ∈ Pipeline.restRefs sig spec0)).trans (V_main_arg7 m c),
    ((h c).2 main_arg8 (by decide : main_arg8 ∈ Pipeline.restRefs sig spec0)).trans (V_main_arg8 m c)⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨args_of m r h.1, h.2⟩) (run_main m ρ)

end Cert.Kernel6Ideal.Fwd

end
-- ==== Proof.FwdSpec.lean ====
/-
  The forward MLP with the loss and the last norm's gradient, on one token's row: what both programs compute, and the algebra between their two forms.
-/
module

public import Idealize.ShloMosaic.Lib.Pointwise

@[expose] public section

noncomputable section

namespace Cert.FwdSpec

open Idealize.ShloMosaic

/-- The literals: the width, the norm's epsilon, one, the kernel's two means, and the reference's two, half and minus half. -/
abbrev wid : EReal := Ideal.ofBits .f32 0x44800000#32
abbrev eps : EReal := Ideal.ofBits .f32 0x358637BD#32
abbrev one : EReal := Ideal.ofBits .f32 0x3F800000#32
abbrev k1 : EReal := Ideal.ofBits .f32 0x3A800000#32
abbrev k2 : EReal := Ideal.ofBits .f32 0x3A000000#32
abbrev two : EReal := Ideal.ofBits .f32 0x40000000#32
abbrev half : EReal := Ideal.ofBits .f32 0x3F000000#32
abbrev nhalf : EReal := Ideal.ofBits .f32 0xBF000000#32

theorem wid_eq : wid = ((1024 : ℝ) : EReal) := by simp [Ideal.ofBits, Ideal.ieee, -EReal.coe_mul]; norm_num
theorem one_eq : one = 1 := by simp [Ideal.ofBits, Ideal.ieee, -EReal.coe_mul]; try norm_num
theorem k1_eq : k1 = ((1 / 1024 : ℝ) : EReal) := by simp [Ideal.ofBits, Ideal.ieee, -EReal.coe_mul]; norm_num
theorem k2_eq : k2 = ((1 / 2048 : ℝ) : EReal) := by simp [Ideal.ofBits, Ideal.ieee, -EReal.coe_mul]; norm_num
theorem two_eq : two = ((2 : ℝ) : EReal) := by simp [Ideal.ofBits, Ideal.ieee, -EReal.coe_mul]; try norm_num
theorem half_eq : half = ((1 / 2 : ℝ) : EReal) := by simp [Ideal.ofBits, Ideal.ieee, -EReal.coe_mul]; norm_num
theorem nhalf_eq : nhalf = ((-(1 / 2) : ℝ) : EReal) := by simp [Ideal.ofBits, Ideal.ieee, -EReal.coe_mul]; norm_num
theorem eps_eq : ∃ e : ℝ, 0 < e ∧ eps = ((e : ℝ) : EReal) :=
  ⟨8796093 / 8796093022208, by norm_num, by simp [Ideal.ofBits, Ideal.ieee, -EReal.coe_mul]; norm_num⟩

theorem div_wid (x : EReal) : Ideal.div x wid = x * ((1 / 1024 : ℝ) : EReal) := by
  rw [wid_eq]; unfold Ideal.div
  rw [if_neg (by norm_num), ← EReal.coe_inv]; norm_num

/-! ## One token's row -/

/-- A norm's inverse length. -/
def inv (u : Fin 1024 → EReal) : EReal := Ideal.rsqrt (Ideal.div (∑ d, u d * u d) wid + eps)

variable (x mx t : Fin 1024 → EReal) (a : Fin 8 → Fin 1024 → EReal) (g2 gf : Fin 1024 → EReal)
  (w1 : Fin 1024 → Fin 4096 → EReal) (w2 : Fin 4096 → Fin 1024 → EReal)

def x1 : Fin 1024 → EReal := fun d => x d + a 2 d * mx d
def h2 : Fin 1024 → EReal := fun d => x1 x mx a d * inv (x1 x mx a) * g2 d * (one + a 4 d) + a 3 d
def f : Fin 4096 → EReal := fun c => ∑ d, h2 x mx a g2 d * w1 d c
def z : Fin 1024 → EReal := fun d => ∑ c, (max (f x mx a g2 w1 c) 0 * max (f x mx a g2 w1 c) 0) * w2 c d
def x2 : Fin 1024 → EReal := fun d => x1 x mx a d + a 5 d * z x mx a g2 w1 w2 d
def xn : Fin 1024 → EReal := fun d => x2 x mx a g2 w1 w2 d * inv (x2 x mx a g2 w1 w2)
def diff : Fin 1024 → EReal := fun d => xn x mx a g2 w1 w2 d * gf d - t d
def dy : Fin 1024 → EReal := fun d => diff x mx t a g2 gf w1 w2 d * k1
def dyn : Fin 1024 → EReal := fun d => dy x mx t a g2 gf w1 w2 d * gf d
def dx : Fin 1024 → EReal := fun d => inv (x2 x mx a g2 w1 w2) * (dyn x mx t a g2 gf w1 w2 d
  - xn x mx a g2 w1 w2 d * Ideal.div (∑ e, dyn x mx t a g2 gf w1 w2 e * xn x mx a g2 w1 w2 e) wid)
def dz : Fin 1024 → EReal := fun d => a 5 d * dx x mx t a g2 gf w1 w2 d

/-! ## Algebra -/

theorem sum_mul_real {ι : Type} (s : Finset ι) (u : ι → EReal) (r : ℝ) (hr : 0 ≤ r) :
    (∑ i ∈ s, u i) * (r : EReal) = ∑ i ∈ s, u i * (r : EReal) := by
  classical
  induction s using Finset.induction_on with
  | empty => simp
  | insert i s hi ih =>
    rw [Finset.sum_insert hi, Finset.sum_insert hi,
      EReal.right_distrib_of_nonneg_of_ne_top (by exact_mod_cast hr) (EReal.coe_ne_top r), ih]

theorem sq_nonneg' (u : EReal) : 0 ≤ u * u := by
  induction u with
  | bot => simp
  | top => simp
  | coe u => rw [← EReal.coe_mul]; exact_mod_cast mul_self_nonneg u

/-- The inverse length is a real number, and its quotient by the mean is its cube. -/
theorem inv_real (u : Fin 1024 → EReal) :
    ∃ r : ℝ, 0 ≤ r ∧ inv u = (r : EReal) ∧ Ideal.div (inv u) (Ideal.div (∑ d, u d * u d) wid + eps) = ((r * (r * r) : ℝ) : EReal) := by
  unfold inv
  obtain ⟨e, he, hE⟩ := eps_eq
  have hs : 0 ≤ ∑ d, u d * u d := Finset.sum_nonneg fun d _ => sq_nonneg' (u d)
  rw [div_wid, hE]
  generalize (∑ d, u d * u d) = s at hs
  induction s with
  | bot => exact absurd hs (by simp)
  | top =>
    rw [EReal.top_mul_coe_of_pos (by norm_num), EReal.top_add_coe]
    refine ⟨0, le_refl _, by simp, ?_⟩
    unfold Ideal.div; simp
  | coe s =>
    have hs' : 0 ≤ s := by exact_mod_cast hs
    rw [← EReal.coe_mul, ← EReal.coe_add]
    have hw : 0 < s * (1 / 1024) + e := by positivity
    generalize s * (1 / 1024) + e = w at hw
    have h1 : Ideal.rsqrt (w : EReal) = (((√w)⁻¹ : ℝ) : EReal) := by
      rw [Ideal.rsqrt_coe, if_neg (not_lt.mpr hw.le), if_neg hw.ne']
    refine ⟨(√w)⁻¹, by positivity, h1, ?_⟩
    rw [h1]; unfold Ideal.div
    rw [if_neg (by exact_mod_cast hw.ne'), ← EReal.coe_inv, ← EReal.coe_mul]
    congr 2
    rw [← mul_inv, Real.mul_self_sqrt hw.le]

theorem half_add (w : EReal) : w * ((-(1 / 2) : ℝ) : EReal) + w * ((-(1 / 2) : ℝ) : EReal) = -w := by
  induction w with
  | bot => rw [EReal.bot_mul_coe_of_neg (by norm_num)]; simp
  | top => rw [EReal.top_mul_coe_of_neg (by norm_num)]; simp
  | coe w => rw [← EReal.coe_mul, ← EReal.coe_add, ← EReal.coe_neg]; congr 1; ring

/-- The norm's gradient, as the reference spells it and as the kernel does. -/
theorem norm_grad (u y : Fin 1024 → EReal) (d : Fin 1024) :
    y d * inv u + u d * Ideal.div ((∑ e, u e * y e) * (nhalf * Ideal.div (inv u) (Ideal.div (∑ d, u d * u d) wid + eps))) wid
        + Ideal.div ((∑ e, u e * y e) * (nhalf * Ideal.div (inv u) (Ideal.div (∑ d, u d * u d) wid + eps))) wid * u d
      = inv u * (y d - (u d * inv u) * Ideal.div (∑ e, y e * (u e * inv u)) wid) := by
  obtain ⟨r, hr, h1, h2⟩ := inv_real u
  rw [h2, h1]
  have hs : (∑ e, y e * (u e * (r : EReal))) = (∑ e, u e * y e) * (r : EReal) := by
    rw [sum_mul_real _ _ r hr]; exact Finset.sum_congr rfl fun e _ => by rw [← mul_assoc, mul_comm (y e)]
  rw [hs, div_wid, div_wid, nhalf_eq, EReal.mul_sub_of_nonneg_of_ne_top (by exact_mod_cast hr) (EReal.coe_ne_top r)]
  generalize (∑ e, u e * y e) = S
  have hq : u d * (S * (((-(1 / 2) : ℝ) : EReal) * ((r * (r * r) : ℝ) : EReal)) * ((1 / 1024 : ℝ) : EReal))
      = (r : EReal) * ((u d * r) * (S * r * ((1 / 1024 : ℝ) : EReal))) * ((-(1 / 2) : ℝ) : EReal) := by
    rw [EReal.coe_mul r, EReal.coe_mul r]; ac_rfl
  rw [mul_comm _ (u d), hq, add_assoc, half_add, sub_eq_add_neg, mul_comm (y d)]

/-- The loss's gradient. -/
theorem dy_eq (u : EReal) : Ideal.div (half * 1) wid * (two * u) = u * k1 := by
  rw [div_wid, mul_one, half_eq, k1_eq, two_eq, ← EReal.coe_mul, ← mul_assoc, ← EReal.coe_mul, mul_comm]
  congr 2; norm_num

/-- A block's row among all the tokens. -/
def tok (b : Fin 8) (p : Fin 256) : Fin 2048 := ⟨b.val * 256 + p.val, by omega⟩

/-- A sum over the tokens, block by block. -/
theorem sum_tok (u : Fin 2048 → EReal) : ∑ r, u r = ∑ b : Fin 8, ∑ p : Fin 256, u (tok b p) := by
  rw [Fin.sum_univ_tiles 8 256 rfl]; rfl

/-- The loss. -/
theorem loss_eq (u : Fin 2048 → Fin 1024 → EReal) :
    half * ∑ r, Ideal.div (∑ d, u r d) wid = ∑ b : Fin 8, (∑ d, ∑ p : Fin 256, u (tok b p) d) * k2 := by
  have h : ∀ r, Ideal.div (∑ d, u r d) wid = (∑ d, u r d) * ((1 / 1024 : ℝ) : EReal) := fun r => div_wid _
  simp only [h]
  rw [half_eq, mul_comm, sum_mul_real _ _ _ (by norm_num), sum_tok, k2_eq]
  refine Finset.sum_congr rfl fun b _ => ?_
  rw [Finset.sum_comm, sum_mul_real _ _ _ (by norm_num)]
  refine Finset.sum_congr rfl fun p _ => ?_
  rw [mul_assoc, ← EReal.coe_mul]; congr 2; norm_num

/-- The hidden layer's columns, block by block. -/
theorem sum_col (u : Fin 4096 → EReal) :
    ∑ c, u c = ∑ j : Fin 8, ∑ q : Fin 512, u ⟨j.val * 512 + q.val, by omega⟩ := by
  rw [Fin.sum_univ_tiles 8 512 rfl]

end Cert.FwdSpec
-- ==== Proof.FwdPay.lean ====
/-
  The forward MLP kernel: what its body computes from the blocks it reads, element by element, as the row functions of FwdSpec.
-/
module

public import proofs.«01_k».proof.Proof.FwdRun
public import proofs.«01_k».proof.Proof.FwdSpec

@[expose] public section

set_option maxRecDepth 16384

noncomputable section

namespace Cert.Kernel6Ideal.Fwd

open Cert.Kernel6Ideal.Gen
open Idealize.ShloMosaic
open Cert.FwdSpec (wid eps one k1 k2 inv)

/-- A block's row, the modulation's rows, a single row, and the two matrices. -/
abbrev rowv (x : Vec Ideal S256x1024 .f32) (p : Fin 256) : Fin 1024 → EReal := fun d => x (ix2 p d)
abbrev modv (x3 x4 : Vec Ideal S8x1024 .f32) : Fin 8 → Fin 1024 → EReal := fun k d => x3 (ix2 k d) + x4 (ix2 k d)
abbrev vecv (x : Vec Ideal S1x1024 .f32) : Fin 1024 → EReal := fun d => x (ix2 (0 : Fin 1) d)
abbrev mat1 (W : Vec Ideal S4096x1024 .bf16) : Fin 1024 → Fin 4096 → EReal := fun d c => W (ix2 c d)
abbrev mat2 (W : Vec Ideal S4096x1024 .bf16) : Fin 4096 → Fin 1024 → EReal := fun c d => W (ix2 c d)

/-! ## The payloads, one by one -/

section
variable (x0 x1 : Vec Ideal S256x1024 .f32) (x3 x4 : Vec Ideal S8x1024 .f32) (x5 : Vec Ideal S1x1024 .f32)

theorem pay6_apply (d : Fin 1024) : k0_pay6 x3 x4 (ix2 (0 : Fin 1) d) = modv x3 x4 5 d := by
  pointwise [k0_pay6, k0_pay5]

theorem pay7_apply (p : Fin 256) (d : Fin 1024) :
    k0_pay7 x3 x4 x0 x1 (ix2 p d) = FwdSpec.x1 (rowv x0 p) (rowv x1 p) (modv x3 x4) d := by
  unfold FwdSpec.x1
  pointwise [k0_pay7, k0_pay5]

theorem pay8_apply (p : Fin 256) (d : Fin 1024) :
    k0_pay8 x3 x4 x0 x1 x5 (ix2 p d) = FwdSpec.h2 (rowv x0 p) (rowv x1 p) (modv x3 x4) (vecv x5) d := by
  have e : ∀ d, k0_pay7 x3 x4 x0 x1 (ix2 p d) = FwdSpec.x1 (rowv x0 p) (rowv x1 p) (modv x3 x4) d := fun d => pay7_apply x0 x1 x3 x4 p d
  unfold FwdSpec.h2 FwdSpec.inv
  simp only [← e]
  unfold k0_pay8
  generalize k0_pay7 x3 x4 x0 x1 = g
  pointwise [k0_pay5]

theorem pay9_apply (p : Fin 256) (d : Fin 1024) :
    k0_pay9 x3 x4 x0 x1 x5 (ix2 p d) = FwdSpec.h2 (rowv x0 p) (rowv x1 p) (modv x3 x4) (vecv x5) d := by
  rw [← pay8_apply]
  unfold k0_pay9
  pointwise

theorem pay10_apply (d : Fin 1024) (p : Fin 256) :
    k0_pay10 x3 x4 x0 x1 x5 (ix2 d p) = FwdSpec.h2 (rowv x0 p) (rowv x1 p) (modv x3 x4) (vecv x5) d := by
  rw [← pay8_apply]
  unfold k0_pay10
  pointwise [k0_pay9]
end

section
variable (h : FVec Ideal S256x1024 .bf16) (u v u' v' : Vec Ideal S512x1024 .bf16) (a b : FVec Ideal S256x1024 .f32)

theorem pay11_apply (p : Fin 256) (q : Fin 512) : k0_pay11 h u (ix2 p q) = ∑ d : Fin 1024, h (ix2 p d) * u (ix2 q d) := by
  pointwise [k0_pay11]

/-- One block's term of the sum over the hidden layer. -/
def term (p : Fin 256) (d : Fin 1024) : EReal :=
  ∑ q : Fin 512, (max (k0_pay11 h u (ix2 p q)) 0 * max (k0_pay11 h u (ix2 p q)) 0) * v (ix2 q d)

theorem pay13_apply (p : Fin 256) (d : Fin 1024) :
    k0_pay13 h (Scalar.ofBits .f32 0x00000000#32) u v u' v' (ix2 p d) = term h u v p d + term h u' v' p d := by
  have e : k0_pay12 h u' = k0_pay11 h u' := rfl
  unfold k0_pay13 term
  rw [e]
  generalize k0_pay11 h u = g
  generalize k0_pay11 h u' = g'
  pointwise

theorem pay15_apply (p : Fin 256) (d : Fin 1024) : k0_pay15 h u v (ix2 p d) = term h u v p d := by
  have e : k0_pay14 h u = k0_pay11 h u := rfl
  unfold k0_pay15 term
  rw [e]
  generalize k0_pay11 h u = g
  pointwise

theorem pay20_apply (p : Fin 256) (d : Fin 1024) : k0_pay20 h u v (ix2 p d) = term h u v p d := by
  have e : k0_pay19 h u = k0_pay11 h u := rfl
  unfold k0_pay20 term
  rw [e]
  generalize k0_pay11 h u = g
  pointwise

theorem pay18_apply (p : Fin 256) (d : Fin 1024) :
    k0_pay18 h a b u v u' v' (ix2 p d) = ((a (ix2 p d) + b (ix2 p d)) + term h u v p d) + term h u' v' p d := by
  have e : k0_pay16 h u = k0_pay11 h u := rfl
  have e' : k0_pay17 h u' = k0_pay11 h u' := rfl
  unfold k0_pay18 term
  rw [e, e']
  generalize k0_pay11 h u = g
  generalize k0_pay11 h u' = g'
  pointwise

theorem pay23_apply (p : Fin 256) (d : Fin 1024) :
    k0_pay23 h a b u v u' v' (ix2 p d) = ((a (ix2 p d) + b (ix2 p d)) + term h u v p d) + term h u' v' p d := by
  have e : k0_pay21 h u = k0_pay11 h u := rfl
  have e' : k0_pay22 h u' = k0_pay11 h u' := rfl
  unfold k0_pay23 term
  rw [e, e']
  generalize k0_pay11 h u = g
  generalize k0_pay11 h u' = g'
  pointwise

variable (s : FVec Ideal S1x1024 .f32) (y : FVec Ideal S256x1024 .f32)

theorem pay24_apply (p : Fin 256) (d : Fin 1024) :
    k0_pay24 s y h a b u v u' v' (ix2 p d) = y (ix2 p d) + s (ix2 (0 : Fin 1) d) * k0_pay23 h a b u v u' v' (ix2 p d) := by
  unfold k0_pay24
  generalize k0_pay23 h a b u v u' v' = g
  pointwise

theorem pay25_apply (p : Fin 256) :
    k0_pay25 s y h a b u v u' v' (ix2 p (0 : Fin 1)) = inv (fun d => k0_pay24 s y h a b u v u' v' (ix2 p d)) := by
  unfold k0_pay25 FwdSpec.inv
  generalize k0_pay24 s y h a b u v u' v' = g
  pointwise

theorem pay26_apply (p : Fin 256) (d : Fin 1024) :
    k0_pay26 s y h a b u v u' v' (ix2 p d) = k0_pay24 s y h a b u v u' v' (ix2 p d) * k0_pay25 s y h a b u v u' v' (ix2 p (0 : Fin 1)) := by
  unfold k0_pay26
  generalize k0_pay24 s y h a b u v u' v' = g
  generalize k0_pay25 s y h a b u v u' v' = g'
  pointwise
end

section
variable (r : FVec Ideal S256x1 .f32) (xn dx z dy : FVec Ideal S256x1024 .f32) (gf gf' s y : Vec Ideal S1x1024 .f32) (t : Vec Ideal S256x1024 .f32)

theorem pay27_apply (p : Fin 256) (d : Fin 1024) :
    k0_pay27 xn gf t (ix2 p d) = xn (ix2 p d) * gf (ix2 (0 : Fin 1) d) - t (ix2 p d) := by
  pointwise [k0_pay27]

theorem pay28_apply (l : Vec Ideal S8x128 .f32) (i : Fin 8) (k : Fin 128) :
    k0_pay28 xn gf t l (ix2 i k) = l (ix2 i k) + (∑ d : Fin 1024, ∑ p : Fin 256, k0_pay27 xn gf t (ix2 p d) * k0_pay27 xn gf t (ix2 p d)) * k2 := by
  unfold k0_pay28
  generalize k0_pay27 xn gf t = g
  pointwise

theorem pay29_apply (p : Fin 256) (d : Fin 1024) : k0_pay29 xn gf t (ix2 p d) = k0_pay27 xn gf t (ix2 p d) * k1 := by
  unfold k0_pay29
  generalize k0_pay27 xn gf t = g
  pointwise

theorem pay30_apply (p : Fin 256) (d : Fin 1024) :
    k0_pay30 r xn gf t gf' (ix2 p d) = r (ix2 p (0 : Fin 1)) * (k0_pay29 xn gf t (ix2 p d) * gf' (ix2 (0 : Fin 1) d)
      - xn (ix2 p d) * Ideal.div (∑ e : Fin 1024, (k0_pay29 xn gf t (ix2 p e) * gf' (ix2 (0 : Fin 1) e)) * xn (ix2 p e)) wid) := by
  unfold k0_pay30
  generalize k0_pay29 xn gf t = g
  pointwise

theorem pay31_apply (p : Fin 256) (d : Fin 1024) :
    k0_pay31 s r xn gf t gf' (ix2 p d) = s (ix2 (0 : Fin 1) d) * k0_pay30 r xn gf t gf' (ix2 p d) := by
  unfold k0_pay31
  generalize k0_pay30 r xn gf t gf' = g
  pointwise

theorem pay1_apply (d : Fin 1024) :
    k0_pay1 z dx y (ix2 (0 : Fin 1) d) = y (ix2 (0 : Fin 1) d) + ∑ p : Fin 256, dx (ix2 p d) * z (ix2 p d) := by
  pointwise [k0_pay1]

theorem pay2_apply (d : Fin 1024) :
    k0_pay2 xn dy y (ix2 (0 : Fin 1) d) = y (ix2 (0 : Fin 1) d) + ∑ p : Fin 256, dy (ix2 p d) * xn (ix2 p d) := by
  pointwise [k0_pay2]
end

/-! ## The point's values -/

theorem rowsW_apply (j : Fin 8) (W : Vec Ideal S4096x1024 .bf16) (q : Fin 512) (d : Fin 1024) :
    rowsW j W (ix2 q d) = W (ix2 (⟨j.val * 512 + q.val, by omega⟩ : Fin 4096) d) := by
  refine congrArg W (funext fun a => Fin.ext ?_)
  match a with
  | ⟨0, _⟩ => show 512 * j.val + q.val = j.val * 512 + q.val; omega
  | ⟨1, _⟩ => rfl

theorem row_apply (k : Fin 8) (y : Vec Ideal S8x1024 .f32) (d : Fin 1024) : row k y (ix2 (0 : Fin 1) d) = y (ix2 k d) := by
  refine congrArg y (funext fun a => ?_)
  match a with
  | ⟨0, _⟩ => rfl
  | ⟨1, _⟩ => rfl

theorem fOf_apply (h : FVec Ideal S256x1024 .bf16) (W1 : Vec Ideal S4096x1024 .bf16) (p : Fin 256) (c : Fin 4096) :
    fOf h W1 (ix2 p c) = ∑ d : Fin 1024, h (ix2 p d) * W1 (ix2 c d) := by
  have hc := c.isLt
  refine (show fOf h W1 (ix2 p c) = k0_pay11 h (rowsW ⟨c.val / 512, by omega⟩ W1) (ix2 p (⟨c.val % 512, by omega⟩ : Fin 512)) from ?_).trans ?_
  · unfold fOf
    refine congrArg (k0_pay11 h _) (funext fun a => ?_)
    match a with
    | ⟨0, _⟩ => rfl
    | ⟨1, _⟩ => rfl
  · rw [pay11_apply]
    refine Finset.sum_congr rfl fun d _ => ?_
    rw [rowsW_apply]
    have e : (⟨c.val / 512 * 512 + c.val % 512, by omega⟩ : Fin 4096) = c := Fin.ext (by show c.val / 512 * 512 + c.val % 512 = c.val; omega)
    exact congrArg (fun i => h (ix2 p d) * W1 (ix2 i d)) e

theorem zOf_sum (h : FVec Ideal S256x1024 .bf16) (W1 W2 : Vec Ideal S4096x1024 .bf16) (p : Fin 256) (d : Fin 1024) :
    zOf h W1 W2 (ix2 p d) = ∑ j : Fin 8, term h (rowsW j W1) (rowsW j W2) p d := by
  rw [Fin.sum_univ_eight]
  unfold zOf p88 p97 p58 p67
  rw [pay23_apply, pay18_apply, pay20_apply, pay13_apply, pay15_apply]

variable (x0 x1 : Vec Ideal S256x1024 .f32) (x3 x4 : Vec Ideal S8x1024 .f32) (x5 : Vec Ideal S1x1024 .f32) (x2 : Vec Ideal S256x1024 .f32)
  (x6 : Vec Ideal S1x1024 .f32) (W1 W2 : Vec Ideal S4096x1024 .bf16)

theorem fOf_eq (p : Fin 256) (c : Fin 4096) :
    fOf (k0_pay9 x3 x4 x0 x1 x5) W1 (ix2 p c) = FwdSpec.f (rowv x0 p) (rowv x1 p) (modv x3 x4) (vecv x5) (mat1 W1) c := by
  rw [fOf_apply]
  exact Finset.sum_congr rfl fun d _ => by rw [pay9_apply]

theorem zOf_eq (p : Fin 256) (d : Fin 1024) :
    zOf (k0_pay9 x3 x4 x0 x1 x5) W1 W2 (ix2 p d) = FwdSpec.z (rowv x0 p) (rowv x1 p) (modv x3 x4) (vecv x5) (mat1 W1) (mat2 W2) d := by
  rw [zOf_sum]
  unfold FwdSpec.z
  rw [FwdSpec.sum_col]
  refine Finset.sum_congr rfl fun j _ => Finset.sum_congr rfl fun q _ => ?_
  have e : k0_pay11 (k0_pay9 x3 x4 x0 x1 x5) (rowsW j W1) (ix2 p q)
      = FwdSpec.f (rowv x0 p) (rowv x1 p) (modv x3 x4) (vecv x5) (mat1 W1) ⟨j.val * 512 + q.val, by omega⟩ := by
    rw [pay11_apply]
    exact Finset.sum_congr rfl fun d _ => by rw [pay9_apply, rowsW_apply]
  rw [e, rowsW_apply]

/-- The residual stream behind the MLP. -/
def x2Of : FVec Ideal S256x1024 .f32 :=
  k0_pay24 (k0_pay6 x3 x4) (k0_pay7 x3 x4 x0 x1) (k0_pay9 x3 x4 x0 x1 x5) (p88 (k0_pay9 x3 x4 x0 x1 x5) W1 W2) (p97 (k0_pay9 x3 x4 x0 x1 x5) W1 W2)
    (rowsW 6 W1) (rowsW 6 W2) (rowsW 7 W1) (rowsW 7 W2)

theorem x2Of_eq (p : Fin 256) (d : Fin 1024) :
    x2Of x0 x1 x3 x4 x5 W1 W2 (ix2 p d) = FwdSpec.x2 (rowv x0 p) (rowv x1 p) (modv x3 x4) (vecv x5) (mat1 W1) (mat2 W2) d := by
  unfold x2Of FwdSpec.x2
  rw [pay24_apply, pay6_apply, pay7_apply, ← zOf_eq]
  rfl

theorem rOf_eq (p : Fin 256) :
    rOf x0 x1 x3 x4 x5 W1 W2 (ix2 p (0 : Fin 1)) = inv (FwdSpec.x2 (rowv x0 p) (rowv x1 p) (modv x3 x4) (vecv x5) (mat1 W1) (mat2 W2)) := by
  unfold rOf
  rw [pay25_apply]
  exact congrArg inv (funext fun d => x2Of_eq x0 x1 x3 x4 x5 W1 W2 p d)

theorem xnOf_eq (p : Fin 256) (d : Fin 1024) :
    xnOf x0 x1 x3 x4 x5 W1 W2 (ix2 p d) = FwdSpec.xn (rowv x0 p) (rowv x1 p) (modv x3 x4) (vecv x5) (mat1 W1) (mat2 W2) d := by
  unfold xnOf FwdSpec.xn
  rw [pay26_apply]
  exact congrArg₂ (· * ·) (x2Of_eq x0 x1 x3 x4 x5 W1 W2 p d) (rOf_eq x0 x1 x3 x4 x5 W1 W2 p)

theorem diff_eq (p : Fin 256) (d : Fin 1024) :
    k0_pay27 (xnOf x0 x1 x3 x4 x5 W1 W2) x6 x2 (ix2 p d)
      = FwdSpec.diff (rowv x0 p) (rowv x1 p) (rowv x2 p) (modv x3 x4) (vecv x5) (vecv x6) (mat1 W1) (mat2 W2) d := by
  rw [pay27_apply, xnOf_eq]; rfl

theorem dy_eq (p : Fin 256) (d : Fin 1024) :
    k0_pay29 (xnOf x0 x1 x3 x4 x5 W1 W2) x6 x2 (ix2 p d)
      = FwdSpec.dy (rowv x0 p) (rowv x1 p) (rowv x2 p) (modv x3 x4) (vecv x5) (vecv x6) (mat1 W1) (mat2 W2) d := by
  rw [pay29_apply, diff_eq]; rfl

theorem dxOf_eq (p : Fin 256) (d : Fin 1024) :
    dxOf x0 x1 x3 x4 x5 x2 x6 W1 W2 (ix2 p d)
      = FwdSpec.dx (rowv x0 p) (rowv x1 p) (rowv x2 p) (modv x3 x4) (vecv x5) (vecv x6) (mat1 W1) (mat2 W2) d := by
  unfold dxOf FwdSpec.dx FwdSpec.dyn
  rw [pay30_apply, rOf_eq, xnOf_eq]
  simp only [dy_eq, xnOf_eq]

theorem dzOf_eq (p : Fin 256) (d : Fin 1024) :
    dzOf x0 x1 x3 x4 x5 x2 x6 W1 W2 (ix2 p d)
      = FwdSpec.dz (rowv x0 p) (rowv x1 p) (rowv x2 p) (modv x3 x4) (vecv x5) (vecv x6) (mat1 W1) (mat2 W2) d := by
  unfold dzOf FwdSpec.dz
  rw [pay31_apply, pay6_apply]
  exact congrArg (modv x3 x4 5 d * ·) (dxOf_eq x0 x1 x3 x4 x5 x2 x6 W1 W2 p d)

theorem lossOf_eq (l : Vec Ideal S8x128 .f32) (i : Fin 8) (k : Fin 128) :
    lossOf x0 x1 x3 x4 x5 x2 x6 W1 W2 l (ix2 i k) = l (ix2 i k) + (∑ d : Fin 1024, ∑ p : Fin 256,
      FwdSpec.diff (rowv x0 p) (rowv x1 p) (rowv x2 p) (modv x3 x4) (vecv x5) (vecv x6) (mat1 W1) (mat2 W2) d
        * FwdSpec.diff (rowv x0 p) (rowv x1 p) (rowv x2 p) (modv x3 x4) (vecv x5) (vecv x6) (mat1 W1) (mat2 W2) d) * k2 := by
  unfold lossOf
  rw [pay28_apply]
  simp only [diff_eq]

theorem vecOf_zero (y : Vec Ideal S8x1024 .f32) (d : Fin 1024) :
    vecOf x0 x1 x3 x4 x5 x2 x6 W1 W2 y (ix2 (0 : Fin 8) d) = y (ix2 (0 : Fin 8) d) + ∑ p : Fin 256,
      FwdSpec.dx (rowv x0 p) (rowv x1 p) (rowv x2 p) (modv x3 x4) (vecv x5) (vecv x6) (mat1 W1) (mat2 W2) d
        * FwdSpec.z (rowv x0 p) (rowv x1 p) (modv x3 x4) (vecv x5) (mat1 W1) (mat2 W2) d := by
  refine (pay1_apply (dxOf x0 x1 x3 x4 x5 x2 x6 W1 W2) (zOf (k0_pay9 x3 x4 x0 x1 x5) W1 W2) (row 0 y) d).trans ?_
  simp only [dxOf_eq, zOf_eq, row_apply]

theorem vecOf_one (y : Vec Ideal S8x1024 .f32) (d : Fin 1024) :
    vecOf x0 x1 x3 x4 x5 x2 x6 W1 W2 y (ix2 (1 : Fin 8) d) = y (ix2 (1 : Fin 8) d) + ∑ p : Fin 256,
      FwdSpec.dy (rowv x0 p) (rowv x1 p) (rowv x2 p) (modv x3 x4) (vecv x5) (vecv x6) (mat1 W1) (mat2 W2) d
        * FwdSpec.xn (rowv x0 p) (rowv x1 p) (modv x3 x4) (vecv x5) (mat1 W1) (mat2 W2) d := by
  refine (pay2_apply (xnOf x0 x1 x3 x4 x5 W1 W2) (k0_pay29 (xnOf x0 x1 x3 x4 x5 W1 W2) x6 x2) (row 1 y) d).trans ?_
  simp only [dy_eq, xnOf_eq, row_apply]

theorem vecOf_rest (y : Vec Ideal S8x1024 .f32) (k : Fin 8) (hk : 2 ≤ k.val) (d : Fin 1024) :
    vecOf x0 x1 x3 x4 x5 x2 x6 W1 W2 y (ix2 k d) = y (ix2 k d) := by
  have h0 : ¬ ((ix2 k d : S8x1024.Idx) 0).val = 0 := by show ¬ k.val = 0; omega
  have h1 : ¬ ((ix2 k d : S8x1024.Idx) 0).val = 1 := by show ¬ k.val = 1; omega
  unfold vecOf
  rw [if_neg h0, if_neg h1]

end Cert.Kernel6Ideal.Fwd
-- ==== Proof.FwdBlocks.lean ====
/-
  The forward MLP kernel: the blocks its windows read, as rows of the arguments, and the arrays after the run.
-/
module

public import proofs.«01_k».proof.Proof.FwdFrame
public import proofs.«01_k».proof.Proof.FwdPay
public import Idealize.ShloMosaic.Lib.Pipeline.ValueKit

@[expose] public section

set_option maxRecDepth 16384

noncomputable section

namespace Cert.Kernel6Ideal.Fwd

open Cert.Kernel6Ideal Cert.Kernel6Ideal.Gen
open Idealize.ShloMosaic Idealize.ShloMosaic.TcCoe Idealize.SL.Sem
open Idealize.ShloMosaic.Pipeline (Dat Cfg Window)
open Cert.FwdSpec (tok k2)

variable (m : (ℓ : Loc nD τ sig) → Buf (Elt Ideal) ℓ)

/-- The arguments, as functions of their coordinates. -/
abbrev argX (c : Dev nD) (r : Fin 2048) : Fin 1024 → EReal := fun d => m ((c.tc : Thread nD τ).loc main_arg0) (ix2 r d)
abbrev argM (c : Dev nD) (r : Fin 2048) : Fin 1024 → EReal := fun d => m ((c.tc : Thread nD τ).loc main_arg1) (ix2 r d)
abbrev argT (c : Dev nD) (r : Fin 2048) : Fin 1024 → EReal := fun d => m ((c.tc : Thread nD τ).loc main_arg2) (ix2 r d)
abbrev arg3 (c : Dev nD) : Fin 8 → Fin 1024 → EReal := fun k d => m ((c.tc : Thread nD τ).loc main_arg3) (ix2 k d)
abbrev arg4 (c : Dev nD) : Fin 8 → Fin 1024 → EReal := fun k d => m ((c.tc : Thread nD τ).loc main_arg4) (ix2 k d)
abbrev argMod (c : Dev nD) : Fin 8 → Fin 1024 → EReal := fun k d => arg3 m c k d + arg4 m c k d
abbrev argG2 (c : Dev nD) : Fin 1024 → EReal := fun d => m ((c.tc : Thread nD τ).loc main_arg5) (ix2 (0 : Fin 1) d)
abbrev argGf (c : Dev nD) : Fin 1024 → EReal := fun d => m ((c.tc : Thread nD τ).loc main_arg6) (ix2 (0 : Fin 1) d)
abbrev argW1 (c : Dev nD) : Fin 1024 → Fin 4096 → EReal := fun d k => m ((c.tc : Thread nD τ).loc main_arg7) (ix2 d k)
abbrev argW2 (c : Dev nD) : Fin 4096 → Fin 1024 → EReal := fun k d => m ((c.tc : Thread nD τ).loc main_arg8) (ix2 k d)

/-! ## The packed weights -/

theorem V_v4_lo (c : Dev nD) (j : Fin 8) (q : Fin 512) (d : Fin 1024) :
    V m c main_v4 (ix3 (n0 := 8) (n1 := 1024) (n2 := 1024) j ⟨q.val, by omega⟩ d) = argW1 m c d ⟨j.val * 512 + q.val, by omega⟩ := by
  entry_read
  pointwise

theorem V_v4_hi (c : Dev nD) (j : Fin 8) (q : Fin 512) (d : Fin 1024) :
    V m c main_v4 (ix3 (n0 := 8) (n1 := 1024) (n2 := 1024) j ⟨512 + q.val, by omega⟩ d) = argW2 m c ⟨j.val * 512 + q.val, by omega⟩ d := by
  entry_read
  pointwise

theorem mat1_eq (c : Dev nD) : mat1 (W1 m c) = argW1 m c := by
  funext d k
  have hk := k.isLt
  refine Eq.trans ?_ ((V_v4_lo m c ⟨k.val / 512, by omega⟩ ⟨k.val % 512, by omega⟩ d).trans ?_)
  · refine congrArg (V m c main_v4) (funext fun a => ?_)
    match a with
    | ⟨0, _⟩ => rfl
    | ⟨1, _⟩ => rfl
    | ⟨2, _⟩ => rfl
  · exact congrArg (argW1 m c d) (Fin.ext (by show k.val / 512 * 512 + k.val % 512 = k.val; omega))

theorem mat2_eq (c : Dev nD) : mat2 (W2 m c) = argW2 m c := by
  funext k d
  have hk := k.isLt
  refine Eq.trans ?_ ((V_v4_hi m c ⟨k.val / 512, by omega⟩ ⟨k.val % 512, by omega⟩ d).trans ?_)
  · refine congrArg (V m c main_v4) (funext fun a => ?_)
    match a with
    | ⟨0, _⟩ => rfl
    | ⟨1, _⟩ => rfl
    | ⟨2, _⟩ => rfl
  · exact congrArg (fun i => argW2 m c i d) (Fin.ext (by show k.val / 512 * 512 + k.val % 512 = k.val; omega))

/-! ## The windows' blocks -/

theorem pt_fin (b : Fin 8) : (pt b.val).val = b.val := Nat.mod_eq_of_lt b.isLt

theorem iblk_0 (c : Dev nD) (b : Fin 8) (p : Fin 256) (d : Fin 1024) :
    iblk m c 0 (pt b.val) (ix2 (n0 := 256) (n1 := 1024) p d) = m ((c.tc : Thread nD τ).loc main_arg0) (ix2 (tok b p) d) := by
  rw [show m ((c.tc : Thread nD τ).loc main_arg0) (ix2 (tok b p) d) = V m c main_arg0 (ix2 (tok b p) d) from (congrFun (V_main_arg0 m c) _).symm]
  show V m c main_arg0 (((cfg0.win 0).blk (pt b.val)).view.emb (ix2 (n0 := 256) (n1 := 1024) p d)) = _
  refine congrArg _ (funext fun a => Fin.ext ?_)
  refine (Pipeline.Window.rect_emb_val (cfg0.win 0) (pt b.val) (ix2 (n0 := 256) (n1 := 1024) p d) a rfl).trans ?_
  rw [show (cfg0.win 0).index (pt b.val) = ![(pt b.val).val, 0] from (by decide +kernel : ∀ t : Fin grid0.N, win0_0.index t = ![t.val, 0]) (pt b.val)]
  match a with
  | ⟨0, _⟩ => show (pt b.val).val * 256 + p.val = b.val * 256 + p.val; rw [pt_fin]
  | ⟨1, _⟩ => show 0 * 1024 + d.val = d.val; omega
  | ⟨n + 2, hn⟩ => exact absurd (show n + 2 < 2 from hn) (by omega)

theorem iblk_1 (c : Dev nD) (b : Fin 8) (p : Fin 256) (d : Fin 1024) :
    iblk m c 1 (pt b.val) (ix2 (n0 := 256) (n1 := 1024) p d) = m ((c.tc : Thread nD τ).loc main_arg1) (ix2 (tok b p) d) := by
  rw [show m ((c.tc : Thread nD τ).loc main_arg1) (ix2 (tok b p) d) = V m c main_arg1 (ix2 (tok b p) d) from (congrFun (V_main_arg1 m c) _).symm]
  show V m c main_arg1 (((cfg0.win 1).blk (pt b.val)).view.emb (ix2 (n0 := 256) (n1 := 1024) p d)) = _
  refine congrArg _ (funext fun a => Fin.ext ?_)
  refine (Pipeline.Window.rect_emb_val (cfg0.win 1) (pt b.val) (ix2 (n0 := 256) (n1 := 1024) p d) a rfl).trans ?_
  rw [show (cfg0.win 1).index (pt b.val) = ![(pt b.val).val, 0] from (by decide +kernel : ∀ t : Fin grid0.N, win0_1.index t = ![t.val, 0]) (pt b.val)]
  match a with
  | ⟨0, _⟩ => show (pt b.val).val * 256 + p.val = b.val * 256 + p.val; rw [pt_fin]
  | ⟨1, _⟩ => show 0 * 1024 + d.val = d.val; omega
  | ⟨n + 2, hn⟩ => exact absurd (show n + 2 < 2 from hn) (by omega)

theorem iblk_2 (c : Dev nD) (b : Fin 8) (p : Fin 256) (d : Fin 1024) :
    iblk m c 2 (pt b.val) (ix2 (n0 := 256) (n1 := 1024) p d) = m ((c.tc : Thread nD τ).loc main_arg2) (ix2 (tok b p) d) := by
  rw [show m ((c.tc : Thread nD τ).loc main_arg2) (ix2 (tok b p) d) = V m c main_arg2 (ix2 (tok b p) d) from (congrFun (V_main_arg2 m c) _).symm]
  show V m c main_arg2 (((cfg0.win 2).blk (pt b.val)).view.emb (ix2 (n0 := 256) (n1 := 1024) p d)) = _
  refine congrArg _ (funext fun a => Fin.ext ?_)
  refine (Pipeline.Window.rect_emb_val (cfg0.win 2) (pt b.val) (ix2 (n0 := 256) (n1 := 1024) p d) a rfl).trans ?_
  rw [show (cfg0.win 2).index (pt b.val) = ![(pt b.val).val, 0] from (by decide +kernel : ∀ t : Fin grid0.N, win0_2.index t = ![t.val, 0]) (pt b.val)]
  match a with
  | ⟨0, _⟩ => show (pt b.val).val * 256 + p.val = b.val * 256 + p.val; rw [pt_fin]
  | ⟨1, _⟩ => show 0 * 1024 + d.val = d.val; omega
  | ⟨n + 2, hn⟩ => exact absurd (show n + 2 < 2 from hn) (by omega)

theorem iblk_3 (c : Dev nD) (t : Fin cfg0.N) (p : Fin 8) (d : Fin 1024) :
    iblk m c 3 t (ix2 (n0 := 8) (n1 := 1024) p d) = m ((c.tc : Thread nD τ).loc main_arg3) (ix2 p d) := by
  rw [show m ((c.tc : Thread nD τ).loc main_arg3) (ix2 p d) = V m c main_arg3 (ix2 p d) from (congrFun (V_main_arg3 m c) _).symm]
  show V m c main_arg3 (((cfg0.win 3).blk t).view.emb (ix2 (n0 := 8) (n1 := 1024) p d)) = _
  refine congrArg _ (funext fun a => Fin.ext ?_)
  refine (Pipeline.Window.rect_emb_val (cfg0.win 3) t (ix2 (n0 := 8) (n1 := 1024) p d) a rfl).trans ?_
  rw [show (cfg0.win 3).index t = ![0, 0] from (by decide +kernel : ∀ t : Fin grid0.N, win0_3.index t = ![0, 0]) t]
  match a with
  | ⟨0, _⟩ => show 0 * 8 + p.val = p.val; omega
  | ⟨1, _⟩ => show 0 * 1024 + d.val = d.val; omega
  | ⟨n + 2, hn⟩ => exact absurd (show n + 2 < 2 from hn) (by omega)

theorem iblk_4 (c : Dev nD) (t : Fin cfg0.N) (p : Fin 8) (d : Fin 1024) :
    iblk m c 4 t (ix2 (n0 := 8) (n1 := 1024) p d) = m ((c.tc : Thread nD τ).loc main_arg4) (ix2 p d) := by
  rw [show m ((c.tc : Thread nD τ).loc main_arg4) (ix2 p d) = V m c main_arg4 (ix2 p d) from (congrFun (V_main_arg4 m c) _).symm]
  show V m c main_arg4 (((cfg0.win 4).blk t).view.emb (ix2 (n0 := 8) (n1 := 1024) p d)) = _
  refine congrArg _ (funext fun a => Fin.ext ?_)
  refine (Pipeline.Window.rect_emb_val (cfg0.win 4) t (ix2 (n0 := 8) (n1 := 1024) p d) a rfl).trans ?_
  rw [show (cfg0.win 4).index t = ![0, 0] from (by decide +kernel : ∀ t : Fin grid0.N, win0_4.index t = ![0, 0]) t]
  match a with
  | ⟨0, _⟩ => show 0 * 8 + p.val = p.val; omega
  | ⟨1, _⟩ => show 0 * 1024 + d.val = d.val; omega
  | ⟨n + 2, hn⟩ => exact absurd (show n + 2 < 2 from hn) (by omega)

theorem iblk_5 (c : Dev nD) (t : Fin cfg0.N) (p : Fin 1) (d : Fin 1024) :
    iblk m c 5 t (ix2 (n0 := 1) (n1 := 1024) p d) = m ((c.tc : Thread nD τ).loc main_arg5) (ix2 p d) := by
  rw [show m ((c.tc : Thread nD τ).loc main_arg5) (ix2 p d) = V m c main_arg5 (ix2 p d) from (congrFun (V_main_arg5 m c) _).symm]
  show V m c main_arg5 (((cfg0.win 5).blk t).view.emb (ix2 (n0 := 1) (n1 := 1024) p d)) = _
  refine congrArg _ (funext fun a => Fin.ext ?_)
  refine (Pipeline.Window.rect_emb_val (cfg0.win 5) t (ix2 (n0 := 1) (n1 := 1024) p d) a rfl).trans ?_
  rw [show (cfg0.win 5).index t = ![0, 0] from (by decide +kernel : ∀ t : Fin grid0.N, win0_5.index t = ![0, 0]) t]
  match a with
  | ⟨0, _⟩ => show 0 * 1 + p.val = p.val; omega
  | ⟨1, _⟩ => show 0 * 1024 + d.val = d.val; omega
  | ⟨n + 2, hn⟩ => exact absurd (show n + 2 < 2 from hn) (by omega)

theorem iblk_6 (c : Dev nD) (t : Fin cfg0.N) (p : Fin 1) (d : Fin 1024) :
    iblk m c 6 t (ix2 (n0 := 1) (n1 := 1024) p d) = m ((c.tc : Thread nD τ).loc main_arg6) (ix2 p d) := by
  rw [show m ((c.tc : Thread nD τ).loc main_arg6) (ix2 p d) = V m c main_arg6 (ix2 p d) from (congrFun (V_main_arg6 m c) _).symm]
  show V m c main_arg6 (((cfg0.win 6).blk t).view.emb (ix2 (n0 := 1) (n1 := 1024) p d)) = _
  refine congrArg _ (funext fun a => Fin.ext ?_)
  refine (Pipeline.Window.rect_emb_val (cfg0.win 6) t (ix2 (n0 := 1) (n1 := 1024) p d) a rfl).trans ?_
  rw [show (cfg0.win 6).index t = ![0, 0] from (by decide +kernel : ∀ t : Fin grid0.N, win0_6.index t = ![0, 0]) t]
  match a with
  | ⟨0, _⟩ => show 0 * 1 + p.val = p.val; omega
  | ⟨1, _⟩ => show 0 * 1024 + d.val = d.val; omega
  | ⟨n + 2, hn⟩ => exact absurd (show n + 2 < 2 from hn) (by omega)

theorem rowv_0 (c : Dev nD) (b : Fin 8) (p : Fin 256) : rowv (iblk m c 0 (pt b.val)) p = argX m c (tok b p) := funext fun d => iblk_0 m c b p d
theorem rowv_1 (c : Dev nD) (b : Fin 8) (p : Fin 256) : rowv (iblk m c 1 (pt b.val)) p = argM m c (tok b p) := funext fun d => iblk_1 m c b p d
theorem rowv_2 (c : Dev nD) (b : Fin 8) (p : Fin 256) : rowv (iblk m c 2 (pt b.val)) p = argT m c (tok b p) := funext fun d => iblk_2 m c b p d

theorem modv_eq (c : Dev nD) (t : Fin cfg0.N) : modv (iblk m c 3 t) (iblk m c 4 t) = argMod m c :=
  funext fun k => funext fun d => congrArg₂ (fun u v : EReal => u + v) (iblk_3 m c t k d) (iblk_4 m c t k d)
theorem vecv_5 (c : Dev nD) (t : Fin cfg0.N) : vecv (iblk m c 5 t) = argG2 m c := funext fun d => iblk_5 m c t 0 d
theorem vecv_6 (c : Dev nD) (t : Fin cfg0.N) : vecv (iblk m c 6 t) = argGf m c := funext fun d => iblk_6 m c t 0 d

/-! ## The arrays of the windows flushed at every point -/

theorem disj_7 : ∀ t t' : Fin cfg0.N, (cfg0.win 7).flush t = true → (cfg0.win 7).flush t' = true → t ≠ t' →
    Disjoint ((cfg0.win 7).blk t).view.set ((cfg0.win 7).blk t').view.set :=
  Pipeline.Window.hdisj_of_index_inj _ fun t t' _ _ he => by
    have h : ∀ t : Fin cfg0.N, (cfg0.win 7).index t = ![0, t.val] := (by decide +kernel : ∀ t : Fin grid0.N, win0_7.index t = ![0, t.val])
    have e := congrFun he (1 : Fin 2)
    rw [h, h] at e
    exact Fin.ext e

theorem arr_7 (c : Dev nD) (b : Fin 8) (p : Fin 256) (d : Fin 1024) :
    (dats m 0 c).arrAt 7 cfg0.N (ix2 (n0 := 1024) (n1 := 2048) d (tok b p)) = FwdSpec.h2 (argX m c (tok b p)) (argM m c (tok b p)) (argMod m c) (argG2 m c) d := by
  have hf : (cfg0.win 7).flush (pt b.val) = true := flush0_7 _
  have hy : ((cfg0.win 7).blk (pt b.val)).view.emb (ix2 (n0 := 1024) (n1 := 256) d p) = (ix2 (n0 := 1024) (n1 := 2048) d (tok b p)) := by
    funext a
    apply Fin.ext
    refine (Pipeline.Window.rect_emb_val (cfg0.win 7) (pt b.val) (ix2 (n0 := 1024) (n1 := 256) d p) a rfl).trans ?_
    rw [show (cfg0.win 7).index (pt b.val) = ![0, (pt b.val).val] from (by decide +kernel : ∀ t : Fin grid0.N, win0_7.index t = ![0, t.val]) (pt b.val)]
    match a with
    | ⟨0, _⟩ => show 0 * 1024 + d.val = d.val; omega
    | ⟨1, _⟩ => show (pt b.val).val * 256 + p.val = b.val * 256 + p.val; rw [pt_fin]
    | ⟨n + 2, hn⟩ => exact absurd (show n + 2 < 2 from hn) (by omega)
  have h := (dats m 0 c).arrAt_emb_eq_flushed 7 disj_7 (pt b.val) hf (ix2 (n0 := 1024) (n1 := 256) d p)
  rw [hy] at h
  refine h.trans ?_
  show (dats m 0 c).after 7 (pt b.val) (ix2 (n0 := 1024) (n1 := 256) d p) = _
  rw [after_7]
  refine (pay10_apply (iblk m c 0 (pt b.val)) (iblk m c 1 (pt b.val)) (iblk m c 3 (pt b.val)) (iblk m c 4 (pt b.val)) (iblk m c 5 (pt b.val)) d p).trans ?_
  simp only [rowv_0, rowv_1, rowv_2, modv_eq, vecv_5, vecv_6, mat1_eq, mat2_eq]

theorem disj_8 : ∀ t t' : Fin cfg0.N, (cfg0.win 8).flush t = true → (cfg0.win 8).flush t' = true → t ≠ t' →
    Disjoint ((cfg0.win 8).blk t).view.set ((cfg0.win 8).blk t').view.set :=
  Pipeline.Window.hdisj_of_index_inj _ fun t t' _ _ he => by
    have h : ∀ t : Fin cfg0.N, (cfg0.win 8).index t = ![t.val, 0] := (by decide +kernel : ∀ t : Fin grid0.N, win0_8.index t = ![t.val, 0])
    have e := congrFun he (0 : Fin 2)
    rw [h, h] at e
    exact Fin.ext e

theorem arr_8 (c : Dev nD) (b : Fin 8) (p : Fin 256) (d : Fin 4096) :
    (dats m 0 c).arrAt 8 cfg0.N (ix2 (n0 := 2048) (n1 := 4096) (tok b p) d) = FwdSpec.f (argX m c (tok b p)) (argM m c (tok b p)) (argMod m c) (argG2 m c) (argW1 m c) d := by
  have hf : (cfg0.win 8).flush (pt b.val) = true := flush0_8 _
  have hy : ((cfg0.win 8).blk (pt b.val)).view.emb (ix2 (n0 := 256) (n1 := 4096) p d) = (ix2 (n0 := 2048) (n1 := 4096) (tok b p) d) := by
    funext a
    apply Fin.ext
    refine (Pipeline.Window.rect_emb_val (cfg0.win 8) (pt b.val) (ix2 (n0 := 256) (n1 := 4096) p d) a rfl).trans ?_
    rw [show (cfg0.win 8).index (pt b.val) = ![(pt b.val).val, 0] from (by decide +kernel : ∀ t : Fin grid0.N, win0_8.index t = ![t.val, 0]) (pt b.val)]
    match a with
    | ⟨0, _⟩ => show (pt b.val).val * 256 + p.val = b.val * 256 + p.val; rw [pt_fin]
    | ⟨1, _⟩ => show 0 * 4096 + d.val = d.val; omega
    | ⟨n + 2, hn⟩ => exact absurd (show n + 2 < 2 from hn) (by omega)
  have h := (dats m 0 c).arrAt_emb_eq_flushed 8 disj_8 (pt b.val) hf (ix2 (n0 := 256) (n1 := 4096) p d)
  rw [hy] at h
  refine h.trans ?_
  show (dats m 0 c).after 8 (pt b.val) (ix2 (n0 := 256) (n1 := 4096) p d) = _
  rw [after_8]
  refine (fOf_eq (iblk m c 0 (pt b.val)) (iblk m c 1 (pt b.val)) (iblk m c 3 (pt b.val)) (iblk m c 4 (pt b.val)) (iblk m c 5 (pt b.val)) (W1 m c) p d).trans ?_
  simp only [rowv_0, rowv_1, rowv_2, modv_eq, vecv_5, vecv_6, mat1_eq, mat2_eq]

theorem disj_9 : ∀ t t' : Fin cfg0.N, (cfg0.win 9).flush t = true → (cfg0.win 9).flush t' = true → t ≠ t' →
    Disjoint ((cfg0.win 9).blk t).view.set ((cfg0.win 9).blk t').view.set :=
  Pipeline.Window.hdisj_of_index_inj _ fun t t' _ _ he => by
    have h : ∀ t : Fin cfg0.N, (cfg0.win 9).index t = ![t.val, 0] := (by decide +kernel : ∀ t : Fin grid0.N, win0_9.index t = ![t.val, 0])
    have e := congrFun he (0 : Fin 2)
    rw [h, h] at e
    exact Fin.ext e

theorem arr_9 (c : Dev nD) (b : Fin 8) (p : Fin 256) (d : Fin 1024) :
    (dats m 0 c).arrAt 9 cfg0.N (ix2 (n0 := 2048) (n1 := 1024) (tok b p) d) = FwdSpec.dx (argX m c (tok b p)) (argM m c (tok b p)) (argT m c (tok b p)) (argMod m c) (argG2 m c) (argGf m c) (argW1 m c) (argW2 m c) d := by
  have hf : (cfg0.win 9).flush (pt b.val) = true := flush0_9 _
  have hy : ((cfg0.win 9).blk (pt b.val)).view.emb (ix2 (n0 := 256) (n1 := 1024) p d) = (ix2 (n0 := 2048) (n1 := 1024) (tok b p) d) := by
    funext a
    apply Fin.ext
    refine (Pipeline.Window.rect_emb_val (cfg0.win 9) (pt b.val) (ix2 (n0 := 256) (n1 := 1024) p d) a rfl).trans ?_
    rw [show (cfg0.win 9).index (pt b.val) = ![(pt b.val).val, 0] from (by decide +kernel : ∀ t : Fin grid0.N, win0_9.index t = ![t.val, 0]) (pt b.val)]
    match a with
    | ⟨0, _⟩ => show (pt b.val).val * 256 + p.val = b.val * 256 + p.val; rw [pt_fin]
    | ⟨1, _⟩ => show 0 * 1024 + d.val = d.val; omega
    | ⟨n + 2, hn⟩ => exact absurd (show n + 2 < 2 from hn) (by omega)
  have h := (dats m 0 c).arrAt_emb_eq_flushed 9 disj_9 (pt b.val) hf (ix2 (n0 := 256) (n1 := 1024) p d)
  rw [hy] at h
  refine h.trans ?_
  show (dats m 0 c).after 9 (pt b.val) (ix2 (n0 := 256) (n1 := 1024) p d) = _
  rw [after_9]
  refine (dxOf_eq (iblk m c 0 (pt b.val)) (iblk m c 1 (pt b.val)) (iblk m c 3 (pt b.val)) (iblk m c 4 (pt b.val)) (iblk m c 5 (pt b.val)) (iblk m c 2 (pt b.val)) (iblk m c 6 (pt b.val)) (W1 m c) (W2 m c) p d).trans ?_
  simp only [rowv_0, rowv_1, rowv_2, modv_eq, vecv_5, vecv_6, mat1_eq, mat2_eq]

theorem disj_10 : ∀ t t' : Fin cfg0.N, (cfg0.win 10).flush t = true → (cfg0.win 10).flush t' = true → t ≠ t' →
    Disjoint ((cfg0.win 10).blk t).view.set ((cfg0.win 10).blk t').view.set :=
  Pipeline.Window.hdisj_of_index_inj _ fun t t' _ _ he => by
    have h : ∀ t : Fin cfg0.N, (cfg0.win 10).index t = ![t.val, 0] := (by decide +kernel : ∀ t : Fin grid0.N, win0_10.index t = ![t.val, 0])
    have e := congrFun he (0 : Fin 2)
    rw [h, h] at e
    exact Fin.ext e

theorem arr_10 (c : Dev nD) (b : Fin 8) (p : Fin 256) (d : Fin 1024) :
    (dats m 0 c).arrAt 10 cfg0.N (ix2 (n0 := 2048) (n1 := 1024) (tok b p) d) = FwdSpec.dz (argX m c (tok b p)) (argM m c (tok b p)) (argT m c (tok b p)) (argMod m c) (argG2 m c) (argGf m c) (argW1 m c) (argW2 m c) d := by
  have hf : (cfg0.win 10).flush (pt b.val) = true := flush0_10 _
  have hy : ((cfg0.win 10).blk (pt b.val)).view.emb (ix2 (n0 := 256) (n1 := 1024) p d) = (ix2 (n0 := 2048) (n1 := 1024) (tok b p) d) := by
    funext a
    apply Fin.ext
    refine (Pipeline.Window.rect_emb_val (cfg0.win 10) (pt b.val) (ix2 (n0 := 256) (n1 := 1024) p d) a rfl).trans ?_
    rw [show (cfg0.win 10).index (pt b.val) = ![(pt b.val).val, 0] from (by decide +kernel : ∀ t : Fin grid0.N, win0_10.index t = ![t.val, 0]) (pt b.val)]
    match a with
    | ⟨0, _⟩ => show (pt b.val).val * 256 + p.val = b.val * 256 + p.val; rw [pt_fin]
    | ⟨1, _⟩ => show 0 * 1024 + d.val = d.val; omega
    | ⟨n + 2, hn⟩ => exact absurd (show n + 2 < 2 from hn) (by omega)
  have h := (dats m 0 c).arrAt_emb_eq_flushed 10 disj_10 (pt b.val) hf (ix2 (n0 := 256) (n1 := 1024) p d)
  rw [hy] at h
  refine h.trans ?_
  show (dats m 0 c).after 10 (pt b.val) (ix2 (n0 := 256) (n1 := 1024) p d) = _
  rw [after_10]
  refine (dzOf_eq (iblk m c 0 (pt b.val)) (iblk m c 1 (pt b.val)) (iblk m c 3 (pt b.val)) (iblk m c 4 (pt b.val)) (iblk m c 5 (pt b.val)) (iblk m c 2 (pt b.val)) (iblk m c 6 (pt b.val)) (W1 m c) (W2 m c) p d).trans ?_
  simp only [rowv_0, rowv_1, rowv_2, modv_eq, vecv_5, vecv_6, mat1_eq, mat2_eq]

/-! ## The accumulating windows -/

/-- One block's part of row 0 of the sums. -/
abbrev part0 (c : Dev nD) (d : Fin 1024) (b : Fin 8) : EReal := ∑ p : Fin 256, FwdSpec.dx (argX m c (tok b p)) (argM m c (tok b p)) (argT m c (tok b p)) (argMod m c) (argG2 m c) (argGf m c) (argW1 m c) (argW2 m c) d * FwdSpec.z (argX m c (tok b p)) (argM m c (tok b p)) (argMod m c) (argG2 m c) (argW1 m c) (argW2 m c) d

theorem vec_zero_step (c : Dev nD) (n : ℕ) (hn : n < 8) (d : Fin 1024) (y : Vec Ideal S8x1024 .f32) :
    vecOf (iblk m c 0 (pt n)) (iblk m c 1 (pt n)) (iblk m c 3 (pt n)) (iblk m c 4 (pt n)) (iblk m c 5 (pt n)) (iblk m c 2 (pt n)) (iblk m c 6 (pt n)) (W1 m c) (W2 m c) y (ix2 (0 : Fin 8) d) = y (ix2 (0 : Fin 8) d) + part0 m c d ⟨n, hn⟩ := by
  refine (vecOf_zero (iblk m c 0 (pt n)) (iblk m c 1 (pt n)) (iblk m c 3 (pt n)) (iblk m c 4 (pt n)) (iblk m c 5 (pt n)) (iblk m c 2 (pt n)) (iblk m c 6 (pt n)) (W1 m c) (W2 m c) y d).trans (congrArg (y (ix2 (0 : Fin 8) d) + ·) (Finset.sum_congr rfl fun p _ => ?_))
  have e0 := rowv_0 m c ⟨n, hn⟩ p
  have e1 := rowv_1 m c ⟨n, hn⟩ p
  have e2 := rowv_2 m c ⟨n, hn⟩ p
  simp only at e0 e1 e2
  simp only [e0, e1, e2, modv_eq, vecv_5, vecv_6, mat1_eq, mat2_eq]

theorem acc11_zero (c : Dev nD) (d : Fin 1024) : acc11 m c 7 (ix2 (0 : Fin 8) d) = ∑ b : Fin 8, part0 m c d b := by
  rw [Fin.sum_univ_eight]
  show vecOf (iblk m c 0 (pt 7)) (iblk m c 1 (pt 7)) (iblk m c 3 (pt 7)) (iblk m c 4 (pt 7)) (iblk m c 5 (pt 7)) (iblk m c 2 (pt 7)) (iblk m c 6 (pt 7)) (W1 m c) (W2 m c) (acc11 m c 6) (ix2 (0 : Fin 8) d) = _
  rw [vec_zero_step m c 7 (by omega)]
  rw [show acc11 m c 6 (ix2 (0 : Fin 8) d) = acc11 m c 5 (ix2 (0 : Fin 8) d) + part0 m c d ⟨6, by omega⟩ from vec_zero_step m c 6 (by omega) d _]
  rw [show acc11 m c 5 (ix2 (0 : Fin 8) d) = acc11 m c 4 (ix2 (0 : Fin 8) d) + part0 m c d ⟨5, by omega⟩ from vec_zero_step m c 5 (by omega) d _]
  rw [show acc11 m c 4 (ix2 (0 : Fin 8) d) = acc11 m c 3 (ix2 (0 : Fin 8) d) + part0 m c d ⟨4, by omega⟩ from vec_zero_step m c 4 (by omega) d _]
  rw [show acc11 m c 3 (ix2 (0 : Fin 8) d) = acc11 m c 2 (ix2 (0 : Fin 8) d) + part0 m c d ⟨3, by omega⟩ from vec_zero_step m c 3 (by omega) d _]
  rw [show acc11 m c 2 (ix2 (0 : Fin 8) d) = acc11 m c 1 (ix2 (0 : Fin 8) d) + part0 m c d ⟨2, by omega⟩ from vec_zero_step m c 2 (by omega) d _]
  rw [show acc11 m c 1 (ix2 (0 : Fin 8) d) = acc11 m c 0 (ix2 (0 : Fin 8) d) + part0 m c d ⟨1, by omega⟩ from vec_zero_step m c 1 (by omega) d _]
  rw [show acc11 m c 0 (ix2 (0 : Fin 8) d) = Ideal.ofBits .f32 0x00000000#32 + part0 m c d ⟨0, by omega⟩ from vec_zero_step m c 0 (by omega) d _,
    Ideal.ofBits_zero_f32, zero_add]
  rfl

/-- One block's part of row 1 of the sums. -/
abbrev part1 (c : Dev nD) (d : Fin 1024) (b : Fin 8) : EReal := ∑ p : Fin 256, FwdSpec.dy (argX m c (tok b p)) (argM m c (tok b p)) (argT m c (tok b p)) (argMod m c) (argG2 m c) (argGf m c) (argW1 m c) (argW2 m c) d * FwdSpec.xn (argX m c (tok b p)) (argM m c (tok b p)) (argMod m c) (argG2 m c) (argW1 m c) (argW2 m c) d

theorem vec_one_step (c : Dev nD) (n : ℕ) (hn : n < 8) (d : Fin 1024) (y : Vec Ideal S8x1024 .f32) :
    vecOf (iblk m c 0 (pt n)) (iblk m c 1 (pt n)) (iblk m c 3 (pt n)) (iblk m c 4 (pt n)) (iblk m c 5 (pt n)) (iblk m c 2 (pt n)) (iblk m c 6 (pt n)) (W1 m c) (W2 m c) y (ix2 (1 : Fin 8) d) = y (ix2 (1 : Fin 8) d) + part1 m c d ⟨n, hn⟩ := by
  refine (vecOf_one (iblk m c 0 (pt n)) (iblk m c 1 (pt n)) (iblk m c 3 (pt n)) (iblk m c 4 (pt n)) (iblk m c 5 (pt n)) (iblk m c 2 (pt n)) (iblk m c 6 (pt n)) (W1 m c) (W2 m c) y d).trans (congrArg (y (ix2 (1 : Fin 8) d) + ·) (Finset.sum_congr rfl fun p _ => ?_))
  have e0 := rowv_0 m c ⟨n, hn⟩ p
  have e1 := rowv_1 m c ⟨n, hn⟩ p
  have e2 := rowv_2 m c ⟨n, hn⟩ p
  simp only at e0 e1 e2
  simp only [e0, e1, e2, modv_eq, vecv_5, vecv_6, mat1_eq, mat2_eq]

theorem acc11_one (c : Dev nD) (d : Fin 1024) : acc11 m c 7 (ix2 (1 : Fin 8) d) = ∑ b : Fin 8, part1 m c d b := by
  rw [Fin.sum_univ_eight]
  show vecOf (iblk m c 0 (pt 7)) (iblk m c 1 (pt 7)) (iblk m c 3 (pt 7)) (iblk m c 4 (pt 7)) (iblk m c 5 (pt 7)) (iblk m c 2 (pt 7)) (iblk m c 6 (pt 7)) (W1 m c) (W2 m c) (acc11 m c 6) (ix2 (1 : Fin 8) d) = _
  rw [vec_one_step m c 7 (by omega)]
  rw [show acc11 m c 6 (ix2 (1 : Fin 8) d) = acc11 m c 5 (ix2 (1 : Fin 8) d) + part1 m c d ⟨6, by omega⟩ from vec_one_step m c 6 (by omega) d _]
  rw [show acc11 m c 5 (ix2 (1 : Fin 8) d) = acc11 m c 4 (ix2 (1 : Fin 8) d) + part1 m c d ⟨5, by omega⟩ from vec_one_step m c 5 (by omega) d _]
  rw [show acc11 m c 4 (ix2 (1 : Fin 8) d) = acc11 m c 3 (ix2 (1 : Fin 8) d) + part1 m c d ⟨4, by omega⟩ from vec_one_step m c 4 (by omega) d _]
  rw [show acc11 m c 3 (ix2 (1 : Fin 8) d) = acc11 m c 2 (ix2 (1 : Fin 8) d) + part1 m c d ⟨3, by omega⟩ from vec_one_step m c 3 (by omega) d _]
  rw [show acc11 m c 2 (ix2 (1 : Fin 8) d) = acc11 m c 1 (ix2 (1 : Fin 8) d) + part1 m c d ⟨2, by omega⟩ from vec_one_step m c 2 (by omega) d _]
  rw [show acc11 m c 1 (ix2 (1 : Fin 8) d) = acc11 m c 0 (ix2 (1 : Fin 8) d) + part1 m c d ⟨1, by omega⟩ from vec_one_step m c 1 (by omega) d _]
  rw [show acc11 m c 0 (ix2 (1 : Fin 8) d) = Ideal.ofBits .f32 0x00000000#32 + part1 m c d ⟨0, by omega⟩ from vec_one_step m c 0 (by omega) d _,
    Ideal.ofBits_zero_f32, zero_add]
  rfl

theorem acc11_rest (c : Dev nD) (k : Fin 8) (hk : 2 ≤ k.val) (d : Fin 1024) (n : ℕ) : acc11 m c n (ix2 k d) = 0 := by
  induction n with
  | zero => exact (vecOf_rest (iblk m c 0 (pt 0)) (iblk m c 1 (pt 0)) (iblk m c 3 (pt 0)) (iblk m c 4 (pt 0)) (iblk m c 5 (pt 0)) (iblk m c 2 (pt 0)) (iblk m c 6 (pt 0)) (W1 m c) (W2 m c) _ k hk d).trans Ideal.ofBits_zero_f32
  | succ n ih => exact (vecOf_rest (iblk m c 0 (pt (n + 1))) (iblk m c 1 (pt (n + 1))) (iblk m c 3 (pt (n + 1))) (iblk m c 4 (pt (n + 1))) (iblk m c 5 (pt (n + 1))) (iblk m c 2 (pt (n + 1))) (iblk m c 6 (pt (n + 1))) (W1 m c) (W2 m c) _ k hk d).trans ih

/-- One block's part of the loss. -/
abbrev partL (c : Dev nD) (b : Fin 8) : EReal := (∑ d : Fin 1024, ∑ p : Fin 256, FwdSpec.diff (argX m c (tok b p)) (argM m c (tok b p)) (argT m c (tok b p)) (argMod m c) (argG2 m c) (argGf m c) (argW1 m c) (argW2 m c) d * FwdSpec.diff (argX m c (tok b p)) (argM m c (tok b p)) (argT m c (tok b p)) (argMod m c) (argG2 m c) (argGf m c) (argW1 m c) (argW2 m c) d) * k2

theorem loss_step (c : Dev nD) (n : ℕ) (hn : n < 8) (i : Fin 8) (k : Fin 128) (y : Vec Ideal S8x128 .f32) :
    lossOf (iblk m c 0 (pt n)) (iblk m c 1 (pt n)) (iblk m c 3 (pt n)) (iblk m c 4 (pt n)) (iblk m c 5 (pt n)) (iblk m c 2 (pt n)) (iblk m c 6 (pt n)) (W1 m c) (W2 m c) y (ix2 i k) = y (ix2 i k) + partL m c ⟨n, hn⟩ := by
  refine (lossOf_eq (iblk m c 0 (pt n)) (iblk m c 1 (pt n)) (iblk m c 3 (pt n)) (iblk m c 4 (pt n)) (iblk m c 5 (pt n)) (iblk m c 2 (pt n)) (iblk m c 6 (pt n)) (W1 m c) (W2 m c) y i k).trans (congrArg (fun u : EReal => y (ix2 i k) + u * k2) (Finset.sum_congr rfl fun d _ => Finset.sum_congr rfl fun p _ => ?_))
  have e0 := rowv_0 m c ⟨n, hn⟩ p
  have e1 := rowv_1 m c ⟨n, hn⟩ p
  have e2 := rowv_2 m c ⟨n, hn⟩ p
  simp only at e0 e1 e2
  simp only [e0, e1, e2, modv_eq, vecv_5, vecv_6, mat1_eq, mat2_eq]

theorem acc12_eq (c : Dev nD) (i : Fin 8) (k : Fin 128) : acc12 m c 7 (ix2 i k) = ∑ b : Fin 8, partL m c b := by
  rw [Fin.sum_univ_eight]
  show lossOf (iblk m c 0 (pt 7)) (iblk m c 1 (pt 7)) (iblk m c 3 (pt 7)) (iblk m c 4 (pt 7)) (iblk m c 5 (pt 7)) (iblk m c 2 (pt 7)) (iblk m c 6 (pt 7)) (W1 m c) (W2 m c) (acc12 m c 6) (ix2 i k) = _
  rw [loss_step m c 7 (by omega)]
  rw [show acc12 m c 6 (ix2 i k) = acc12 m c 5 (ix2 i k) + partL m c ⟨6, by omega⟩ from loss_step m c 6 (by omega) i k _]
  rw [show acc12 m c 5 (ix2 i k) = acc12 m c 4 (ix2 i k) + partL m c ⟨5, by omega⟩ from loss_step m c 5 (by omega) i k _]
  rw [show acc12 m c 4 (ix2 i k) = acc12 m c 3 (ix2 i k) + partL m c ⟨4, by omega⟩ from loss_step m c 4 (by omega) i k _]
  rw [show acc12 m c 3 (ix2 i k) = acc12 m c 2 (ix2 i k) + partL m c ⟨3, by omega⟩ from loss_step m c 3 (by omega) i k _]
  rw [show acc12 m c 2 (ix2 i k) = acc12 m c 1 (ix2 i k) + partL m c ⟨2, by omega⟩ from loss_step m c 2 (by omega) i k _]
  rw [show acc12 m c 1 (ix2 i k) = acc12 m c 0 (ix2 i k) + partL m c ⟨1, by omega⟩ from loss_step m c 1 (by omega) i k _]
  rw [show acc12 m c 0 (ix2 i k) = Ideal.ofBits .f32 0x00000000#32 + partL m c ⟨0, by omega⟩ from loss_step m c 0 (by omega) i k _,
    Ideal.ofBits_zero_f32, zero_add]
  rfl

theorem whole_11 : (cfg0.win 11).WholeAt (pt 7) := by
  refine ⟨(flush0_11 _).mpr rfl, fun t h => ?_, fun a => ?_⟩
  · have := (flush0_11 t).mp h
    have hN : t.val < 8 := lt_of_lt_of_eq t.isLt N_eq
    exact Fin.ext (by show t.val = 7; omega)
  · match a with
    | ⟨0, _⟩ => exact ⟨rfl, rfl⟩
    | ⟨1, _⟩ => exact ⟨rfl, rfl⟩
    | ⟨n + 2, hn⟩ => exact absurd (show n + 2 < 2 from hn) (by omega)

theorem arr_11 (c : Dev nD) (i : Fin 8) (d : Fin 1024) : (dats m 0 c).arrAt 11 cfg0.N (ix2 (n0 := 8) (n1 := 1024) i d) = acc11 m c 7 (ix2 i d) := by
  refine ((dats m 0 c).arrAt_emb_eq_after_last 11 (pt 7) whole_11 (ix2 (n0 := 8) (n1 := 1024) i d)).trans ?_
  show (dats m 0 c).after 11 (pt 7) _ = _
  rw [after_11]
  refine congrArg (acc11 m c 7) (funext fun a => ?_)
  match a with
  | ⟨0, _⟩ => rfl
  | ⟨1, _⟩ => rfl
  | ⟨n + 2, hn⟩ => exact absurd (show n + 2 < 2 from hn) (by omega)

theorem whole_12 : (cfg0.win 12).WholeAt (pt 7) := by
  refine ⟨(flush0_12 _).mpr rfl, fun t h => ?_, fun a => ?_⟩
  · have := (flush0_12 t).mp h
    have hN : t.val < 8 := lt_of_lt_of_eq t.isLt N_eq
    exact Fin.ext (by show t.val = 7; omega)
  · match a with
    | ⟨0, _⟩ => exact ⟨rfl, rfl⟩
    | ⟨1, _⟩ => exact ⟨rfl, rfl⟩
    | ⟨n + 2, hn⟩ => exact absurd (show n + 2 < 2 from hn) (by omega)

theorem arr_12 (c : Dev nD) (i : Fin 8) (d : Fin 128) : (dats m 0 c).arrAt 12 cfg0.N (ix2 (n0 := 8) (n1 := 128) i d) = acc12 m c 7 (ix2 i d) := by
  refine ((dats m 0 c).arrAt_emb_eq_after_last 12 (pt 7) whole_12 (ix2 (n0 := 8) (n1 := 128) i d)).trans ?_
  show (dats m 0 c).after 12 (pt 7) _ = _
  rw [after_12]
  refine congrArg (acc12 m c 7) (funext fun a => ?_)
  match a with
  | ⟨0, _⟩ => rfl
  | ⟨1, _⟩ => rfl
  | ⟨n + 2, hn⟩ => exact absurd (show n + 2 < 2 from hn) (by omega)

end Cert.Kernel6Ideal.Fwd
-- ==== Proof.FwdRef.lean ====
/-
  The forward MLP: the reference's results are the row functions of FwdSpec.
-/
module

public import proofs.«01_k».proof.Proof.FwdSpec
public import proofs.«01_k».proof.Proof.Gen.Reference6Ideal.Read

@[expose] public section

set_option maxRecDepth 16384

noncomputable section

namespace Cert.Reference6Ideal.Fwd

open Cert.Reference6Ideal Cert.Reference6Ideal.Gen Cert.Reference6Ideal.Read
open Idealize.ShloMosaic
open Cert.FwdSpec (wid eps one two half nhalf)

variable (x0 x1 x2 : (⟨S2048x1024, .f32⟩ : BufTy).Contents (Elt Ideal)) (x3 x4 : (⟨S8x1024, .f32⟩ : BufTy).Contents (Elt Ideal))
  (x5 x6 : (⟨S1x1024, .f32⟩ : BufTy).Contents (Elt Ideal)) (x7 : (⟨S1024x4096, .f32⟩ : BufTy).Contents (Elt Ideal))
  (x8 : (⟨S4096x1024, .f32⟩ : BufTy).Contents (Elt Ideal))

/-- A token's row, the modulation's rows, a single row, and the two matrices. -/
abbrev tokv (x : (⟨S2048x1024, .f32⟩ : BufTy).Contents (Elt Ideal)) (r : Fin 2048) : Fin 1024 → EReal := fun d => x (ix2 r d)
abbrev modv (x3 x4 : (⟨S8x1024, .f32⟩ : BufTy).Contents (Elt Ideal)) : Fin 8 → Fin 1024 → EReal := fun k d => x3 (ix2 k d) + x4 (ix2 k d)
abbrev vecv (x : (⟨S1x1024, .f32⟩ : BufTy).Contents (Elt Ideal)) : Fin 1024 → EReal := fun d => x (ix2 (0 : Fin 1) d)
abbrev mat1 (x : (⟨S1024x4096, .f32⟩ : BufTy).Contents (Elt Ideal)) : Fin 1024 → Fin 4096 → EReal := fun d c => x (ix2 d c)
abbrev mat2 (x : (⟨S4096x1024, .f32⟩ : BufTy).Contents (Elt Ideal)) : Fin 4096 → Fin 1024 → EReal := fun c d => x (ix2 c d)

theorem v8_apply (r : Fin 2048) (d : Fin 1024) : val_main_v8 (F := Ideal) x0 x1 x3 x4 (ix2 r d) = FwdSpec.x1 (tokv x0 r) (tokv x1 r) (modv x3 x4) d := by
  unfold val_main_v8 val_main_v7 val_main_v6 val_main_v2 val_main_v1 val_main_v0 FwdSpec.x1
  pointwise

theorem v16_apply (r : Fin 2048) : val_main_v16 (F := Ideal) x0 x1 x3 x4 (ix2 r (0 : Fin 1)) = FwdSpec.inv (FwdSpec.x1 (tokv x0 r) (tokv x1 r) (modv x3 x4)) := by
  have e : ∀ d, val_main_v8 (F := Ideal) x0 x1 x3 x4 (ix2 r d) = FwdSpec.x1 (tokv x0 r) (tokv x1 r) (modv x3 x4) d := fun d => v8_apply x0 x1 x3 x4 r d
  unfold FwdSpec.inv
  simp only [← e]
  unfold val_main_v16 val_main_v15 val_main_v14 val_main_cst_1 val_main_v13 val_main_v12 val_main_cst_0 val_main_v11 val_main_v10 val_main_cst val_main_v9
  generalize val_main_v8 (F := Ideal) x0 x1 x3 x4 = g
  pointwise

theorem v26_apply (r : Fin 2048) (d : Fin 1024) : val_main_v26 (F := Ideal) x0 x1 x3 x4 x5 (ix2 r d) = FwdSpec.h2 (tokv x0 r) (tokv x1 r) (modv x3 x4) (vecv x5) d := by
  unfold FwdSpec.h2
  rw [← v16_apply, ← v8_apply]
  unfold val_main_v26 val_main_v25 val_main_v3 val_main_v24 val_main_v23 val_main_v22 val_main_v21 val_main_cst_2 val_main_v4 val_main_v1 val_main_v0 val_main_v20 val_main_v19 val_main_v18 val_main_v17
  generalize val_main_v16 (F := Ideal) x0 x1 x3 x4 = g
  generalize val_main_v8 (F := Ideal) x0 x1 x3 x4 = g'
  pointwise

theorem v91_apply (d : Fin 1024) (r : Fin 2048) : val_main_v91 (F := Ideal) x0 x1 x3 x4 x5 (ix2 d r) = FwdSpec.h2 (tokv x0 r) (tokv x1 r) (modv x3 x4) (vecv x5) d := by
  rw [← v26_apply]
  unfold val_main_v91 val_main_v90
  generalize val_main_v26 (F := Ideal) x0 x1 x3 x4 x5 = g
  pointwise

theorem v27_apply (r : Fin 2048) (c : Fin 4096) : val_main_v27 (F := Ideal) x0 x1 x3 x4 x5 x7 (ix2 r c) = FwdSpec.f (tokv x0 r) (tokv x1 r) (modv x3 x4) (vecv x5) (mat1 x7) c := by
  unfold FwdSpec.f
  have e : ∀ d, val_main_v26 (F := Ideal) x0 x1 x3 x4 x5 (ix2 r d) = FwdSpec.h2 (tokv x0 r) (tokv x1 r) (modv x3 x4) (vecv x5) d := fun d => v26_apply x0 x1 x3 x4 x5 r d
  simp only [← e]
  unfold val_main_v27
  generalize val_main_v26 (F := Ideal) x0 x1 x3 x4 x5 = g
  pointwise

theorem v30_apply (r : Fin 2048) (d : Fin 1024) : val_main_v30 (F := Ideal) x0 x1 x3 x4 x5 x7 x8 (ix2 r d) = FwdSpec.z (tokv x0 r) (tokv x1 r) (modv x3 x4) (vecv x5) (mat1 x7) (mat2 x8) d := by
  unfold FwdSpec.z
  have e : ∀ c, val_main_v27 (F := Ideal) x0 x1 x3 x4 x5 x7 (ix2 r c) = FwdSpec.f (tokv x0 r) (tokv x1 r) (modv x3 x4) (vecv x5) (mat1 x7) c := fun c => v27_apply x0 x1 x3 x4 x5 x7 r c
  simp only [← e]
  unfold val_main_v30 val_main_v29 val_main_v28 val_main_call0_v0 val_main_call0_cst
  generalize val_main_v27 (F := Ideal) x0 x1 x3 x4 x5 x7 = g
  pointwise

theorem v33_apply (r : Fin 2048) (d : Fin 1024) : val_main_v33 (F := Ideal) x0 x1 x3 x4 x5 x7 x8 (ix2 r d) = FwdSpec.x2 (tokv x0 r) (tokv x1 r) (modv x3 x4) (vecv x5) (mat1 x7) (mat2 x8) d := by
  unfold FwdSpec.x2
  rw [← v30_apply, ← v8_apply]
  unfold val_main_v33 val_main_v32 val_main_v31 val_main_v5 val_main_v1 val_main_v0
  generalize val_main_v30 (F := Ideal) x0 x1 x3 x4 x5 x7 x8 = g
  generalize val_main_v8 (F := Ideal) x0 x1 x3 x4 = g'
  pointwise

/-- The last norm's mean of squares, with its epsilon. -/
abbrev mean2 (r : Fin 2048) : EReal :=
  Ideal.div (∑ d, FwdSpec.x2 (tokv x0 r) (tokv x1 r) (modv x3 x4) (vecv x5) (mat1 x7) (mat2 x8) d * FwdSpec.x2 (tokv x0 r) (tokv x1 r) (modv x3 x4) (vecv x5) (mat1 x7) (mat2 x8) d) wid + eps

theorem v40_apply (r : Fin 2048) : val_main_v40 (F := Ideal) x0 x1 x3 x4 x5 x7 x8 (ix2 r (0 : Fin 1)) = mean2 x0 x1 x3 x4 x5 x7 x8 r := by
  have e : ∀ d, val_main_v33 (F := Ideal) x0 x1 x3 x4 x5 x7 x8 (ix2 r d) = FwdSpec.x2 (tokv x0 r) (tokv x1 r) (modv x3 x4) (vecv x5) (mat1 x7) (mat2 x8) d := fun d => v33_apply x0 x1 x3 x4 x5 x7 x8 r d
  unfold mean2
  simp only [← e]
  unfold val_main_v40 val_main_v39 val_main_cst_5 val_main_v38 val_main_v37 val_main_cst_4 val_main_v36 val_main_v35 val_main_cst_3 val_main_v34
  generalize val_main_v33 (F := Ideal) x0 x1 x3 x4 x5 x7 x8 = g
  pointwise

theorem v41_apply (r : Fin 2048) : val_main_v41 (F := Ideal) x0 x1 x3 x4 x5 x7 x8 (ix2 r (0 : Fin 1)) = FwdSpec.inv (FwdSpec.x2 (tokv x0 r) (tokv x1 r) (modv x3 x4) (vecv x5) (mat1 x7) (mat2 x8)) := by
  show _ = Ideal.rsqrt (mean2 x0 x1 x3 x4 x5 x7 x8 r)
  rw [← v40_apply]
  unfold val_main_v41
  generalize val_main_v40 (F := Ideal) x0 x1 x3 x4 x5 x7 x8 = g
  pointwise

theorem v46_apply (r : Fin 2048) (d : Fin 1024) : val_main_v46 (F := Ideal) x0 x1 x3 x4 x5 x7 x8 (ix2 r d) = FwdSpec.xn (tokv x0 r) (tokv x1 r) (modv x3 x4) (vecv x5) (mat1 x7) (mat2 x8) d := by
  unfold FwdSpec.xn
  rw [← v33_apply, ← v41_apply]
  unfold val_main_v46 val_main_v45
  generalize val_main_v33 (F := Ideal) x0 x1 x3 x4 x5 x7 x8 = g
  generalize val_main_v41 (F := Ideal) x0 x1 x3 x4 x5 x7 x8 = g'
  pointwise

theorem v49_apply (r : Fin 2048) (d : Fin 1024) : val_main_v49 (F := Ideal) x0 x1 x2 x3 x4 x5 x6 x7 x8 (ix2 r d) = FwdSpec.diff (tokv x0 r) (tokv x1 r) (tokv x2 r) (modv x3 x4) (vecv x5) (vecv x6) (mat1 x7) (mat2 x8) d := by
  unfold FwdSpec.diff
  rw [← v46_apply]
  unfold val_main_v49 val_main_v48 val_main_v47
  generalize val_main_v46 (F := Ideal) x0 x1 x3 x4 x5 x7 x8 = g
  pointwise

theorem v63_apply (r : Fin 2048) (d : Fin 1024) : val_main_v63 (F := Ideal) x0 x1 x2 x3 x4 x5 x6 x7 x8 (ix2 r d) = FwdSpec.dy (tokv x0 r) (tokv x1 r) (tokv x2 r) (modv x3 x4) (vecv x5) (vecv x6) (mat1 x7) (mat2 x8) d := by
  have h : val_main_v63 (F := Ideal) x0 x1 x2 x3 x4 x5 x6 x7 x8 (ix2 r d) = Ideal.div (half * one) wid * (two * val_main_v49 (F := Ideal) x0 x1 x2 x3 x4 x5 x6 x7 x8 (ix2 r d)) := by
    unfold val_main_v63 val_main_v62 val_main_v61 val_main_v60 val_main_cst_14 val_main_v59 val_main_v58 val_main_cst_12 val_main_cst_13 val_main_v52 val_main_v51 val_main_cst_7
    generalize val_main_v49 (F := Ideal) x0 x1 x2 x3 x4 x5 x6 x7 x8 = g
    pointwise
  rw [h, v49_apply, FwdSpec.one_eq]
  exact FwdSpec.dy_eq _

theorem v68_apply (r : Fin 2048) (d : Fin 1024) : val_main_v68 (F := Ideal) x0 x1 x2 x3 x4 x5 x6 x7 x8 (ix2 r d) = FwdSpec.dyn (tokv x0 r) (tokv x1 r) (tokv x2 r) (modv x3 x4) (vecv x5) (vecv x6) (mat1 x7) (mat2 x8) d := by
  unfold FwdSpec.dyn
  rw [← v63_apply]
  unfold val_main_v68 val_main_v67
  generalize val_main_v63 (F := Ideal) x0 x1 x2 x3 x4 x5 x6 x7 x8 = g
  pointwise

/-- The gradient with respect to the last norm's mean of squares, over the width. -/
abbrev qv (r : Fin 2048) : EReal :=
  Ideal.div ((∑ e, FwdSpec.x2 (tokv x0 r) (tokv x1 r) (modv x3 x4) (vecv x5) (mat1 x7) (mat2 x8) e * FwdSpec.dyn (tokv x0 r) (tokv x1 r) (tokv x2 r) (modv x3 x4) (vecv x5) (vecv x6) (mat1 x7) (mat2 x8) e)
    * (nhalf * Ideal.div (FwdSpec.inv (FwdSpec.x2 (tokv x0 r) (tokv x1 r) (modv x3 x4) (vecv x5) (mat1 x7) (mat2 x8))) (mean2 x0 x1 x3 x4 x5 x7 x8 r))) wid

theorem v78_apply (r : Fin 2048) (d : Fin 1024) : val_main_v78 (F := Ideal) x0 x1 x2 x3 x4 x5 x6 x7 x8 (ix2 r d) = qv x0 x1 x2 x3 x4 x5 x6 x7 x8 r := by
  have e : ∀ d, val_main_v33 (F := Ideal) x0 x1 x3 x4 x5 x7 x8 (ix2 r d) = FwdSpec.x2 (tokv x0 r) (tokv x1 r) (modv x3 x4) (vecv x5) (mat1 x7) (mat2 x8) d := fun d => v33_apply x0 x1 x3 x4 x5 x7 x8 r d
  have e' : ∀ d, val_main_v68 (F := Ideal) x0 x1 x2 x3 x4 x5 x6 x7 x8 (ix2 r d) = FwdSpec.dyn (tokv x0 r) (tokv x1 r) (tokv x2 r) (modv x3 x4) (vecv x5) (vecv x6) (mat1 x7) (mat2 x8) d := fun d => v68_apply x0 x1 x2 x3 x4 x5 x6 x7 x8 r d
  unfold qv
  rw [← v40_apply, ← v41_apply]
  simp only [← e, ← e']
  unfold val_main_v78 val_main_v77 val_main_cst_18 val_main_v76 val_main_v75 val_main_cst_17 val_main_v74 val_main_v71 val_main_v70 val_main_cst_16 val_main_v69 val_main_v44 val_main_v43 val_main_cst_6 val_main_v42
  generalize val_main_v33 (F := Ideal) x0 x1 x3 x4 x5 x7 x8 = g
  generalize val_main_v68 (F := Ideal) x0 x1 x2 x3 x4 x5 x6 x7 x8 = g'
  generalize val_main_v40 (F := Ideal) x0 x1 x3 x4 x5 x7 x8 = u
  generalize val_main_v41 (F := Ideal) x0 x1 x3 x4 x5 x7 x8 = u'
  pointwise
  exact Fin.sum_univ_one _

theorem v82_apply (r : Fin 2048) (d : Fin 1024) : val_main_v82 (F := Ideal) x0 x1 x2 x3 x4 x5 x6 x7 x8 (ix2 r d) = FwdSpec.dx (tokv x0 r) (tokv x1 r) (tokv x2 r) (modv x3 x4) (vecv x5) (vecv x6) (mat1 x7) (mat2 x8) d := by
  refine Eq.trans ?_ (FwdSpec.norm_grad (FwdSpec.x2 (tokv x0 r) (tokv x1 r) (modv x3 x4) (vecv x5) (mat1 x7) (mat2 x8)) (FwdSpec.dyn (tokv x0 r) (tokv x1 r) (tokv x2 r) (modv x3 x4) (vecv x5) (vecv x6) (mat1 x7) (mat2 x8)) d)
  show _ = _ + _ * qv x0 x1 x2 x3 x4 x5 x6 x7 x8 r + qv x0 x1 x2 x3 x4 x5 x6 x7 x8 r * _
  rw [← v33_apply, ← v68_apply, ← v41_apply, ← v78_apply x0 x1 x2 x3 x4 x5 x6 x7 x8 r d]
  unfold val_main_v82 val_main_v81 val_main_v80 val_main_v79 val_main_v73 val_main_v72
  generalize val_main_v33 (F := Ideal) x0 x1 x3 x4 x5 x7 x8 = g
  generalize val_main_v68 (F := Ideal) x0 x1 x2 x3 x4 x5 x6 x7 x8 = g'
  generalize val_main_v78 (F := Ideal) x0 x1 x2 x3 x4 x5 x6 x7 x8 = u
  generalize val_main_v41 (F := Ideal) x0 x1 x3 x4 x5 x7 x8 = u'
  pointwise

theorem v92_apply (r : Fin 2048) (d : Fin 1024) : val_main_v92 (F := Ideal) x0 x1 x2 x3 x4 x5 x6 x7 x8 (ix2 r d) = FwdSpec.dz (tokv x0 r) (tokv x1 r) (tokv x2 r) (modv x3 x4) (vecv x5) (vecv x6) (mat1 x7) (mat2 x8) d := by
  unfold FwdSpec.dz
  rw [← v82_apply]
  unfold val_main_v92 val_main_v84 val_main_v83 val_main_v5 val_main_v1 val_main_v0
  generalize val_main_v82 (F := Ideal) x0 x1 x2 x3 x4 x5 x6 x7 x8 = g
  pointwise

theorem v87_apply (d : Fin 1024) : val_main_v87 (F := Ideal) x0 x1 x2 x3 x4 x5 x6 x7 x8 (ix2 (0 : Fin 1) d)
    = ∑ r : Fin 2048, FwdSpec.dx (tokv x0 r) (tokv x1 r) (tokv x2 r) (modv x3 x4) (vecv x5) (vecv x6) (mat1 x7) (mat2 x8) d * FwdSpec.z (tokv x0 r) (tokv x1 r) (modv x3 x4) (vecv x5) (mat1 x7) (mat2 x8) d := by
  have e : ∀ r, val_main_v82 (F := Ideal) x0 x1 x2 x3 x4 x5 x6 x7 x8 (ix2 r d) = FwdSpec.dx (tokv x0 r) (tokv x1 r) (tokv x2 r) (modv x3 x4) (vecv x5) (vecv x6) (mat1 x7) (mat2 x8) d := fun r => v82_apply x0 x1 x2 x3 x4 x5 x6 x7 x8 r d
  have e' : ∀ r, val_main_v30 (F := Ideal) x0 x1 x3 x4 x5 x7 x8 (ix2 r d) = FwdSpec.z (tokv x0 r) (tokv x1 r) (modv x3 x4) (vecv x5) (mat1 x7) (mat2 x8) d := fun r => v30_apply x0 x1 x3 x4 x5 x7 x8 r d
  simp only [← e, ← e']
  unfold val_main_v87 val_main_v86 val_main_cst_19 val_main_v85
  generalize val_main_v82 (F := Ideal) x0 x1 x2 x3 x4 x5 x6 x7 x8 = g
  generalize val_main_v30 (F := Ideal) x0 x1 x3 x4 x5 x7 x8 = g'
  pointwise

theorem v66_apply (d : Fin 1024) : val_main_v66 (F := Ideal) x0 x1 x2 x3 x4 x5 x6 x7 x8 (ix2 (0 : Fin 1) d)
    = ∑ r : Fin 2048, FwdSpec.dy (tokv x0 r) (tokv x1 r) (tokv x2 r) (modv x3 x4) (vecv x5) (vecv x6) (mat1 x7) (mat2 x8) d * FwdSpec.xn (tokv x0 r) (tokv x1 r) (modv x3 x4) (vecv x5) (mat1 x7) (mat2 x8) d := by
  have e : ∀ r, val_main_v63 (F := Ideal) x0 x1 x2 x3 x4 x5 x6 x7 x8 (ix2 r d) = FwdSpec.dy (tokv x0 r) (tokv x1 r) (tokv x2 r) (modv x3 x4) (vecv x5) (vecv x6) (mat1 x7) (mat2 x8) d := fun r => v63_apply x0 x1 x2 x3 x4 x5 x6 x7 x8 r d
  have e' : ∀ r, val_main_v46 (F := Ideal) x0 x1 x3 x4 x5 x7 x8 (ix2 r d) = FwdSpec.xn (tokv x0 r) (tokv x1 r) (modv x3 x4) (vecv x5) (mat1 x7) (mat2 x8) d := fun r => v46_apply x0 x1 x3 x4 x5 x7 x8 r d
  simp only [← e, ← e']
  simp only [mul_comm (val_main_v63 (F := Ideal) x0 x1 x2 x3 x4 x5 x6 x7 x8 _)]
  unfold val_main_v66 val_main_v65 val_main_cst_15 val_main_v64
  generalize val_main_v63 (F := Ideal) x0 x1 x2 x3 x4 x5 x6 x7 x8 = g
  generalize val_main_v46 (F := Ideal) x0 x1 x3 x4 x5 x7 x8 = g'
  pointwise

theorem v89_zero (d : Fin 1024) : val_main_v89 (F := Ideal) x0 x1 x2 x3 x4 x5 x6 x7 x8 (ix2 (0 : Fin 8) d) = val_main_v87 (F := Ideal) x0 x1 x2 x3 x4 x5 x6 x7 x8 (ix2 (0 : Fin 1) d) := by
  unfold val_main_v89
  generalize val_main_v87 (F := Ideal) x0 x1 x2 x3 x4 x5 x6 x7 x8 = g
  generalize val_main_v66 (F := Ideal) x0 x1 x2 x3 x4 x5 x6 x7 x8 = g'
  pointwise

theorem v89_one (d : Fin 1024) : val_main_v89 (F := Ideal) x0 x1 x2 x3 x4 x5 x6 x7 x8 (ix2 (1 : Fin 8) d) = val_main_v66 (F := Ideal) x0 x1 x2 x3 x4 x5 x6 x7 x8 (ix2 (0 : Fin 1) d) := by
  unfold val_main_v89
  generalize val_main_v87 (F := Ideal) x0 x1 x2 x3 x4 x5 x6 x7 x8 = g
  generalize val_main_v66 (F := Ideal) x0 x1 x2 x3 x4 x5 x6 x7 x8 = g'
  pointwise

theorem v89_rest (k : Fin 6) (d : Fin 1024) : val_main_v89 (F := Ideal) x0 x1 x2 x3 x4 x5 x6 x7 x8 (ix2 (⟨k.val + 2, by omega⟩ : Fin 8) d) = 0 := by
  unfold val_main_v89 val_main_v88 val_main_cst_20
  generalize val_main_v87 (F := Ideal) x0 x1 x2 x3 x4 x5 x6 x7 x8 = g
  generalize val_main_v66 (F := Ideal) x0 x1 x2 x3 x4 x5 x6 x7 x8 = g'
  pointwise
  rw [dif_neg (by omega), dif_neg (by omega)]

theorem v93_apply (i : Fin 8) (k : Fin 128) : val_main_v93 (F := Ideal) x0 x1 x2 x3 x4 x5 x6 x7 x8 (ix2 i k)
    = half * ∑ r : Fin 2048, Ideal.div (∑ d, FwdSpec.diff (tokv x0 r) (tokv x1 r) (tokv x2 r) (modv x3 x4) (vecv x5) (vecv x6) (mat1 x7) (mat2 x8) d * FwdSpec.diff (tokv x0 r) (tokv x1 r) (tokv x2 r) (modv x3 x4) (vecv x5) (vecv x6) (mat1 x7) (mat2 x8) d) wid := by
  have e : ∀ r d, val_main_v49 (F := Ideal) x0 x1 x2 x3 x4 x5 x6 x7 x8 (ix2 r d) = FwdSpec.diff (tokv x0 r) (tokv x1 r) (tokv x2 r) (modv x3 x4) (vecv x5) (vecv x6) (mat1 x7) (mat2 x8) d := fun r d => v49_apply x0 x1 x2 x3 x4 x5 x6 x7 x8 r d
  simp only [← e]
  unfold val_main_v93 val_main_v57 val_main_cst_11 val_main_v56 val_main_cst_10 val_main_v55 val_main_v54 val_main_cst_9 val_main_v53 val_main_cst_8 val_main_v50
  generalize val_main_v49 (F := Ideal) x0 x1 x2 x3 x4 x5 x6 x7 x8 = g
  pointwise

end Cert.Reference6Ideal.Fwd
-- ==== Proof.FwdSame.lean ====
/- The forward MLP kernel's program and its ideal program have the same text: their body tables and entry points are equal. -/
module

public import proofs.«01_k».proof.Defs
public import proofs.«01_k».proof.Proof.Gen.Kernel6
public import proofs.«01_k».proof.Proof.Gen.Kernel6Ideal

@[expose] public section

set_option maxRecDepth 65536
set_option maxHeartbeats 4000000

noncomputable section

namespace Cert.Same6

open Idealize.ShloMosaic Idealize.SL.Sem

/-- The two bodies of the forward MLP kernel are one function. -/
theorem body_eq : @Cert.Kernel6.cc0_mlp_fwd Bits _ Cert.Kernel6.Gen.facts
    = @Cert.Kernel6Ideal.cc0_mlp_fwd Bits _ Cert.Kernel6Ideal.Gen.facts := rfl

theorem defs₀_eq : @Cert.Kernel6.defs₀ Bits _ Cert.Kernel6.Gen.facts = @Cert.Kernel6Ideal.defs₀ Bits _ Cert.Kernel6Ideal.Gen.facts := by
  unfold Cert.Kernel6.defs₀ Cert.Kernel6Ideal.defs₀
  rw [body_eq]
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel6.defs Bits _ Cert.Kernel6.Gen.facts = @Cert.Kernel6Ideal.defs Bits _ Cert.Kernel6Ideal.Gen.facts := by
  unfold Cert.Kernel6.defs Cert.Kernel6Ideal.defs
  rw [defs₀_eq]
  rfl

theorem main_eq : @Cert.Kernel6.main Bits _ Cert.Kernel6.Gen.facts = @Cert.Kernel6Ideal.main Bits _ Cert.Kernel6Ideal.Gen.facts := rfl

end Cert.Same6

end
-- ==== Proof.FwdClaim.lean ====
/-
  The forward MLP's claims: the frames, and that over the extended reals the kernel's six results are the reference's.
-/
module

public import proofs.«01_k».proof.Proof.FwdBlocks
public import proofs.«01_k».proof.Proof.FwdRef
public import proofs.«01_k».proof.Proof.FwdSame

@[expose] public section

set_option maxRecDepth 16384

noncomputable section

namespace Cert.FwdClaim

open Idealize.ShloMosaic Idealize.ShloMosaic.TcCoe Idealize.SL.Sem
open Cert.FwdSpec (tok)

set_option maxHeartbeats 8000000 in
set_option maxRecDepth 65536 in
/-- The kernel's frame: the ideal program's run, read at the TPU's own bits. -/
theorem frame_kernel6 : Cert.quiescent_Kernel6 (hKernel6 := Cert.Kernel6.Gen.facts) := fun m ρ _ => by
  rw [Cert.Same6.defs_eq, Cert.Same6.main_eq]
  exact Cert.Kernel6Ideal.Fwd.frame (F := Bits) m ρ

theorem frame_kernel6Ideal : Cert.quiescent_Kernel6Ideal (hKernel6Ideal := Cert.Kernel6Ideal.Gen.facts) := fun m ρ _ =>
  Cert.Kernel6Ideal.Fwd.frame (F := Ideal) m ρ

theorem frame_reference6Ideal : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- A token's index, by its block and its row in the block. -/
theorem tok_div (r : Fin 2048) : r = tok ⟨r.val / 256, by omega⟩ ⟨r.val % 256, by omega⟩ :=
  Fin.ext (by show r.val = r.val / 256 * 256 + r.val % 256; omega)

theorem ix2_tok (n1 : ℕ) (i : (⟨2, ![2048, n1]⟩ : Shape).Idx) :
    i = ix2 (n0 := 2048) (n1 := n1) (tok ⟨(i 0).val / 256, by have h : (i 0).val < 2048 := (i 0).isLt; omega⟩ ⟨(i 0).val % 256, by omega⟩) (i 1) := by
  funext a
  match a with
  | ⟨0, _⟩ => exact Fin.ext (by show (i 0).val = (i 0).val / 256 * 256 + (i 0).val % 256; omega)
  | ⟨1, _⟩ => rfl
  | ⟨n + 2, hn⟩ => exact absurd (show n + 2 < 2 from hn) (by omega)

theorem ix2_self (n0 n1 : ℕ) (i : (⟨2, ![n0, n1]⟩ : Shape).Idx) : i = ix2 (n0 := n0) (n1 := n1) (i 0) (i 1) := by
  funext a
  match a with
  | ⟨0, _⟩ => rfl
  | ⟨1, _⟩ => rfl
  | ⟨n + 2, hn⟩ => exact absurd (show n + 2 < 2 from hn) (by omega)

open Cert.Kernel6Ideal Cert.Kernel6Ideal.Gen Cert.Kernel6Ideal.Fwd in
/-- The six result arrays after the run, with the windows' contents. -/
theorem outs_of (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v5_0) = (dats m 0 c).arrAt 7 cfg0.N
      ∧ r.2.mem ((c.tc : Thread nD τ).loc main_v5_1) = (dats m 0 c).arrAt 8 cfg0.N
      ∧ r.2.mem ((c.tc : Thread nD τ).loc main_v5_2) = (dats m 0 c).arrAt 9 cfg0.N
      ∧ r.2.mem ((c.tc : Thread nD τ).loc main_v5_3) = (dats m 0 c).arrAt 10 cfg0.N
      ∧ r.2.mem ((c.tc : Thread nD τ).loc main_v5_4) = (dats m 0 c).arrAt 11 cfg0.N
      ∧ r.2.mem ((c.tc : Thread nD τ).loc main_v5_5) = (dats m 0 c).arrAt 12 cfg0.N :=
  ⟨(h c).1 7, (h c).1 8, (h c).1 9, (h c).1 10, (h c).1 11, (h c).1 12⟩

open Cert.Reference6Ideal Cert.Reference6Ideal.Read Cert.Reference6Ideal.Gen in
/-- The reference's run, with its results as the stages of its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91) = val_main_v91 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v27) = val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, h5, h6⟩ := h c
    refine ⟨h0.trans ?_, h1.trans ?_, h2.trans ?_, h3.trans ?_, h4.trans ?_, h5.trans ?_, h6⟩
    · exact (val_main_v91_eq (StableHlo.launchContents m c)).trans (by simp only [StableHlo.launchContents_devRef])
    · exact (val_main_v27_eq (StableHlo.launchContents m c)).trans (by simp only [StableHlo.launchContents_devRef])
    · exact (val_main_v82_eq (StableHlo.launchContents m c)).trans (by simp only [StableHlo.launchContents_devRef])
    · exact (val_main_v92_eq (StableHlo.launchContents m c)).trans (by simp only [StableHlo.launchContents_devRef])
    · exact (val_main_v89_eq (StableHlo.launchContents m c)).trans (by simp only [StableHlo.launchContents_devRef])
    · exact (val_main_v93_eq (StableHlo.launchContents m c)).trans (by simp only [StableHlo.launchContents_devRef]))
    (Value.run (F := Ideal) m ρ)

open Cert.Reference6Ideal.Read Cert.Reference6Ideal.Gen in
/-- The sums' array, row by row. -/
theorem vec_eq (m : (ℓ : Loc Cert.Kernel6Ideal.nD Cert.Kernel6Ideal.τ Cert.Kernel6Ideal.sig) → Buf (Elt Ideal) ℓ) (c : Dev Cert.Kernel6Ideal.nD) (k : Fin 8) (d : Fin 1024) :
    Cert.Kernel6Ideal.Fwd.acc11 m c 7 (ix2 k d) = val_main_v89 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (ix2 k d) := by
  rcases Nat.lt_or_ge k.val 2 with hk | hk
  · rcases (by omega : k.val = 0 ∨ k.val = 1) with hk | hk
    · rw [show k = (0 : Fin 8) from Fin.ext hk]
      refine (Cert.Kernel6Ideal.Fwd.acc11_zero m c d).trans (((Cert.Reference6Ideal.Fwd.v89_zero _ _ _ _ _ _ _ _ _ d).trans ((Cert.Reference6Ideal.Fwd.v87_apply _ _ _ _ _ _ _ _ _ d).trans ?_)).symm)
      exact FwdSpec.sum_tok _
    · rw [show k = (1 : Fin 8) from Fin.ext hk]
      refine (Cert.Kernel6Ideal.Fwd.acc11_one m c d).trans (((Cert.Reference6Ideal.Fwd.v89_one _ _ _ _ _ _ _ _ _ d).trans ((Cert.Reference6Ideal.Fwd.v66_apply _ _ _ _ _ _ _ _ _ d).trans ?_)).symm)
      exact FwdSpec.sum_tok _
  · have hk8 : k.val < 8 := k.isLt
    rw [Cert.Kernel6Ideal.Fwd.acc11_rest m c k hk d 7, show k = (⟨(⟨k.val - 2, by omega⟩ : Fin 6).val + 2, by show k.val - 2 + 2 < 8; omega⟩ : Fin 8) from Fin.ext (by show k.val = k.val - 2 + 2; omega)]
    exact (Cert.Reference6Ideal.Fwd.v89_rest _ _ _ _ _ _ _ _ _ _ d).symm

set_option maxHeartbeats 2000000 in
open Cert.Reference6Ideal.Read Cert.Reference6Ideal.Gen in
/-- Over the extended reals the kernel's six results are the reference's. -/
theorem algebraic : Cert.algebraic_Kernel6Ideal_Reference6Ideal (hKernel6Ideal := Cert.Kernel6Ideal.Gen.facts) (hReference6Ideal := Cert.Reference6Ideal.Gen.facts) := by
  intro m ρ m' ρ' _ hm
  refine ⟨fun c => val_main_v91 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)),
    fun c => val_main_v27 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg7)),
    fun c => val_main_v82 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    fun c => val_main_v92 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    fun c => val_main_v89 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    fun c => val_main_v93 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    ?_, ?_⟩
  · refine (θ_run Cert.Kernel6Ideal.defs _ _).mono (fun r h c => ?_) (Cert.Kernel6Ideal.Fwd.run_main (F := Ideal) m ρ)
    obtain ⟨h0, h1, h2, h3, h4, h5⟩ := outs_of m r h.1 c
    refine ⟨h0.trans (funext fun i => ?_), h1.trans (funext fun i => ?_), h2.trans (funext fun i => ?_), h3.trans (funext fun i => ?_), h4.trans (funext fun i => ?_), h5.trans (funext fun i => ?_), Cert.Kernel6Ideal.Fwd.args_of m r h.1 c⟩
    · have e : i = ix2 (n0 := 1024) (n1 := 2048) (i 0) (tok ⟨(i 1).val / 256, by have h : (i 1).val < 2048 := (i 1).isLt; omega⟩ ⟨(i 1).val % 256, by omega⟩) := by
        funext a
        match a with
        | ⟨0, _⟩ => rfl
        | ⟨1, _⟩ => exact Fin.ext (by show (i 1).val = (i 1).val / 256 * 256 + (i 1).val % 256; omega)
        | ⟨n + 2, hn⟩ => exact absurd (show n + 2 < 2 from hn) (by omega)
      rw [e]
      exact (Cert.Kernel6Ideal.Fwd.arr_7 m c _ _ _).trans (Cert.Reference6Ideal.Fwd.v91_apply _ _ _ _ _ _ _).symm
    · rw [ix2_tok 4096 i]
      exact (Cert.Kernel6Ideal.Fwd.arr_8 m c _ _ _).trans (Cert.Reference6Ideal.Fwd.v27_apply _ _ _ _ _ _ _ _).symm
    · rw [ix2_tok 1024 i]
      exact (Cert.Kernel6Ideal.Fwd.arr_9 m c _ _ _).trans (Cert.Reference6Ideal.Fwd.v82_apply _ _ _ _ _ _ _ _ _ _ _).symm
    · rw [ix2_tok 1024 i]
      exact (Cert.Kernel6Ideal.Fwd.arr_10 m c _ _ _).trans (Cert.Reference6Ideal.Fwd.v92_apply _ _ _ _ _ _ _ _ _ _ _).symm
    · have e := ix2_self 8 1024 i
      rw [e]
      exact (Cert.Kernel6Ideal.Fwd.arr_11 m c _ _).trans (vec_eq m c _ _)
    · have e := ix2_self 8 128 i
      rw [e]
      refine (Cert.Kernel6Ideal.Fwd.arr_12 m c _ _).trans ((Cert.Kernel6Ideal.Fwd.acc12_eq m c _ _).trans ((Cert.Reference6Ideal.Fwd.v93_apply _ _ _ _ _ _ _ _ _ _ _).trans ?_).symm)
      exact FwdSpec.loss_eq _
  · refine (θ_run Cert.Reference6Ideal.defs _ _).mono (fun r h c => ?_) (ref_run m' ρ')
    obtain ⟨a0, a1, a2, a3, a4, a5, a6, a7, a8⟩ := hm c
    obtain ⟨h0, h1, h2, h3, h4, h5, h6⟩ := h c
    refine And.intro ?_ (And.intro ?_ (And.intro ?_ (And.intro ?_ (And.intro ?_ (And.intro ?_ h6)))))
    · show _ = val_main_v91 (F := Ideal) _ _ _ _ _
      exact h0.trans (by rw [a0, a1, a3, a4, a5])
    · show _ = val_main_v27 (F := Ideal) _ _ _ _ _ _
      exact h1.trans (by rw [a0, a1, a3, a4, a5, a7])
    · show _ = val_main_v82 (F := Ideal) _ _ _ _ _ _ _ _ _
      exact h2.trans (by rw [a0, a1, a2, a3, a4, a5, a6, a7, a8])
    · show _ = val_main_v92 (F := Ideal) _ _ _ _ _ _ _ _ _
      exact h3.trans (by rw [a0, a1, a2, a3, a4, a5, a6, a7, a8])
    · show _ = val_main_v89 (F := Ideal) _ _ _ _ _ _ _ _ _
      exact h4.trans (by rw [a0, a1, a2, a3, a4, a5, a6, a7, a8])
    · show _ = val_main_v93 (F := Ideal) _ _ _ _ _ _ _ _ _
      exact h5.trans (by rw [a0, a1, a2, a3, a4, a5, a6, a7, a8])

end Cert.FwdClaim

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.HandFrame
public import proofs.«01_k».proof.Proof.Same
public import proofs.«01_k».proof.Proof.MlpClaim
public import proofs.«01_k».proof.Proof.Mlp2Claim
public import proofs.«01_k».proof.Proof.WgradIn
public import proofs.«01_k».proof.Proof.WgradOut
public import proofs.«01_k».proof.Proof.FwdClaim

@[expose] public section

noncomputable section

namespace Cert.Proof

open Idealize.ShloMosaic Idealize.SL.Sem Cert.Kernel

set_option maxHeartbeats 8000000 in
set_option maxRecDepth 65536 in
/-- The kernel's frame: the ideal program's run, read at the TPU's own bits. -/
theorem frame_kernel : Cert.quiescent_Kernel := fun m ρ _ => by
  rw [Cert.Same.defs_eq, Cert.Same.main_eq]
  exact Cert.KernelIdeal.Hand.frame_main (F := Bits) m ρ

theorem frame_kernelIdeal : Cert.quiescent_KernelIdeal := fun m ρ _ =>
  Cert.KernelIdeal.Hand.frame_main (F := Ideal) m ρ

theorem claim : Cert.Claim := ⟨Cert.Kernel.Gen.facts, Cert.KernelIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, frame_kernel, frame_kernelIdeal,
  Cert.MlpClaim.frame_kernel2, Cert.MlpClaim.frame_kernel2Ideal, Cert.MlpClaim.frame_reference2Ideal,
  Cert.Mlp2Claim.frame_kernel3, Cert.Mlp2Claim.frame_kernel3Ideal, Cert.Mlp2Claim.frame_reference3Ideal,
  Cert.WgradIn.frame_kernel4, Cert.WgradIn.frame_kernel4Ideal, Cert.WgradIn.frame_reference4Ideal,
  Cert.WgradOut.frame_kernel5, Cert.WgradOut.frame_kernel5Ideal, Cert.WgradOut.frame_reference5Ideal,
  Cert.FwdClaim.frame_kernel6, Cert.FwdClaim.frame_kernel6Ideal, Cert.FwdClaim.frame_reference6Ideal,
  trivial, trivial, Cert.MlpClaim.algebraic, trivial, Cert.Mlp2Claim.algebraic, trivial, Cert.WgradIn.algebraic, trivial,
  Cert.WgradOut.algebraic, trivial, Cert.FwdClaim.algebraic⟩

end Cert.Proof

end
